-- ==== Defs.lean ====
def Pre_Kernel [hPre_placed : Cert.Pre_placed.Facts] (m : (ℓ : Loc Cert.Kernel.nD Cert.Kernel.τ Cert.Kernel.sig) → Buf (Elt Bits) ℓ) : Prop :=
  ∀ c : Dev Cert.Kernel.nD,
    (Cert.Pre_placed.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_placed : Cert.Pre_placed.Facts] (m : (ℓ : Loc Cert.KernelIdeal.nD Cert.KernelIdeal.τ Cert.KernelIdeal.sig) → Buf (Elt Ideal) ℓ) : Prop :=
  ∀ c : Dev Cert.KernelIdeal.nD,
    (Cert.Pre_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_placed [hPre_placed : Cert.Pre_placed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_placed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_placed : Cert.Pre_placed.Facts] (m : (ℓ : Loc Cert.Reference.nD Cert.Reference.τ Cert.Reference.sig) → Buf (Elt Bits) ℓ) : Prop :=
  ∀ c : Dev Cert.Reference.nD,
    (Cert.Pre_placed.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Experts [hPre_tiled : Cert.Pre_tiled.Facts] (m : (ℓ : Loc Cert.Experts.nD Cert.Experts.τ Cert.Experts.sig) → Buf (Elt Bits) ℓ) : Prop :=
  ∀ c : Dev Cert.Experts.nD,
    (Cert.Pre_tiled.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tiled : Cert.Pre_tiled.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiled.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tiled [hPre_tiled : Cert.Pre_tiled.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tiled.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Combine [hPre_in_range : Cert.Pre_in_range.Facts] (m : (ℓ : Loc Cert.Combine.nD Cert.Combine.τ Cert.Combine.sig) → Buf (Elt Bits) ℓ) : Prop :=
  ∀ c : Dev Cert.Combine.nD,
    (Cert.Pre_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3))) = (fun _ => 1#1)

def Pre_CombineIdeal [hPre_in_range : Cert.Pre_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_in_range [hPre_in_range : Cert.Pre_in_range.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_in_range.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendReferenceIdeal (m : (ℓ : Loc Cert.AttendReferenceIdeal.nD Cert.AttendReferenceIdeal.τ Cert.AttendReferenceIdeal.sig) → Buf (Elt Ideal) ℓ) : Prop :=
  True

def quiescent_Kernel [hKernel : Cert.Kernel.Facts] [hPre_placed : Cert.Pre_placed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_placed : Cert.Pre_placed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_placed [hReferenceIdeal : Cert.ReferenceIdeal.Facts] [hPre_placed : Cert.Pre_placed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_placed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_placed : Cert.Pre_placed.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Experts [hExperts : Cert.Experts.Facts] [hPre_tiled : Cert.Pre_tiled.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tiled : Cert.Pre_tiled.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_tiled [hExpertsReferenceIdeal : Cert.ExpertsReferenceIdeal.Facts] [hPre_tiled : Cert.Pre_tiled.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tiled m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Combine [hCombine : Cert.Combine.Facts] [hPre_in_range : Cert.Pre_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] [hPre_in_range : Cert.Pre_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_CombineReferenceIdeal_pre_in_range [hCombineReferenceIdeal : Cert.CombineReferenceIdeal.Facts] [hPre_in_range : Cert.Pre_in_range.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_in_range m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_placed : Cert.Pre_placed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_placed : Cert.Pre_placed.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tiled : Cert.Pre_tiled.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v28) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Combine_CombineIdeal : Prop :=
  True

def algebraic_CombineIdeal_CombineReferenceIdeal [hCombineIdeal : Cert.CombineIdeal.Facts] [hCombineReferenceIdeal : Cert.CombineReferenceIdeal.Facts] [hPre_in_range : Cert.Pre_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v20) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v16_0)) (v1 : (c : Dev Cert.ProjectIdeal.nD) → Buf (Elt Ideal) ((c.tc : Thread Cert.ProjectIdeal.nD Cert.ProjectIdeal.τ).loc Cert.ProjectIdeal.main_v16_1)) (v2 : (c : Dev Cert.ProjectIdeal.nD) → Buf (Elt Ideal) ((c.tc : Thread Cert.ProjectIdeal.nD Cert.ProjectIdeal.τ).loc Cert.ProjectIdeal.main_v16_2)) (v3 : (c : Dev Cert.ProjectIdeal.nD) → Buf (Elt Ideal) ((c.tc : Thread Cert.ProjectIdeal.nD Cert.ProjectIdeal.τ).loc Cert.ProjectIdeal.main_v16_3)) (v4 : (c : Dev Cert.ProjectIdeal.nD) → Buf (Elt Ideal) ((c.tc : Thread Cert.ProjectIdeal.nD Cert.ProjectIdeal.τ).loc Cert.ProjectIdeal.main_v16_4)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v16_0) = v0 c
          ∧ r.2.mem ((c.tc : Thread Cert.ProjectIdeal.nD Cert.ProjectIdeal.τ).loc Cert.ProjectIdeal.main_v16_1) = v1 c
          ∧ r.2.mem ((c.tc : Thread Cert.ProjectIdeal.nD Cert.ProjectIdeal.τ).loc Cert.ProjectIdeal.main_v16_2) = v2 c
          ∧ r.2.mem ((c.tc : Thread Cert.ProjectIdeal.nD Cert.ProjectIdeal.τ).loc Cert.ProjectIdeal.main_v16_3) = v3 c
          ∧ r.2.mem ((c.tc : Thread Cert.ProjectIdeal.nD Cert.ProjectIdeal.τ).loc Cert.ProjectIdeal.main_v16_4) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v18) = v0 c
          ∧ r.2.mem ((c.tc : Thread Cert.ProjectReferenceIdeal.nD Cert.ProjectReferenceIdeal.τ).loc Cert.ProjectReferenceIdeal.main_v22) = v1 c
          ∧ r.2.mem ((c.tc : Thread Cert.ProjectReferenceIdeal.nD Cert.ProjectReferenceIdeal.τ).loc Cert.ProjectReferenceIdeal.main_v24) = v2 c
          ∧ r.2.mem ((c.tc : Thread Cert.ProjectReferenceIdeal.nD Cert.ProjectReferenceIdeal.τ).loc Cert.ProjectReferenceIdeal.main_v31) = v3 c
          ∧ r.2.mem ((c.tc : Thread Cert.ProjectReferenceIdeal.nD Cert.ProjectReferenceIdeal.τ).loc Cert.ProjectReferenceIdeal.main_v46) = v4 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def preserves_Attend_AttendIdeal : Prop :=
  True

def algebraic_AttendIdeal_AttendReferenceIdeal [hAttendIdeal : Cert.AttendIdeal.Facts] [hAttendReferenceIdeal : Cert.AttendReferenceIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)
      ∧ m' ((c.tc : Thread Cert.AttendReferenceIdeal.nD Cert.AttendReferenceIdeal.τ).loc Cert.AttendReferenceIdeal.main_arg4) = m ((c.tc : Thread Cert.AttendIdeal.nD Cert.AttendIdeal.τ).loc Cert.AttendIdeal.main_arg4)) →
    ∃ (v0 : (c : Dev Cert.AttendIdeal.nD) → Buf (Elt Ideal) ((c.tc : Thread Cert.AttendIdeal.nD Cert.AttendIdeal.τ).loc Cert.AttendIdeal.main_v41_0)) (v1 : (c : Dev Cert.AttendIdeal.nD) → Buf (Elt Ideal) ((c.tc : Thread Cert.AttendIdeal.nD Cert.AttendIdeal.τ).loc Cert.AttendIdeal.main_v41_1)) (v2 : (c : Dev Cert.AttendIdeal.nD) → Buf (Elt Ideal) ((c.tc : Thread Cert.AttendIdeal.nD Cert.AttendIdeal.τ).loc Cert.AttendIdeal.main_v41_2)) (v3 : (c : Dev Cert.AttendIdeal.nD) → Buf (Elt Ideal) ((c.tc : Thread Cert.AttendIdeal.nD Cert.AttendIdeal.τ).loc Cert.AttendIdeal.main_v41_3)) (v4 : (c : Dev Cert.AttendIdeal.nD) → Buf (Elt Ideal) ((c.tc : Thread Cert.AttendIdeal.nD Cert.AttendIdeal.τ).loc Cert.AttendIdeal.main_v41_4)) (v5 : (c : Dev Cert.AttendIdeal.nD) → Buf (Elt Ideal) ((c.tc : Thread Cert.AttendIdeal.nD Cert.AttendIdeal.τ).loc Cert.AttendIdeal.main_v41_5)) (v6 : (c : Dev Cert.AttendIdeal.nD) → Buf (Elt Ideal) ((c.tc : Thread Cert.AttendIdeal.nD Cert.AttendIdeal.τ).loc Cert.AttendIdeal.main_v41_6)) (v7 : (c : Dev Cert.AttendIdeal.nD) → Buf (Elt Ideal) ((c.tc : Thread Cert.AttendIdeal.nD Cert.AttendIdeal.τ).loc Cert.AttendIdeal.main_v41_7)) (v8 : (c : Dev Cert.AttendIdeal.nD) → Buf (Elt Ideal) ((c.tc : Thread Cert.AttendIdeal.nD Cert.AttendIdeal.τ).loc Cert.AttendIdeal.main_v41_8)) (v9 : (c : Dev Cert.AttendIdeal.nD) → Buf (Elt Ideal) ((c.tc : Thread Cert.AttendIdeal.nD Cert.AttendIdeal.τ).loc Cert.AttendIdeal.main_v41_9)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v41_0) = v0 c
          ∧ r.2.mem ((c.tc : Thread Cert.AttendIdeal.nD Cert.AttendIdeal.τ).loc Cert.AttendIdeal.main_v41_1) = v1 c
          ∧ r.2.mem ((c.tc : Thread Cert.AttendIdeal.nD Cert.AttendIdeal.τ).loc Cert.AttendIdeal.main_v41_2) = v2 c
          ∧ r.2.mem ((c.tc : Thread Cert.AttendIdeal.nD Cert.AttendIdeal.τ).loc Cert.AttendIdeal.main_v41_3) = v3 c
          ∧ r.2.mem ((c.tc : Thread Cert.AttendIdeal.nD Cert.AttendIdeal.τ).loc Cert.AttendIdeal.main_v41_4) = v4 c
          ∧ r.2.mem ((c.tc : Thread Cert.AttendIdeal.nD Cert.AttendIdeal.τ).loc Cert.AttendIdeal.main_v41_5) = v5 c
          ∧ r.2.mem ((c.tc : Thread Cert.AttendIdeal.nD Cert.AttendIdeal.τ).loc Cert.AttendIdeal.main_v41_6) = v6 c
          ∧ r.2.mem ((c.tc : Thread Cert.AttendIdeal.nD Cert.AttendIdeal.τ).loc Cert.AttendIdeal.main_v41_7) = v7 c
          ∧ r.2.mem ((c.tc : Thread Cert.AttendIdeal.nD Cert.AttendIdeal.τ).loc Cert.AttendIdeal.main_v41_8) = v8 c
          ∧ r.2.mem ((c.tc : Thread Cert.AttendIdeal.nD Cert.AttendIdeal.τ).loc Cert.AttendIdeal.main_v41_9) = v9 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v67) = v0 c
          ∧ r.2.mem ((c.tc : Thread Cert.AttendReferenceIdeal.nD Cert.AttendReferenceIdeal.τ).loc Cert.AttendReferenceIdeal.main_v64) = v1 c
          ∧ r.2.mem ((c.tc : Thread Cert.AttendReferenceIdeal.nD Cert.AttendReferenceIdeal.τ).loc Cert.AttendReferenceIdeal.main_v68) = v2 c
          ∧ r.2.mem ((c.tc : Thread Cert.AttendReferenceIdeal.nD Cert.AttendReferenceIdeal.τ).loc Cert.AttendReferenceIdeal.main_v69) = v3 c
          ∧ r.2.mem ((c.tc : Thread Cert.AttendReferenceIdeal.nD Cert.AttendReferenceIdeal.τ).loc Cert.AttendReferenceIdeal.main_v70) = v4 c
          ∧ r.2.mem ((c.tc : Thread Cert.AttendReferenceIdeal.nD Cert.AttendReferenceIdeal.τ).loc Cert.AttendReferenceIdeal.main_v71) = v5 c
          ∧ r.2.mem ((c.tc : Thread Cert.AttendReferenceIdeal.nD Cert.AttendReferenceIdeal.τ).loc Cert.AttendReferenceIdeal.main_v89) = v6 c
          ∧ r.2.mem ((c.tc : Thread Cert.AttendReferenceIdeal.nD Cert.AttendReferenceIdeal.τ).loc Cert.AttendReferenceIdeal.main_v93) = v7 c
          ∧ r.2.mem ((c.tc : Thread Cert.AttendReferenceIdeal.nD Cert.AttendReferenceIdeal.τ).loc Cert.AttendReferenceIdeal.main_v111) = v8 c
          ∧ r.2.mem ((c.tc : Thread Cert.AttendReferenceIdeal.nD Cert.AttendReferenceIdeal.τ).loc Cert.AttendReferenceIdeal.main_v115) = v9 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3)
          ∧ r.2.mem ((c.tc : Thread Cert.AttendReferenceIdeal.nD Cert.AttendReferenceIdeal.τ).loc Cert.AttendReferenceIdeal.main_arg4) = m' ((c.tc : Thread Cert.AttendReferenceIdeal.nD Cert.AttendReferenceIdeal.τ).loc Cert.AttendReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hExpertsReferenceIdeal : Cert.ExpertsReferenceIdeal.Facts) (hCombine : Cert.Combine.Facts) (hCombineIdeal : Cert.CombineIdeal.Facts) (hCombineReferenceIdeal : Cert.CombineReferenceIdeal.Facts) (hProject : Cert.Project.Facts) (hProjectIdeal : Cert.ProjectIdeal.Facts) (hProjectReferenceIdeal : Cert.ProjectReferenceIdeal.Facts) (hAttend : Cert.Attend.Facts) (hAttendIdeal : Cert.AttendIdeal.Facts) (hAttendReferenceIdeal : Cert.AttendReferenceIdeal.Facts) (hPre_placed : Cert.Pre_placed.Facts) (hPre_tiled : Cert.Pre_tiled.Facts) (hPre_in_range : Cert.Pre_in_range.Facts),
    quiescent_Kernel (hKernel := hKernel) (hPre_placed := hPre_placed)
    ∧ quiescent_KernelIdeal (hKernelIdeal := hKernelIdeal) (hPre_placed := hPre_placed)
    ∧ quiescent_ReferenceIdeal (hReferenceIdeal := hReferenceIdeal)
    ∧ quiescent_ReferenceIdeal_pre_placed (hReferenceIdeal := hReferenceIdeal) (hPre_placed := hPre_placed)
    ∧ quiescent_Reference (hReference := hReference) (hPre_placed := hPre_placed)
    ∧ quiescent_Experts (hExperts := hExperts) (hPre_tiled := hPre_tiled)
    ∧ quiescent_ExpertsIdeal (hExpertsIdeal := hExpertsIdeal) (hPre_tiled := hPre_tiled)
    ∧ quiescent_ExpertsReferenceIdeal (hExpertsReferenceIdeal := hExpertsReferenceIdeal)
    ∧ quiescent_ExpertsReferenceIdeal_pre_tiled (hExpertsReferenceIdeal := hExpertsReferenceIdeal) (hPre_tiled := hPre_tiled)
    ∧ quiescent_Combine (hCombine := hCombine) (hPre_in_range := hPre_in_range)
    ∧ quiescent_CombineIdeal (hCombineIdeal := hCombineIdeal) (hPre_in_range := hPre_in_range)
    ∧ quiescent_CombineReferenceIdeal (hCombineReferenceIdeal := hCombineReferenceIdeal)
    ∧ quiescent_CombineReferenceIdeal_pre_in_range (hCombineReferenceIdeal := hCombineReferenceIdeal) (hPre_in_range := hPre_in_range)
    ∧ quiescent_Project (hProject := hProject)
    ∧ quiescent_ProjectIdeal (hProjectIdeal := hProjectIdeal)
    ∧ quiescent_ProjectReferenceIdeal (hProjectReferenceIdeal := hProjectReferenceIdeal)
    ∧ quiescent_Attend (hAttend := hAttend)
    ∧ quiescent_AttendIdeal (hAttendIdeal := hAttendIdeal)
    ∧ quiescent_AttendReferenceIdeal (hAttendReferenceIdeal := hAttendReferenceIdeal)
    ∧ preserves_Kernel_KernelIdeal
    ∧ algebraic_KernelIdeal_ReferenceIdeal (hKernelIdeal := hKernelIdeal) (hReferenceIdeal := hReferenceIdeal) (hPre_placed := hPre_placed)
    ∧ bitexact_Kernel_Reference (hKernel := hKernel) (hReference := hReference) (hPre_placed := hPre_placed)
    ∧ preserves_Experts_ExpertsIdeal
    ∧ algebraic_ExpertsIdeal_ExpertsReferenceIdeal (hExpertsIdeal := hExpertsIdeal) (hExpertsReferenceIdeal := hExpertsReferenceIdeal) (hPre_tiled := hPre_tiled)
    ∧ preserves_Combine_CombineIdeal
    ∧ algebraic_CombineIdeal_CombineReferenceIdeal (hCombineIdeal := hCombineIdeal) (hCombineReferenceIdeal := hCombineReferenceIdeal) (hPre_in_range := hPre_in_range)
    ∧ preserves_Project_ProjectIdeal
    ∧ algebraic_ProjectIdeal_ProjectReferenceIdeal (hProjectIdeal := hProjectIdeal) (hProjectReferenceIdeal := hProjectReferenceIdeal)
    ∧ preserves_Attend_AttendIdeal
    ∧ algebraic_AttendIdeal_AttendReferenceIdeal (hAttendIdeal := hAttendIdeal) (hAttendReferenceIdeal := hAttendReferenceIdeal)
-- ==== Pre_in_range.lean ====
abbrev S65536 : Shape := ⟨1, ![65536]⟩
abbrev S65536x1024 : Shape := ⟨2, ![65536, 1024]⟩
abbrev S79872x1024 : Shape := ⟨2, ![79872, 1024]⟩
abbrev S1024 : Shape := ⟨1, ![1024]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : IVec S65536 32) (main_arg1 : FVec F S65536x1024 .f32) (main_arg2 : FVec F S79872x1024 .f32) (main_arg3 : FVec F S1024 .f32) : IVec S65536 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 79872#32
  let main_v2 : IVec S65536 32 := broadcastInDim S65536 ![] bcast_S_S65536 main_c_0
  let main_v3 : IVec S65536 1 := cmpi .slt main_arg0 main_v2
  let main_v4 : IVec S65536 1 := andi main_v1 main_v3
  main_v4
-- ==== Pre_placed.lean ====
abbrev S65536 : Shape := ⟨1, ![65536]⟩
abbrev S65536x1152 : Shape := ⟨2, ![65536, 1152]⟩
abbrev S_ : Shape := ⟨0, ![]⟩
abbrev S79872 : Shape := ⟨1, ![79872]⟩
abbrev S65536x1 : Shape := ⟨2, ![65536, 1]⟩

class Facts : Prop where
  bcast_S_S79872 : S_.BroadcastsInDim S79872 (![] : Fin 0 → Fin S79872.rank)
  bcast_S_S65536 : S_.BroadcastsInDim S65536 (![] : Fin 0 → Fin S65536.rank)
  bcast_S65536_S65536x1_0 : S65536.BroadcastsInDim S65536x1 (![0] : Fin 1 → Fin S65536x1.rank)
  scatter_S79872_S65536x1_S65536_n_0_0_1_wf : ScatterDims.WF S79872 S65536x1 S65536 [] [0] [0] 1
  gather_S79872_S65536x1_S65536_n_0_n_n_0_1_1_wf : GatherDims.WF S79872 S65536x1 S65536 [] [0] [] [0] [] 1 ![1]

variable [Facts]

def scatter_S79872_S65536x1_S65536_n_0_0_1 : ScatterDims S79872 S65536x1 S65536 where
  updateWindowDims := []
  insertedWindowDims := [0]
  scatterDimsToOperandDims := [0]
  indexVectorDim := 1
  wf := scatter_S79872_S65536x1_S65536_n_0_0_1_wf
def gather_S79872_S65536x1_S65536_n_0_n_n_0_1_1 : GatherDims S79872 S65536x1 S65536 where
  offsetDims := []
  collapsedSliceDims := [0]
  operandBatchingDims := []
  startIndicesBatchingDims := []
  startIndexMap := [0]
  indexVectorDim := 1
  sliceSizes := ![1]
  wf := gather_S79872_S65536x1_S65536_n_0_n_n_0_1_1_wf
def fn_part1 {F : FTy → Type} [FloatOps F] (main_arg0 : IVec S65536 32) (main_v0 : IVec S65536 32) (main_v8 : IVec S79872 32) (main_v13 : IVec S65536 1) (main_v15 : IVec S65536 1) (main_v16 : IVec S65536 32) : IVec S65536 1 :=
  let main_v17 : IVec S65536 32 := addi main_arg0 main_v16
  let main_v18 : IVec S65536 32 := select main_v15 main_v17 main_arg0
  let main_v19 : IVec S65536x1 32 := broadcastInDim S65536x1 ![0] bcast_S65536_S65536x1_0 main_v18
  let main_v20 : IVec S65536 32 := (fun x i => Host.gather gather_S79872_S65536x1_S65536_n_0_n_n_0_1_1 x i) main_v8 main_v19
  let main_v21 : IVec S65536 1 := cmpi .eq main_v20 main_v0
  let main_v22 : IVec S65536 1 := andi main_v13 main_v21
  main_v22

def fn {F : FTy → Type} [FloatOps F] (main_arg0 : IVec S65536 32) (main_arg1 : FVec F S65536x1152 .f32) : IVec S65536 1 :=
  let main_v0 : IVec S65536 32 := iotaInDim S65536 32 0
  let main_c : IVec S_ 32 := constantI S_ 32 0#32
  let main_v1 : IVec S79872 32 := broadcastInDim S79872 ![] bcast_S_S79872 main_c
  let main_c_0 : IVec S_ 32 := constantI S_ 32 0#32
  let main_v2 : IVec S65536 32 := broadcastInDim S65536 ![] bcast_S_S65536 main_c_0
  let main_v3 : IVec S65536 1 := cmpi .slt main_arg0 main_v2
  let main_c_1 : IVec S_ 32 := constantI S_ 32 79872#32
  let main_v4 : IVec S65536 32 := broadcastInDim S65536 ![] bcast_S_S65536 main_c_1
  let main_v5 : IVec S65536 32 := addi main_arg0 main_v4
  let main_v6 : IVec S65536 32 := select main_v3 main_v5 main_arg0
  let main_v7 : IVec S65536x1 32 := broadcastInDim S65536x1 ![0] bcast_S65536_S65536x1_0 main_v6
  let main_v8 : IVec S79872 32 := (fun x i u => Host.scatter scatter_S79872_S65536x1_S65536_n_0_0_1 (fun _ b => b) x i u) main_v1 main_v7 main_v0
  let main_c_2 : IVec S_ 32 := constantI S_ 32 0#32
  let main_v9 : IVec S65536 32 := broadcastInDim S65536 ![] bcast_S_S65536 main_c_2
  let main_v10 : IVec S65536 1 := cmpi .sge main_arg0 main_v9
  let main_c_3 : IVec S_ 32 := constantI S_ 32 79872#32
  let main_v11 : IVec S65536 32 := broadcastInDim S65536 ![] bcast_S_S65536 main_c_3
  let main_v12 : IVec S65536 1 := cmpi .slt main_arg0 main_v11
  let main_v13 : IVec S65536 1 := andi main_v10 main_v12
  let main_c_4 : IVec S_ 32 := constantI S_ 32 0#32
  let main_v14 : IVec S65536 32 := broadcastInDim S65536 ![] bcast_S_S65536 main_c_4
  let main_v15 : IVec S65536 1 := cmpi .slt main_arg0 main_v14
  let main_c_5 : IVec S_ 32 := constantI S_ 32 79872#32
  let main_v16 : IVec S65536 32 := broadcastInDim S65536 ![] bcast_S_S65536 main_c_5
  fn_part1 (F := F) main_arg0 main_v0 main_v8 main_v13 main_v15 main_v16
-- ==== Pre_tiled.lean ====
abbrev S624 : Shape := ⟨1, ![624]⟩
abbrev S1 : Shape := ⟨1, ![1]⟩
abbrev S79872x1152 : Shape := ⟨2, ![79872, 1152]⟩
abbrev S32x1024x256 : Shape := ⟨3, ![32, 1024, 256]⟩
abbrev S32x256x1024 : Shape := ⟨3, ![32, 256, 1024]⟩
abbrev S_ : Shape := ⟨0, ![]⟩

class Facts : Prop where
  bcast_S_S624 : S_.BroadcastsInDim S624 (![] : Fin 0 → Fin S624.rank)
  bcast_S_S1 : S_.BroadcastsInDim S1 (![] : Fin 0 → Fin S1.rank)
  bcast_S1_S624_0 : S1.BroadcastsInDim S624 (![0] : Fin 1 → Fin S624.rank)

variable [Facts]

def fn {F : FTy → Type} [FloatOps F] (main_arg0 : IVec S624 32) (main_arg1 : IVec S624 32) (main_arg2 : IVec S1 32) (main_arg3 : FVec F S79872x1152 .f32) (main_arg4 : FVec F S32x1024x256 .f32) (main_arg5 : FVec F S32x1024x256 .f32) (main_arg6 : FVec F S32x256x1024 .f32) : IVec S624 1 :=
  let main_c : IVec S_ 32 := constantI S_ 32 0#32
  let main_v0 : IVec S624 32 := broadcastInDim S624 ![] bcast_S_S624 main_c
  let main_v1 : IVec S624 1 := cmpi .sge main_arg0 main_v0
  let main_c_0 : IVec S_ 32 := constantI S_ 32 32#32
  let main_v2 : IVec S624 32 := broadcastInDim S624 ![] bcast_S_S624 main_c_0
  let main_v3 : IVec S624 1 := cmpi .slt main_arg0 main_v2
  let main_v4 : IVec S624 1 := andi main_v1 main_v3
  let main_c_1 : IVec S_ 32 := constantI S_ 32 0#32
  let main_v5 : IVec S624 32 := broadcastInDim S624 ![] bcast_S_S624 main_c_1
  let main_v6 : IVec S624 1 := cmpi .sge main_arg1 main_v5
  let main_c_2 : IVec S_ 32 := constantI S_ 32 32#32
  let main_v7 : IVec S624 32 := broadcastInDim S624 ![] bcast_S_S624 main_c_2
  let main_v8 : IVec S624 1 := cmpi .slt main_arg1 main_v7
  let main_v9 : IVec S624 1 := andi main_v6 main_v8
  let main_v10 : IVec S624 1 := andi main_v4 main_v9
  let main_v11 : IVec S624 1 := cmpi .ne main_arg0 main_arg1
  let main_v12 : IVec S624 1 := andi main_v10 main_v11
  let main_c_3 : IVec S_ 32 := constantI S_ 32 1#32
  let main_v13 : IVec S1 32 := broadcastInDim S1 ![] bcast_S_S1 main_c_3
  let main_v14 : IVec S1 1 := cmpi .sge main_arg2 main_v13
  let main_v15 : IVec S624 1 := broadcastInDim S624 ![0] bcast_S1_S624_0 main_v14
  let main_v16 : IVec S624 1 := andi main_v12 main_v15
  main_v16
-- ==== Kernel.lean ====
abbrev S65536 : Shape := ⟨1, ![65536]⟩
abbrev S65536x1152 : Shape := ⟨2, ![65536, 1152]⟩
abbrev S_ : Shape := ⟨0, ![]⟩
abbrev S79872x1152 : Shape := ⟨2, ![79872, 1152]⟩
abbrev S1 : Shape := ⟨1, ![1]⟩
abbrev S1x1152 : Shape := ⟨2, ![1, 1152]⟩

abbrev nBuf : Space → Nat
  | .hbm => 3
  | .vmem => 0
  | .smem => 1
  | _ => 0

abbrev bufTy : (tb : Table) → Fin (tcTables nBuf tb) → BufTy
  | .hbm, ⟨0, _⟩ => ⟨S65536x1152, .f32⟩
  | .hbm, ⟨1, _⟩ => ⟨S_, .f32⟩
  | .hbm, ⟨2, _⟩ => ⟨S79872x1152, .f32⟩
  | .local _ .smem, ⟨0, _⟩ => ⟨S65536, .i32⟩
  | _, _ => ⟨S65536x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg1 : Ref sig .tc := ⟨.hbm, 0, rfl⟩
abbrev main_cst : Ref sig .tc := ⟨.hbm, 1, rfl⟩
abbrev main_v0 : Ref sig .tc := ⟨.hbm, 2, rfl⟩
abbrev main_arg0 : Ref sig .tc := ⟨.smem, 0, rfl⟩

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c1024_i32_0 : BitVec 32 := 1024#32
  let v1 : BitVec 32 := Scalar.addi c0_i32 c1024_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32 : BitVec 32 := 0#32
  let c1_i32 : BitVec 32 := 1#32
  let arg6 : BitVec 32 := Scf.iv c0_i32 c1_i32 k0_t1
  let v3 : BitVec 32 := Scalar.addi v0 arg6
  let v4 : Index := Scalar.indexCast v3
  ![v4.toNat]
def k0_off2 (v5 : BitVec 32) : Fin 2 → Nat :=
  let c0_i32_5 : BitVec 32 := 0#32
  ![v5.toNat, 0]

def k0_chk1 (v5 : BitVec 32) : Prop :=
  (∀ a, (k0_off2 v5) a + S1x1152.size a ≤ S79872x1152.size a)
theorem k0_off2_inb : ∀ (v5 : BitVec 32) (k0_hw1 : k0_chk1 v5), ∀ a, (k0_off2 v5) a + S1x1152.size a ≤ S79872x1152.size a := fun v5 k0_hw1 => k0_hw1

def k0_off3 (i : grid0.Coords) (k0_t1 : Fin k0_t1_loop.trips) : Fin 2 → Nat :=
  let arg0 : BitVec 32 := BitVec.ofNat 32 (i 0).val
  let c1024_i32 : BitVec 32 := 1024#32
  let v0 : BitVec 32 := Scalar.muli arg0 c1024_i32
  let c0_i32 : BitVec 32 := 0#32
  let c1_i32 : BitVec 32 := 1#32
  let arg6 : BitVec 32 := Scf.iv c0_i32 c1_i32 k0_t1
  let v6 : BitVec 32 := Scalar.addi v0 arg6
  let c0_i32_6 : BitVec 32 := 0#32
  ![v6.toNat, 0]
@[reducible] def k0_t2_loop : Scf.Loop 32 :=
  let c0_i32_2 : BitVec 32 := 0#32
  let c1024_i32_3 : BitVec 32 := 1024#32
  let v2 : BitVec 32 := Scalar.addi c0_i32_2 c1024_i32_3
  let c1_i32_4 : BitVec 32 := 1#32
  ⟨c0_i32_2, v2, c1_i32_4⟩
-- ==== Reference.lean ====
abbrev S65536 : Shape := ⟨1, ![65536]⟩
abbrev S65536x1152 : Shape := ⟨2, ![65536, 1152]⟩
abbrev S_ : Shape := ⟨0, ![]⟩
abbrev S79872x1152 : Shape := ⟨2, ![79872, 1152]⟩
abbrev S65536x1 : Shape := ⟨2, ![65536, 1]⟩

abbrev nBuf : Space → Nat
  | .hbm => 13
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536x1152, .f32⟩
  | .hbm, ⟨2, _⟩ => ⟨S_, .f32⟩
  | .hbm, ⟨3, _⟩ => ⟨S79872x1152, .f32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536, .i32⟩
  | .hbm, ⟨11, _⟩ => ⟨S65536x1, .i32⟩
  | .hbm, ⟨12, _⟩ => ⟨S79872x1152, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Experts.lean ====
abbrev S624 : Shape := ⟨1, ![624]⟩
abbrev S1 : Shape := ⟨1, ![1]⟩
abbrev S79872x1152 : Shape := ⟨2, ![79872, 1152]⟩
abbrev S32x1024x256 : Shape := ⟨3, ![32, 1024, 256]⟩
abbrev S32x256x1024 : Shape := ⟨3, ![32, 256, 1024]⟩
abbrev S79872x1024 : Shape := ⟨2, ![79872, 1024]⟩
abbrev S128x1152 : Shape := ⟨2, ![128, 1152]⟩
abbrev S1x1024x256 : Shape := ⟨3, ![1, 1024, 256]⟩
abbrev S1x256x1024 : Shape := ⟨3, ![1, 256, 1024]⟩
abbrev S128x1024 : Shape := ⟨2, ![128, 1024]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 8
  | .vmem => 16
  | .smem => 3
  | _ => 0

abbrev bufTy : (tb : Table) → Fin (tcTables nBuf tb) → BufTy
  | .hbm, ⟨0, _⟩ => ⟨S79872x1152, .f32⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S32x1024x256, .bf16⟩
  | .hbm, ⟨5, _⟩ => ⟨S32x1024x256, .bf16⟩
  | .hbm, ⟨6, _⟩ => ⟨S32x256x1024, .bf16⟩
  | .hbm, ⟨7, _⟩ => ⟨S79872x1024, .f32⟩
  | .local _ .vmem, ⟨0, _⟩ => ⟨S128x1152, .f32⟩
  | .local _ .vmem, ⟨1, _⟩ => ⟨S128x1152, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x256x1024, .bf16⟩
  | .local _ .vmem, ⟨13, _⟩ => ⟨S1x256x1024, .bf16⟩
  | .local _ .vmem, ⟨14, _⟩ => ⟨S128x1024, .f32⟩
  | .local _ .vmem, ⟨15, _⟩ => ⟨S128x1024, .f32⟩
  | .local _ .smem, ⟨0, _⟩ => ⟨S624, .i32⟩
  | .local _ .smem, ⟨1, _⟩ => ⟨S624, .i32⟩
  | .local _ .smem, ⟨2, _⟩ => ⟨S1, .i32⟩
  | _, _ => ⟨S79872x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![624], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S624.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S624) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S624.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S624) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S624.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S624) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S624.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S624) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S624.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S624) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S624.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S624) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S624 : Shape := ⟨1, ![624]⟩
abbrev S1 : Shape := ⟨1, ![1]⟩
abbrev S79872x1152 : Shape := ⟨2, ![79872, 1152]⟩
abbrev S32x1024x256 : Shape := ⟨3, ![32, 1024, 256]⟩
abbrev S32x256x1024 : Shape := ⟨3, ![32, 256, 1024]⟩
abbrev S79872x1024 : Shape := ⟨2, ![79872, 1024]⟩
abbrev S79872x1 : Shape := ⟨2, ![79872, 1]⟩
abbrev S624x128 : Shape := ⟨2, ![624, 128]⟩
abbrev S79872 : Shape := ⟨1, ![79872]⟩
abbrev S1x32 : Shape := ⟨2, ![1, 32]⟩
abbrev S79872x32 : Shape := ⟨2, ![79872, 32]⟩
abbrev S_ : Shape := ⟨0, ![]⟩
abbrev S79872x32x256 : Shape := ⟨3, ![79872, 32, 256]⟩
abbrev S79872x32x1 : Shape := ⟨3, ![79872, 32, 1]⟩

abbrev nBuf : Space → Nat
  | .hbm => 58
  | .vmem => 0
  | .smem => 0
  | _ => 0

abbrev bufTy : (tb : Table) → Fin (tcTables nBuf tb) → BufTy
  | .hbm, ⟨0, _⟩ => ⟨S624, .i32⟩
  | .hbm, ⟨1, _⟩ => ⟨S624, .i32⟩
  | .hbm, ⟨2, _⟩ => ⟨S1, .i32⟩
  | .hbm, ⟨3, _⟩ => ⟨S79872x1152, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S79872x1024, .f32⟩
  | .hbm, ⟨8, _⟩ => ⟨S79872x1, .f32⟩
  | .hbm, ⟨9, _⟩ => ⟨S79872x1, .f32⟩
  | .hbm, ⟨10, _⟩ => ⟨S624x128, .i32⟩
  | .hbm, ⟨11, _⟩ => ⟨S79872, .i32⟩
  | .hbm, ⟨12, _⟩ => ⟨S79872x1, .i32⟩
  | .hbm, ⟨13, _⟩ => ⟨S1x32, .i32⟩
  | .hbm, ⟨14, _⟩ => ⟨S79872x32, .i32⟩
  | .hbm, ⟨15, _⟩ => ⟨S79872x32, .i32⟩
  | .hbm, ⟨16, _⟩ => ⟨S79872x32, .i1⟩
  | .hbm, ⟨17, _⟩ => ⟨S79872x32, .f32⟩
  | .hbm, ⟨18, _⟩ => ⟨S624x128, .i32⟩
  | .hbm, ⟨19, _⟩ => ⟨S79872, .i32⟩
  | .hbm, ⟨20, _⟩ => ⟨S79872x1, .i32⟩
  | .hbm, ⟨21, _⟩ => ⟨S1x32, .i32⟩
  | .hbm, ⟨22, _⟩ => ⟨S79872x32, .i32⟩
  | .hbm, ⟨23, _⟩ => ⟨S79872x32, .i32⟩
  | .hbm, ⟨24, _⟩ => ⟨S79872x32, .i1⟩
  | .hbm, ⟨25, _⟩ => ⟨S79872x32, .f32⟩
  | .hbm, ⟨26, _⟩ => ⟨S624, .i32⟩
  | .hbm, ⟨27, _⟩ => ⟨S624, .i32⟩
  | .hbm, ⟨28, _⟩ => ⟨S624, .i1⟩
  | .hbm, ⟨29, _⟩ => ⟨S624x128, .i1⟩
  | .hbm, ⟨30, _⟩ => ⟨S79872, .i1⟩
  | .hbm, ⟨31, _⟩ => ⟨S79872x1, .i1⟩
  | .hbm, ⟨32, _⟩ => ⟨S79872x32, .f32⟩
  | .hbm, ⟨33, _⟩ => ⟨S79872x32, .f32⟩
  | .hbm, ⟨34, _⟩ => ⟨S79872x32, .f32⟩
  | .hbm, ⟨35, _⟩ => ⟨S79872x32, .f32⟩
  | .hbm, ⟨36, _⟩ => ⟨S79872x32, .f32⟩
  | .hbm, ⟨37, _⟩ => ⟨S_, .f32⟩
  | .hbm, ⟨38, _⟩ => ⟨S_, .f32⟩
  | .hbm, ⟨39, _⟩ => ⟨S79872x32, .i1⟩
  | .hbm, ⟨40, _⟩ => ⟨S79872x32, .f32⟩
  | .hbm, ⟨41, _⟩ => ⟨S79872x32, .f32⟩
  | .hbm, ⟨42, _⟩ => ⟨S79872x32x256, .f32⟩
  | .hbm, ⟨43, _⟩ => ⟨S79872x32x256, .f32⟩
  | .hbm, ⟨44, _⟩ => ⟨S79872x32x256, .f32⟩
  | .hbm, ⟨45, _⟩ => ⟨S79872x32x256, .f32⟩
  | .hbm, ⟨46, _⟩ => ⟨S_, .f32⟩
  | .hbm, ⟨47, _⟩ => ⟨S79872x32x256, .f32⟩
  | .hbm, ⟨48, _⟩ => ⟨S79872x32x256, .f32⟩
  | .hbm, ⟨49, _⟩ => ⟨S_, .f32⟩
  | .hbm, ⟨50, _⟩ => ⟨S79872x32x256, .f32⟩
  | .hbm, ⟨51, _⟩ => ⟨S79872x32x256, .f32⟩
  | .hbm, ⟨52, _⟩ => ⟨S79872x32x256, .f32⟩
  | .hbm, ⟨53, _⟩ => ⟨S79872x32x256, .f32⟩
  | .hbm, ⟨54, _⟩ => ⟨S79872x32x1, .f32⟩
  | .hbm, ⟨55, _⟩ => ⟨S79872x32x256, .f32⟩
  | .hbm, ⟨56, _⟩ => ⟨S79872x32x256, .f32⟩
  | .hbm, ⟨57, _⟩ => ⟨S79872x1024, .f32⟩
  | _, _ => ⟨S624, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_v0 : Ref sig .tc := ⟨.hbm, 44, rfl⟩
abbrev main_call3_v1 : Ref sig .tc := ⟨.hbm, 45, rfl⟩
abbrev main_call3_cst : Ref sig .tc := ⟨.hbm, 46, rfl⟩
abbrev main_call3_v2 : Ref sig .tc := ⟨.hbm, 47, rfl⟩
abbrev main_call3_v3 : Ref sig .tc := ⟨.hbm, 48, rfl⟩
abbrev main_call3_cst_0 : Ref sig .tc := ⟨.hbm, 49, rfl⟩
abbrev main_call3_v4 : Ref sig .tc := ⟨.hbm, 50, rfl⟩
abbrev main_call3_v5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩

abbrev nD : Nat := 1
abbrev τ : Topo := Topo.v7x

variable {F : FTy → Type} [FloatOps F]
-- ==== Combine.lean ====
abbrev S65536 : Shape := ⟨1, ![65536]⟩
abbrev S65536x1024 : Shape := ⟨2, ![65536, 1024]⟩
abbrev S79872x1024 : Shape := ⟨2, ![79872, 1024]⟩
abbrev S1024 : Shape := ⟨1, ![1024]⟩
abbrev S1x1024 : Shape := ⟨2, ![1, 1024]⟩
abbrev S512x1024 : Shape := ⟨2, ![512, 1024]⟩
abbrev S_ : Shape := ⟨0, ![]⟩
abbrev S1 : Shape := ⟨1, ![1]⟩
abbrev S512 : Shape := ⟨1, ![512]⟩
abbrev S512x1 : Shape := ⟨2, ![512, 1]⟩

abbrev nBuf : Space → Nat
  | .hbm => 5
  | .vmem => 6
  | .smem => 1
  | _ => 0

abbrev bufTy : (tb : Table) → Fin (tcTables nBuf tb) → BufTy
  | .hbm, ⟨0, _⟩ => ⟨S65536x1024, .f32⟩
  | .hbm, ⟨1, _⟩ => ⟨S79872x1024, .f32⟩
  | .hbm, ⟨2, _⟩ => ⟨S1024, .f32⟩
  | .hbm, ⟨3, _⟩ => ⟨S1x1024, .f32⟩
  | .hbm, ⟨4, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .smem, ⟨0, _⟩ => ⟨S65536, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c512_i32_0 : BitVec 32 := 512#32
  let v1 : BitVec 32 := Scalar.addi c0_i32 c512_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg8 : BitVec 32 := Scf.iv c0_i32 c1_i32 k0_t1
  let v21 : BitVec 32 := Scalar.addi v0 arg8
  let v22 : Index := Scalar.indexCast v21
  ![v22.toNat]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_15 : BitVec 32 := 0#32
  ![arg8.toNat, 0]
def k0_off3 (v23 : BitVec 32) : Fin 2 → Nat :=
  let c0_i32_16 : BitVec 32 := 0#32
  ![v23.toNat, 0]

def k0_chk1 (v23 : BitVec 32) : Prop :=
  (∀ a, (k0_off3 v23) a + S1x1024.size a ≤ S79872x1024.size a)
theorem k0_off3_inb : ∀ (v23 : BitVec 32) (k0_hw1 : k0_chk1 v23), ∀ a, (k0_off3 v23) a + S1x1024.size a ≤ S79872x1024.size a := fun v23 k0_hw1 => k0_hw1

@[reducible] def k0_t2_loop : Scf.Loop 32 :=
  let c0_i32_2 : BitVec 32 := 0#32
  let c512_i32_3 : BitVec 32 := 512#32
  let v2 : BitVec 32 := Scalar.addi c0_i32_2 c512_i32_3
  let c1_i32_4 : BitVec 32 := 1#32
  ⟨c0_i32_2, v2, c1_i32_4⟩
def k0_off4 (k0_t2 : Fin k0_t2_loop.trips) : Fin 2 → Nat :=
  let c0_i32_2 : BitVec 32 := 0#32
  let c1_i32_4 : BitVec 32 := 1#32
  let arg8 : BitVec 32 := Scf.iv c0_i32_2 c1_i32_4 k0_t2
  let c0_i32_15 : BitVec 32 := 0#32
  ![arg8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CombineReferenceIdeal.lean ====
abbrev S65536 : Shape := ⟨1, ![65536]⟩
abbrev S65536x1024 : Shape := ⟨2, ![65536, 1024]⟩
abbrev S79872x1024 : Shape := ⟨2, ![79872, 1024]⟩
abbrev S1024 : Shape := ⟨1, ![1024]⟩
abbrev S_ : Shape := ⟨0, ![]⟩
abbrev S65536x1 : Shape := ⟨2, ![65536, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536x1024, .f32⟩
  | .hbm, ⟨2, _⟩ => ⟨S79872x1024, .f32⟩
  | .hbm, ⟨3, _⟩ => ⟨S1024, .f32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536, .i32⟩
  | .hbm, ⟨11, _⟩ => ⟨S65536x1, .i32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Project.lean ====
abbrev S32x2048x1024 : Shape := ⟨3, ![32, 2048, 1024]⟩
abbrev S1x1024 : Shape := ⟨2, ![1, 1024]⟩
abbrev S1x1024x3080 : Shape := ⟨3, ![1, 1024, 3080]⟩
abbrev S1x8 : Shape := ⟨2, ![1, 8]⟩
abbrev S65536x1024 : Shape := ⟨2, ![65536, 1024]⟩
abbrev S1024x3080 : Shape := ⟨2, ![1024, 3080]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S1x128 : Shape := ⟨2, ![1, 128]⟩
abbrev S8 : Shape := ⟨1, ![8]⟩
abbrev S2 : Shape := ⟨1, ![2]⟩
abbrev S1024 : Shape := ⟨1, ![1024]⟩
abbrev S1024x3072 : Shape := ⟨2, ![1024, 3072]⟩
abbrev S65536x512 : Shape := ⟨2, ![65536, 512]⟩
abbrev S8x65536 : Shape := ⟨2, ![8, 65536]⟩
abbrev S512x1024 : Shape := ⟨2, ![512, 1024]⟩
abbrev S512x512 : Shape := ⟨2, ![512, 512]⟩
abbrev S8x512 : Shape := ⟨2, ![8, 512]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩
abbrev S512x128 : Shape := ⟨2, ![512, 128]⟩
abbrev S128x512 : Shape := ⟨2, ![128, 512]⟩

abbrev nBuf : Space → Nat
  | .hbm => 30
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S65536x1024, .f32⟩
  | .hbm, ⟨5, _⟩ => ⟨S1024x3080, .f32⟩
  | .hbm, ⟨6, _⟩ => ⟨S_, .f32⟩
  | .hbm, ⟨7, _⟩ => ⟨S1024x128, .f32⟩
  | .hbm, ⟨8, _⟩ => ⟨S1024x8, .f32⟩
  | .hbm, ⟨9, _⟩ => ⟨S_, .i32⟩
  | .hbm, ⟨10, _⟩ => ⟨S1, .i32⟩
  | .hbm, ⟨11, _⟩ => ⟨S1024x128, .f32⟩
  | .hbm, ⟨12, _⟩ => ⟨S_, .f32⟩
  | .hbm, ⟨13, _⟩ => ⟨S1x128, .f32⟩
  | .hbm, ⟨14, _⟩ => ⟨S8, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S1024, .f32⟩
  | .hbm, ⟨22, _⟩ => ⟨S1x1024, .f32⟩
  | .hbm, ⟨23, _⟩ => ⟨S1024x3072, .f32⟩
  | .hbm, ⟨24, _⟩ => ⟨S1024x3072, .bf16⟩
  | .hbm, ⟨25, _⟩ => ⟨S65536x512, .bf16⟩
  | .hbm, ⟨26, _⟩ => ⟨S65536x512, .bf16⟩
  | .hbm, ⟨27, _⟩ => ⟨S65536x1024, .bf16⟩
  | .hbm, ⟨28, _⟩ => ⟨S65536x1024, .f32⟩
  | .hbm, ⟨29, _⟩ => ⟨S8x65536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .f32⟩
  | .local _ .vmem, ⟨5, _⟩ => ⟨S1x128, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S8x512, .f32⟩
  | .local _ .vmem, ⟨15, _⟩ => ⟨S8x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjectReferenceIdeal.lean ====
abbrev S32x2048x1024 : Shape := ⟨3, ![32, 2048, 1024]⟩
abbrev S1x1024 : Shape := ⟨2, ![1, 1024]⟩
abbrev S1x1024x3080 : Shape := ⟨3, ![1, 1024, 3080]⟩
abbrev S1x8 : Shape := ⟨2, ![1, 8]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1024x3080 : Shape := ⟨2, ![1024, 3080]⟩
abbrev S65536x3080 : Shape := ⟨2, ![65536, 3080]⟩
abbrev S65536x512 : Shape := ⟨2, ![65536, 512]⟩
abbrev S65536x8 : Shape := ⟨2, ![65536, 8]⟩
abbrev S8 : Shape := ⟨1, ![8]⟩
abbrev S65536x4 : Shape := ⟨2, ![65536, 4]⟩
abbrev S8x65536 : Shape := ⟨2, ![8, 65536]⟩

abbrev nBuf : Space → Nat
  | .hbm => 74
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S65536x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S1024x3080, .f32⟩
  | .hbm, ⟨23, _⟩ => ⟨S65536x3080, .f32⟩
  | .hbm, ⟨24, _⟩ => ⟨S65536x512, .f32⟩
  | .hbm, ⟨25, _⟩ => ⟨S65536x512, .bf16⟩
  | .hbm, ⟨26, _⟩ => ⟨S65536x512, .f32⟩
  | .hbm, ⟨27, _⟩ => ⟨S_, .f32⟩
  | .hbm, ⟨28, _⟩ => ⟨S65536x512, .f32⟩
  | .hbm, ⟨29, _⟩ => ⟨S65536x512, .f32⟩
  | .hbm, ⟨30, _⟩ => ⟨S65536x512, .bf16⟩
  | .hbm, ⟨31, _⟩ => ⟨S65536x1024, .f32⟩
  | .hbm, ⟨32, _⟩ => ⟨S65536x1024, .bf16⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S65536x8, .f32⟩
  | .hbm, ⟨43, _⟩ => ⟨S8, .f32⟩
  | .hbm, ⟨44, _⟩ => ⟨S1x8, .f32⟩
  | .hbm, ⟨45, _⟩ => ⟨S65536x8, .f32⟩
  | .hbm, ⟨46, _⟩ => ⟨S65536x8, .f32⟩
  | .hbm, ⟨47, _⟩ => ⟨S_, .f32⟩
  | .hbm, ⟨48, _⟩ => ⟨S65536x8, .f32⟩
  | .hbm, ⟨49, _⟩ => ⟨S65536x8, .f32⟩
  | .hbm, ⟨50, _⟩ => ⟨S65536x8, .f32⟩
  | .hbm, ⟨51, _⟩ => ⟨S_, .f32⟩
  | .hbm, ⟨52, _⟩ => ⟨S65536x8, .f32⟩
  | .hbm, ⟨53, _⟩ => ⟨S65536x8, .f32⟩
  | .hbm, ⟨54, _⟩ => ⟨S65536x4, .f32⟩
  | .hbm, ⟨55, _⟩ => ⟨S65536x4, .f32⟩
  | .hbm, ⟨56, _⟩ => ⟨S_, .f32⟩
  | .hbm, ⟨57, _⟩ => ⟨S65536x4, .f32⟩
  | .hbm, ⟨58, _⟩ => ⟨S65536x4, .f32⟩
  | .hbm, ⟨59, _⟩ => ⟨S65536x4, .f32⟩
  | .hbm, ⟨60, _⟩ => ⟨S65536x4, .f32⟩
  | .hbm, ⟨61, _⟩ => ⟨S65536x4, .i1⟩
  | .hbm, ⟨62, _⟩ => ⟨S65536x4, .f32⟩
  | .hbm, ⟨63, _⟩ => ⟨S65536x4, .f32⟩
  | .hbm, ⟨64, _⟩ => ⟨S65536x4, .f32⟩
  | .hbm, ⟨65, _⟩ => ⟨S65536x4, .f32⟩
  | .hbm, ⟨66, _⟩ => ⟨S65536x4, .f32⟩
  | .hbm, ⟨67, _⟩ => ⟨S65536x4, .f32⟩
  | .hbm, ⟨68, _⟩ => ⟨S65536x4, .f32⟩
  | .hbm, ⟨69, _⟩ => ⟨S65536x4, .f32⟩
  | .hbm, ⟨70, _⟩ => ⟨S65536x4, .f32⟩
  | .hbm, ⟨71, _⟩ => ⟨S65536x4, .f32⟩
  | .hbm, ⟨72, _⟩ => ⟨S65536x8, .f32⟩
  | .hbm, ⟨73, _⟩ => ⟨S8x65536, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩

abbrev nD : Nat := 1
abbrev τ : Topo := Topo.v7x

variable {F : FTy → Type} [FloatOps F]
-- ==== Attend.lean ====
abbrev S65536x1024 : Shape := ⟨2, ![65536, 1024]⟩
abbrev S1x1024 : Shape := ⟨2, ![1, 1024]⟩
abbrev S1024 : Shape := ⟨1, ![1024]⟩
abbrev S1x1024x1072 : Shape := ⟨3, ![1, 1024, 1072]⟩
abbrev S1024x1536 : Shape := ⟨2, ![1024, 1536]⟩
abbrev S_ : Shape := ⟨0, ![]⟩
abbrev S1024x1152 : Shape := ⟨2, ![1024, 1152]⟩
abbrev S1024x1072 : Shape := ⟨2, ![1024, 1072]⟩
abbrev S1 : Shape := ⟨1, ![1]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x56 : Shape := ⟨2, ![2048, 56]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S65536x128 : Shape := ⟨2, ![65536, 128]⟩
abbrev S32x4x2048x64 : Shape := ⟨4, ![32, 4, 2048, 64]⟩
abbrev S512x1024 : Shape := ⟨2, ![512, 1024]⟩
abbrev S512x128 : Shape := ⟨2, ![512, 128]⟩
abbrev S1x4x512x64 : Shape := ⟨4, ![1, 4, 512, 64]⟩
abbrev S512 : Shape := ⟨1, ![512]⟩
abbrev S512x1 : Shape := ⟨2, ![512, 1]⟩
abbrev S1024x1024 : Shape := ⟨2, ![1024, 1024]⟩
abbrev S1024x128 : Shape := ⟨2, ![1024, 128]⟩
abbrev S1024x256 : Shape := ⟨2, ![1024, 256]⟩
abbrev S512x256 : Shape := ⟨2, ![512, 256]⟩
abbrev S512x64 : Shape := ⟨2, ![512, 64]⟩
abbrev S1x1x512x64 : Shape := ⟨4, ![1, 1, 512, 64]⟩

abbrev nBuf : Space → Nat
  | .hbm => 64
  | .vmem => 32
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024, .f32⟩
  | .hbm, ⟨3, _⟩ => ⟨S1x1024x1072, .f32⟩
  | .hbm, ⟨4, _⟩ => ⟨S1024x1536, .f32⟩
  | .hbm, ⟨5, _⟩ => ⟨S_, .f32⟩
  | .hbm, ⟨6, _⟩ => ⟨S1024x1152, .f32⟩
  | .hbm, ⟨7, _⟩ => ⟨S1024x1072, .f32⟩
  | .hbm, ⟨8, _⟩ => ⟨S_, .i32⟩
  | .hbm, ⟨9, _⟩ => ⟨S1, .i32⟩
  | .hbm, ⟨10, _⟩ => ⟨S1024x1152, .f32⟩
  | .hbm, ⟨11, _⟩ => ⟨S1024x1152, .bf16⟩
  | .hbm, ⟨12, _⟩ => ⟨S2048, .i32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S2048, .f32⟩
  | .hbm, ⟨22, _⟩ => ⟨S2048x1, .f32⟩
  | .hbm, ⟨23, _⟩ => ⟨S1x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S_, .f32⟩
  | .hbm, ⟨30, _⟩ => ⟨S2048x48, .f32⟩
  | .hbm, ⟨31, _⟩ => ⟨S2048x64, .f32⟩
  | .hbm, ⟨32, _⟩ => ⟨S2048x8, .f32⟩
  | .hbm, ⟨33, _⟩ => ⟨S_, .f32⟩
  | .hbm, ⟨34, _⟩ => ⟨S2048x56, .f32⟩
  | .hbm, ⟨35, _⟩ => ⟨S2048x64, .f32⟩
  | .hbm, ⟨36, _⟩ => ⟨S_, .f32⟩
  | .hbm, ⟨37, _⟩ => ⟨S2048x8, .f32⟩
  | .hbm, ⟨38, _⟩ => ⟨S_, .f32⟩
  | .hbm, ⟨39, _⟩ => ⟨S2048x48, .f32⟩
  | .hbm, ⟨40, _⟩ => ⟨S2048x64, .f32⟩
  | .hbm, ⟨41, _⟩ => ⟨S1x2048x1x64, .f32⟩
  | .hbm, ⟨42, _⟩ => ⟨S1x2048x2x64, .f32⟩
  | .hbm, ⟨43, _⟩ => ⟨S2048x128, .f32⟩
  | .hbm, ⟨44, _⟩ => ⟨S1x2048x1x64, .f32⟩
  | .hbm, ⟨45, _⟩ => ⟨S1x2048x2x64, .f32⟩
  | .hbm, ⟨46, _⟩ => ⟨S2048x128, .f32⟩
  | .hbm, ⟨47, _⟩ => ⟨S1x2048x1x64, .f32⟩
  | .hbm, ⟨48, _⟩ => ⟨S1x2048x2x64, .f32⟩
  | .hbm, ⟨49, _⟩ => ⟨S2048x128, .f32⟩
  | .hbm, ⟨50, _⟩ => ⟨S1024, .f32⟩
  | .hbm, ⟨51, _⟩ => ⟨S1x1024, .f32⟩
  | .hbm, ⟨52, _⟩ => ⟨S1x1024, .f32⟩
  | .hbm, ⟨53, _⟩ => ⟨S1024x1536, .bf16⟩
  | .hbm, ⟨54, _⟩ => ⟨S65536x1024, .bf16⟩
  | .hbm, ⟨55, _⟩ => ⟨S65536x128, .f32⟩
  | .hbm, ⟨56, _⟩ => ⟨S65536x128, .f32⟩
  | .hbm, ⟨57, _⟩ => ⟨S65536x128, .f32⟩
  | .hbm, ⟨58, _⟩ => ⟨S65536x128, .f32⟩
  | .hbm, ⟨59, _⟩ => ⟨S65536x128, .f32⟩
  | .hbm, ⟨60, _⟩ => ⟨S32x4x2048x64, .bf16⟩
  | .hbm, ⟨61, _⟩ => ⟨S32x4x2048x64, .bf16⟩
  | .hbm, ⟨62, _⟩ => ⟨S32x4x2048x64, .bf16⟩
  | .hbm, ⟨63, _⟩ => ⟨S32x4x2048x64, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1152, .bf16⟩
  | .local _ .vmem, ⟨5, _⟩ => ⟨S1024x1536, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S1x4x512x64, .bf16⟩
  | .local _ .vmem, ⟨25, _⟩ => ⟨S1x4x512x64, .bf16⟩
  | .local _ .vmem, ⟨26, _⟩ => ⟨S1x4x512x64, .bf16⟩
  | .local _ .vmem, ⟨27, _⟩ => ⟨S1x4x512x64, .bf16⟩
  | .local _ .vmem, ⟨28, _⟩ => ⟨S1x4x512x64, .bf16⟩
  | .local _ .vmem, ⟨29, _⟩ => ⟨S1x4x512x64, .bf16⟩
  | .local _ .vmem, ⟨30, _⟩ => ⟨S1x4x512x64, .bf16⟩
  | .local _ .vmem, ⟨31, _⟩ => ⟨S1x4x512x64, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev main_v41_3 : Ref sig .tc := ⟨.hbm, 57, rfl⟩
abbrev main_v41_4 : Ref sig .tc := ⟨.hbm, 58, rfl⟩
abbrev main_v41_5 : Ref sig .tc := ⟨.hbm, 59, rfl⟩
abbrev main_v41_6 : Ref sig .tc := ⟨.hbm, 60, rfl⟩
abbrev main_v41_7 : Ref sig .tc := ⟨.hbm, 61, rfl⟩
abbrev main_v41_8 : Ref sig .tc := ⟨.hbm, 62, rfl⟩
abbrev main_v41_9 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== AttendReferenceIdeal.lean ====
abbrev S65536x1024 : Shape := ⟨2, ![65536, 1024]⟩
abbrev S1x1024 : Shape := ⟨2, ![1, 1024]⟩
abbrev S1024 : Shape := ⟨1, ![1024]⟩
abbrev S1x1024x1072 : Shape := ⟨3, ![1, 1024, 1072]⟩
abbrev S1024x1536 : Shape := ⟨2, ![1024, 1536]⟩
abbrev S_ : Shape := ⟨0, ![]⟩
abbrev S65536 : Shape := ⟨1, ![65536]⟩
abbrev S65536x1 : Shape := ⟨2, ![65536, 1]⟩
abbrev S1024x1072 : Shape := ⟨2, ![1024, 1072]⟩
abbrev S65536x1072 : Shape := ⟨2, ![65536, 1072]⟩
abbrev S65536x1536 : Shape := ⟨2, ![65536, 1536]⟩
abbrev S32x2048x6x4x64 : Shape := ⟨5, ![32, 2048, 6, 4, 64]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S32x2048x16x64 : Shape := ⟨4, ![32, 2048, 16, 64]⟩
abbrev S32x2048x16x8 : Shape := ⟨4, ![32, 2048, 16, 8]⟩
abbrev S32x2048x16x48 : Shape := ⟨4, ![32, 2048, 16, 48]⟩
abbrev S65536x48 : Shape := ⟨2, ![65536, 48]⟩
abbrev S65536x128 : Shape := ⟨2, ![65536, 128]⟩
abbrev S32x2048x2x4x64 : Shape := ⟨5, ![32, 2048, 2, 4, 64]⟩
abbrev S65536x512 : Shape := ⟨2, ![65536, 512]⟩
abbrev S32x2048x1x4x64 : Shape := ⟨5, ![32, 2048, 1, 4, 64]⟩
abbrev S32x2048x4x64 : Shape := ⟨4, ![32, 2048, 4, 64]⟩
abbrev S32x2048x4x8 : Shape := ⟨4, ![32, 2048, 4, 8]⟩
abbrev S32x2048x4x48 : Shape := ⟨4, ![32, 2048, 4, 48]⟩
abbrev S32x4x2048x64 : Shape := ⟨4, ![32, 4, 2048, 64]⟩

abbrev nBuf : Space → Nat
  | .hbm => 131
  | .vmem => 0
  | .smem => 0
  | _ => 0

abbrev hbmTy0_0 (i : Nat) : BufTy := match i % 128 with
  | 0 => ⟨S65536x1024, .f32⟩
  | 1 => ⟨S1x1024, .f32⟩
  | 2 => ⟨S1024, .f32⟩
  | 3 => ⟨S1x1024x1072, .f32⟩
  | 4 => ⟨S1024x1536, .f32⟩
  | 5 => ⟨S65536x1024, .f32⟩
  | 6 => ⟨S_, .f32⟩
  | 7 => ⟨S65536, .f32⟩
  | 8 => ⟨S65536x1, .f32⟩
  | 9 => ⟨S_, .f32⟩
  | 10 => ⟨S65536x1, .f32⟩
  | 11 => ⟨S65536x1, .f32⟩
  | 12 => ⟨S_, .f32⟩
  | 13 => ⟨S65536x1, .f32⟩
  | 14 => ⟨S65536x1, .f32⟩
  | 15 => ⟨S65536x1, .f32⟩
  | 16 => ⟨S65536x1024, .f32⟩
  | 17 => ⟨S65536x1024, .f32⟩
  | 18 => ⟨S1024, .f32⟩
  | 19 => ⟨S1x1024, .f32⟩
  | 20 => ⟨S65536x1024, .f32⟩
  | 21 => ⟨S65536x1024, .f32⟩
  | 22 => ⟨S1024x1072, .f32⟩
  | 23 => ⟨S65536x1072, .f32⟩
  | 24 => ⟨S1x1024, .f32⟩
  | 25 => ⟨S65536x1024, .f32⟩
  | 26 => ⟨S65536x1024, .f32⟩
  | 27 => ⟨S65536x1536, .f32⟩
  | 28 => ⟨S32x2048x6x4x64, .f32⟩
  | 29 => ⟨S8, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S2048, .i32⟩
  | 38 => ⟨S2048, .f32⟩
  | 39 => ⟨S2048x1, .f32⟩
  | 40 => ⟨S1x8, .f32⟩
  | 41 => ⟨S2048x8, .f32⟩
  | 42 => ⟨S2048x8, .f32⟩
  | 43 => ⟨S2048x8, .f32⟩
  | 44 => ⟨S2048x8, .f32⟩
  | 45 => ⟨S1x2048x1x8, .f32⟩
  | 46 => ⟨S2048x8, .f32⟩
  | 47 => ⟨S1x2048x1x8, .f32⟩
  | 48 => ⟨S65536x1024, .f32⟩
  | 49 => ⟨S32x2048x16x64, .f32⟩
  | 50 => ⟨S32x2048x16x8, .f32⟩
  | 51 => ⟨S32x2048x16x8, .f32⟩
  | 52 => ⟨S32x2048x16x8, .f32⟩
  | 53 => ⟨S32x2048x16x8, .f32⟩
  | 54 => ⟨S32x2048x16x8, .f32⟩
  | 55 => ⟨S32x2048x16x8, .f32⟩
  | 56 => ⟨S32x2048x16x8, .f32⟩
  | 57 => ⟨S32x2048x16x8, .f32⟩
  | 58 => ⟨S32x2048x16x8, .f32⟩
  | 59 => ⟨S32x2048x16x8, .f32⟩
  | 60 => ⟨S32x2048x16x8, .f32⟩
  | 61 => ⟨S32x2048x16x8, .f32⟩
  | 62 => ⟨S32x2048x16x48, .f32⟩
  | 63 => ⟨S32x2048x16x64, .f32⟩
  | 64 => ⟨S65536x1024, .f32⟩
  | 65 => ⟨S_, .f32⟩
  | 66 => ⟨S65536x1024, .f32⟩
  | 67 => ⟨S65536x1024, .f32⟩
  | 68 => ⟨S65536x48, .f32⟩
  | 69 => ⟨S_, .i32⟩
  | 70 => ⟨S_, .f32⟩
  | 71 => ⟨S65536x128, .f32⟩
  | 72 => ⟨S65536x128, .f32⟩
  | 73 => ⟨S65536x128, .f32⟩
  | 74 => ⟨S_, .f32⟩
  | 75 => ⟨S65536x128, .f32⟩
  | 76 => ⟨S65536x128, .f32⟩
  | 77 => ⟨S_, .f32⟩
  | 78 => ⟨S65536x128, .f32⟩
  | 79 => ⟨S65536x128, .f32⟩
  | 80 => ⟨S32x2048x2x4x64, .f32⟩
  | 81 => ⟨S65536x512, .f32⟩
  | 82 => ⟨S65536x1024, .bf16⟩
  | 83 => ⟨S65536x128, .f32⟩
  | 84 => ⟨S65536x128, .f32⟩
  | 85 => ⟨S65536x128, .f32⟩
  | 86 => ⟨S65536x128, .f32⟩
  | 87 => ⟨S32x2048x1x4x64, .f32⟩
  | 88 => ⟨S32x2048x4x64, .f32⟩
  | 89 => ⟨S32x2048x4x8, .f32⟩
  | 90 => ⟨S32x2048x4x8, .f32⟩
  | 91 => ⟨S32x2048x4x8, .f32⟩
  | 92 => ⟨S32x2048x4x8, .f32⟩
  | 93 => ⟨S32x2048x4x8, .f32⟩
  | 94 => ⟨S32x2048x4x8, .f32⟩
  | 95 => ⟨S32x2048x4x8, .f32⟩
  | 96 => ⟨S32x2048x4x8, .f32⟩
  | 97 => ⟨S32x2048x4x8, .f32⟩
  | 98 => ⟨S32x2048x4x8, .f32⟩
  | 99 => ⟨S32x2048x4x8, .f32⟩
  | 100 => ⟨S32x2048x4x8, .f32⟩
  | 101 => ⟨S32x2048x4x48, .f32⟩
  | 102 => ⟨S32x2048x4x64, .f32⟩
  | 103 => ⟨S32x4x2048x64, .f32⟩
  | 104 => ⟨S32x4x2048x64, .bf16⟩
  | 105 => ⟨S32x2048x1x4x64, .f32⟩
  | 106 => ⟨S32x2048x4x64, .f32⟩
  | 107 => ⟨S32x4x2048x64, .f32⟩
  | 108 => ⟨S32x4x2048x64, .bf16⟩
  | 109 => ⟨S32x2048x1x4x64, .f32⟩
  | 110 => ⟨S32x2048x4x64, .f32⟩
  | 111 => ⟨S32x2048x4x8, .f32⟩
  | 112 => ⟨S32x2048x4x8, .f32⟩
  | 113 => ⟨S32x2048x4x8, .f32⟩
  | 114 => ⟨S32x2048x4x8, .f32⟩
  | 115 => ⟨S32x2048x4x8, .f32⟩
  | 116 => ⟨S32x2048x4x8, .f32⟩
  | 117 => ⟨S32x2048x4x8, .f32⟩
  | 118 => ⟨S32x2048x4x8, .f32⟩
  | 119 => ⟨S32x2048x4x8, .f32⟩
  | 120 => ⟨S32x2048x4x8, .f32⟩
  | 121 => ⟨S32x2048x4x8, .f32⟩
  | 122 => ⟨S32x2048x4x8, .f32⟩
  | 123 => ⟨S32x2048x4x48, .f32⟩
  | 124 => ⟨S32x2048x4x64, .f32⟩
  | 125 => ⟨S32x4x2048x64, .f32⟩
  | 126 => ⟨S32x4x2048x64, .bf16⟩
  | 127 => ⟨S32x2048x1x4x64, .f32⟩
  | _ => ⟨S65536x1024, .f32⟩

abbrev hbmTy0_1 (i : Nat) : BufTy := match i % 128 with
  | 0 => ⟨S32x2048x4x64, .f32⟩
  | 1 => ⟨S32x4x2048x64, .f32⟩
  | 2 => ⟨S32x4x2048x64, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_c : Ref sig .tc := ⟨.hbm, 69, rfl⟩
abbrev main_call0_v0 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_5 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩

abbrev nD : Nat := 1
abbrev τ : Topo := Topo.v7x

variable {F : FTy → Type} [FloatOps F]
-- ==== Proof.Rows.lean ====
/- The rows of the two arrays that the dispatch call copies between: the row of a token in the token array, the row
   that the position table names for it in the destination, and the arrays held row by row. -/
module

public import proofs.«01_k».proof.Proof.Gen.KernelIdeal.Skeleton
public import proofs.«01_k».proof.Proof.Gen.KernelIdeal.Launch
public import proofs.«01_k».proof.Proof.Gen.KernelIdeal.Loops
public import Idealize.ShloMosaic.Lib.Batch
public import Idealize.ShloMosaic.Lib.Ring
public import Idealize.ShloMosaic.Lib.Tactic
public import Idealize.ShloMosaic.Lib.Pipeline.FrameValue

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of the position table, of the token array and of the destination. -/
abbrev Table : Type := S65536.Idx → BitVec 32
abbrev Tokens (F : FTy → Type) : Type := S65536x1152.Idx → Elt F .f32
abbrev Sorted (F : FTy → Type) : Type := S79872x1152.Idx → Elt F .f32

/-- Token `t`'s place in the position table. -/
def at1 (t : Fin 65536) : S65536.Idx := fun a => ⟨t.val, by fin_cases a; exact t.isLt⟩
/-- Entry `l` of token `t`'s row. -/
def at2 (t : Fin 65536) (l : Fin 1152) : S65536x1152.Idx :=
  fun a => match a with
    | ⟨0, _⟩ => ⟨t.val, t.isLt⟩
    | ⟨1, _⟩ => ⟨l.val, l.isLt⟩

/-- The row that the table names for token `t`. -/
def pos (T : Table) (t : Fin 65536) : ℕ := (T (at1 t)).toNat

/-- A table that names rows of the destination, a different one for each token. -/
structure Placed (T : Table) : Prop where
  lt : ∀ t, pos T t < 79872
  inj : ∀ s t, pos T s = pos T t → s = t

/-- The destination with the rows of the first `n` tokens written over `Z`. -/
def scat (T : Table) (X : Tokens F) (Z : Sorted F) (n : ℕ) : Sorted F := fun y =>
  open Classical in
  if h : ∃ t : Fin 65536, t.val < n ∧ pos T t = (y 0).val then X (at2 h.choose ⟨(y 1).val, (y 1).isLt⟩) else Z y

theorem scat_row {T : Table} (hT : Placed T) (X : Tokens F) (Z : Sorted F) (n : ℕ) (t : Fin 65536) (ht : t.val < n)
    (y : S79872x1152.Idx) (hy : (y 0).val = pos T t) : scat T X Z n y = X (at2 t ⟨(y 1).val, (y 1).isLt⟩) := by
  have h : ∃ t : Fin 65536, t.val < n ∧ pos T t = (y 0).val := ⟨t, ht, hy.symm⟩
  unfold scat
  rw [dif_pos h, hT.inj h.choose t (h.choose_spec.2.trans hy)]

theorem scat_rest (T : Table) (X : Tokens F) (Z : Sorted F) (n : ℕ) (y : S79872x1152.Idx)
    (hy : ∀ t : Fin 65536, t.val < n → pos T t ≠ (y 0).val) : scat T X Z n y = Z y := by
  unfold scat
  rw [dif_neg fun ⟨t, h, e⟩ => hy t h e]

theorem scat_zero (T : Table) (X : Tokens F) (Z : Sorted F) : scat T X Z 0 = Z :=
  funext fun y => scat_rest T X Z 0 y fun _ h => absurd h (Nat.not_lt_zero _)

/-- Writing further tokens leaves the rows that none of them names. -/
theorem scat_same {T : Table} (hT : Placed T) (X : Tokens F) (Z : Sorted F) (n k : ℕ) (y : S79872x1152.Idx)
    (hy : ∀ t : Fin 65536, n ≤ t.val → t.val < n + k → pos T t ≠ (y 0).val) :
    scat T X Z (n + k) y = scat T X Z n y := by
  by_cases h : ∃ t : Fin 65536, t.val < n ∧ pos T t = (y 0).val
  · obtain ⟨t, ht, e⟩ := h
    rw [scat_row hT X Z (n + k) t (by omega) y e.symm, scat_row hT X Z n t ht y e.symm]
  · rw [scat_rest T X Z n y fun t ht e => h ⟨t, ht, e⟩, scat_rest T X Z (n + k) y fun t ht e => ?_]
    by_cases hn : t.val < n
    · exact h ⟨t, hn, e⟩
    · exact hy t (by omega) ht e

/-- The elements of a row of the destination, and of a row of the token array. -/
def dstRow (p : ℕ) : Finset S79872x1152.Idx := Finset.univ.filter fun y => (y 0).val = p
def srcRow (t : ℕ) : Finset S65536x1152.Idx := Finset.univ.filter fun y => (y 0).val = t

theorem mem_dstRow (p : ℕ) (y : S79872x1152.Idx) : y ∈ dstRow p ↔ (y 0).val = p := by
  simp only [dstRow, Finset.mem_filter, Finset.mem_univ, true_and]
theorem mem_srcRow (t : ℕ) (y : S65536x1152.Idx) : y ∈ srcRow t ↔ (y 0).val = t := by
  simp only [srcRow, Finset.mem_filter, Finset.mem_univ, true_and]

theorem dstRow_disjoint {p q : ℕ} (h : p ≠ q) : Disjoint (dstRow p) (dstRow q) :=
  Finset.disjoint_left.mpr fun y hp hq => h (((mem_dstRow p y).mp hp).symm.trans ((mem_dstRow q y).mp hq))
theorem srcRow_disjoint {s t : ℕ} (h : s ≠ t) : Disjoint (srcRow s) (srcRow t) :=
  Finset.disjoint_left.mpr fun y hp hq => h (((mem_srcRow s y).mp hp).symm.trans ((mem_srcRow t y).mp hq))

/-- A one-row slice of the destination has the elements of its row. -/
theorem dst_rect (o : Fin 2 → ℕ) (h : ∀ a, o a + S1x1152.size a ≤ S79872x1152.size a) (h1 : o 1 = 0) :
    (Rect.unit (s := S79872x1152) o S1x1152.size h).set = dstRow (o 0) := by
  ext y
  rw [Rect.mem_set_unit, mem_dstRow]
  have l : (y 1).val < 1152 := (y 1).isLt
  constructor
  · intro H
    have a0 : o 0 ≤ (y 0).val ∧ (y 0).val < o 0 + 1 := H 0
    omega
  · intro H a
    fin_cases a
    · show o 0 ≤ (y 0).val ∧ (y 0).val < o 0 + 1; omega
    · show o 1 ≤ (y 1).val ∧ (y 1).val < o 1 + 1152; omega

/-- A one-row slice of the token array has the elements of its row. -/
theorem src_rect (o : Fin 2 → ℕ) (h : ∀ a, o a + S1x1152.size a ≤ S65536x1152.size a) (h1 : o 1 = 0) :
    (Rect.unit (s := S65536x1152) o S1x1152.size h).set = srcRow (o 0) := by
  ext y
  rw [Rect.mem_set_unit, mem_srcRow]
  have l : (y 1).val < 1152 := (y 1).isLt
  constructor
  · intro H
    have a0 : o 0 ≤ (y 0).val ∧ (y 0).val < o 0 + 1 := H 0
    omega
  · intro H a
    fin_cases a
    · show o 0 ≤ (y 0).val ∧ (y 0).val < o 0 + 1; omega
    · show o 1 ≤ (y 1).val ∧ (y 1).val < o 1 + 1152; omega

/-- The token that trip `k` of point `i` moves. -/
def token (i : Fin 64) (k : Fin 1024) : Fin 65536 := ⟨1024 * i.val + k.val, by have := i.isLt; have := k.isLt; omega⟩

theorem token_inj (i : Fin 64) {j k : Fin 1024} (h : token i j = token i k) : j = k := by
  have := congrArg Fin.val h
  simp only [token] at this
  exact Fin.ext (by omega)

end Cert.Dispatch

end
-- ==== Proof.Body.lean ====
/- What the dispatch kernel's body does at one grid point: the first loop starts one copy a trip, of a token's row
   into the row of the destination that the position table names, all on one semaphore; the second loop waits for
   the copies one row at a time. After the last wait every row has arrived. -/
module

public import proofs.«01_k».proof.Proof.Rows

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The position table, the token array and the destination as the body holds them. -/
abbrev tabM : Memref sig .tc .smem S65536 .i32 := Memref.whole main_arg0
abbrev srcM : Memref sig .tc .hbm S65536x1152 .f32 := Memref.whole main_arg1
abbrev dstM : Memref sig .tc .hbm S79872x1152 .f32 := Memref.whole main_v0

theorem trips1 : k0_t1_loop.trips = 1024 := by decide
theorem trips2 : k0_t2_loop.trips = 1024 := by decide

/-- The slices that a trip copies between. -/
abbrev dstS (w : BitVec 32) (h : k0_chk1 w) : Memref sig .tc .hbm S1x1152 .f32 :=
  dstM.slice (Rect.unit (s := S79872x1152) (k0_off2 w) S1x1152.size (k0_off2_inb w h)) (fun _ => rfl)
abbrev srcS (i : grid0.Coords) (k : Fin k0_t1_loop.trips) : Memref sig .tc .hbm S1x1152 .f32 :=
  srcM.slice (Rect.unit (s := S65536x1152) (k0_off3 i k) S1x1152.size (k0_off3_inb i k)) (fun _ => rfl)

/-- What one row's copy adds to the semaphore. -/
def credit : ℕ := RefSig.tileCredit S1x1152 .f32
theorem credit_eq (w : BitVec 32) (h : k0_chk1 w) : (dstS w h).view.amount (.dma cc0_scratch0.sem) = credit := rfl
theorem credit_pos : 0 < credit := RefSig.tileCredit_pos _ _ (by decide)

theorem dstS_set (w : BitVec 32) (h : k0_chk1 w) : (dstS w h).view.set = dstRow w.toNat :=
  (View.set_slice_whole _ _).trans (dst_rect _ (k0_off2_inb w h) rfl)

theorem srcS_set (i : grid0.Coords) (k : Fin k0_t1_loop.trips) :
    (srcS i k).view.set = srcRow (1024 * (i 0).val + k.val) :=
  (View.set_slice_whole _ _).trans ((src_rect _ (k0_off3_inb i k) (by rw [k0_off3_eq]; rfl)).trans (by rw [k0_off3_eq]; rfl))

/-- A copied row holds the token's row. -/
theorem copied (i : grid0.Coords) (k : Fin k0_t1_loop.trips) (w : BitVec 32) (h : k0_chk1 w) (X : Tokens F) (Y Y' : Sorted F)
    (t : Fin 65536) (ht : t.val = 1024 * (i 0).val + k.val)
    (hY : ∀ y : S79872x1152.Idx, (y 0).val = w.toNat → Y' y = X (at2 t ⟨(y 1).val, (y 1).isLt⟩)) :
    ∀ y ∈ (dstS w h).view.set, (dstS w h).view.write (Elt F) Y ((srcS i k).view.read (Elt F) X) Finset.univ y = Y' y := by
  intro y hy
  obtain ⟨x, -, rfl⟩ := Finset.mem_map.mp hy
  rw [View.write_emb_of_mem (h := Finset.mem_univ x), hY _ ((mem_dstRow _ _).mp ((dstS_set w h) ▸ hy))]
  show X ((srcS i k).view.emb x) = X _
  congr 1
  have e0 : ((srcS i k).view.emb x 0).val = (k0_off3 i k) 0 + (x 0).val := by
    show (k0_off3 i k) 0 + 1 * (x 0).val = _; omega
  have e1 : ((srcS i k).view.emb x 1).val = (k0_off3 i k) 1 + (x 1).val := by
    show (k0_off3 i k) 1 + 1 * (x 1).val = _; omega
  have d1 : ((dstS w h).view.emb x 1).val = (x 1).val := by
    show 0 + 1 * (x 1).val = _; omega
  rw [k0_off3_eq] at e0 e1
  have x0 : (x 0).val < 1 := (x 0).isLt
  funext a
  apply Fin.ext
  fin_cases a
  · refine e0.trans ?_
    show 1024 * (i 0).val + k.val + (x 0).val = t.val
    omega
  · refine e1.trans ?_
    show 0 + (x 1).val = ((dstS w h).view.emb x 1).val
    omega

section Loops

variable (c : Dev nD) (i : grid0.Coords) (T : Table) (X : Tokens F) (Y Y' : Sorted F)

/-- The token of trip `j`. -/
abbrev tok (j : Fin 1024) : Fin 65536 := token (i 0) j

/-- The two rows that trip `j` copies between, the destination's holding `Y`. -/
def rows (Y : Sorted F) (j : Fin 1024) : sProp 𝕄 :=
  iprop((dstM.view.loc (c : Thread nD τ) ↦[dstRow (pos T (tok i j))]{fullShare} Y)
    ∗ (srcM.view.loc (c : Thread nD τ) ↦[srcRow (tok i j).val]{fullShare} X))

instance rows_storable (Y : Sorted F) (j : Fin 1024) : BI.Storable (upEmb : UEmb _ 𝕄) (rows c i T X Y j) := by
  unfold rows; infer_instance

/-- The copies of one grid point: `k` started, `u` units waited for. -/
abbrev batch (k u : ℕ) : sProp 𝕄 :=
  Transfers.Batch (countersEmb (U := Pipeline.UD sig nD τ)) (c : Thread nD τ) (.dma cc0_scratch0.sem) () credit (rows c i T X Y') k u

/-- Before trip `k` of the first loop: the table, `k` copies started, the rows of the later trips still in hand. -/
def issueAt (k : ℕ) (_ : PUnit) : sProp 𝕄 :=
  iprop((tabM.view.loc (c : Thread nD τ) ↦{fullShare.right} T) ∗ batch c i T X Y' k 0
    ∗ bigSep (Transfers.pending k) (rows c i T X Y))

theorem word_eq (k : Fin k0_t1_loop.trips) (h1 h2) :
    View.readAt (Elt F) tabM.view (Rect.unit (s := S65536) (k0_off1 i k) S1.size h1).toLoadRect T (Shape.Idx.first h2)
      = T (at1 (tok i ⟨k.val, k.isLt.trans_eq trips1⟩)) := by
  rw [View.readAt_apply]
  show T _ = T _
  congr 1
  funext a
  apply Fin.ext
  fin_cases a
  show k0_off1 i k 0 + 1 * 0 = 1024 * (i 0).val + k.val
  rw [k0_off1_eq]
  show 1024 * (i 0).val + k.val + 1 * 0 = _
  omega

/-- The words of a table that names rows of the destination pass the body's check. -/
theorem chk_of (hT : Placed T) (t : Fin 65536) : k0_chk1 (T (at1 t)) := by
  have := hT.lt t
  intro a
  fin_cases a
  · show (T (at1 t)).toNat + 1 ≤ 79872; unfold pos at this; omega
  · show 0 + 1152 ≤ 1152; omega

/-- A trip's two rows are the slices that it copies between. -/
theorem rows_slices (Y : Sorted F) (k : Fin k0_t1_loop.trips) (hk : k.val < 1024) (hc : k0_chk1 (T (at1 (tok i ⟨k.val, hk⟩)))) :
    (rows c i T X Y ⟨k.val, hk⟩ : sProp 𝕄)
      = iprop(((dstS _ hc).view.loc (c : Thread nD τ) ↦[(dstS _ hc).view.set]{fullShare} Y)
          ∗ ((srcS i k).view.loc (c : Thread nD τ) ↦[(srcS i k).view.set]{fullShare} X)) := by
  unfold rows
  rw [srcS_set, dstS_set]
  rfl

set_option backward.isDefEq.respectTransparency.types false in
/-- One trip of the first loop. -/
theorem issue_step (hT : Placed T)
    (hY : ∀ (j : Fin 1024) (y : S79872x1152.Idx), (y 0).val = pos T (tok i j) → Y' y = X (at2 (tok i j) ⟨(y 1).val, (y 1).isLt⟩))
    (k : Fin k0_t1_loop.trips) (acc : PUnit) :
    issueAt c i T X Y Y' k acc ⊢
      wp frame (wpE (defs₀ (F := F)) Variants.none (c : Thread nD τ) none) Set.univ
        (k0_t1_body (F := F) i tabM (Memref.isWhole_whole _) srcM (Memref.isWhole_whole _) dstM (Memref.isWhole_whole _) dstM (Memref.isWhole_whole _) cc0_scratch0 k acc)
        (issueAt c i T X Y Y' (k.val + 1)) := by
  have hk : k.val < 1024 := k.isLt.trans_eq trips1
  unfold issueAt
  rw [Transfers.bigSep_pending_step _ k.val hk]
  sl_unfold [k0_t1_body]
  iintro ⟨HT, HB, Hr, Hrs⟩
  sl_exec
  have e : (issue_step.sl.r (F := F) i T k : BitVec 32) = T (at1 (tok i ⟨k.val, hk⟩)) := by
    delta issue_step.sl.r
    exact word_eq i T k _ _
  rw [e]
  have hc := chk_of T hT (tok i ⟨k.val, hk⟩)
  rw [wp_assume_of _ _ _ _ hc]
  ihave Hr' := (Entails.of_eq (rows_slices c i T X Y k hk hc)) $$ Hr
  icases Hr' with ⟨Hd, Hs⟩
  iapply (Transfers.wp_dmaBatch (countersEmb (U := Pipeline.UD sig nD τ)) Variants.none (c : Thread nD τ) none
    (src := srcS i k) (via := .same) (dst := dstS _ hc) (Sd := (dstS _ hc).view.set) (fd := Y) (fs := X) (q := fullShare)
    (D := rows c i T X Y') (j := k.val) (u := 0) () credit (credit_eq _ hc) (Finset.Subset.refl _) hk (Nat.zero_le _)
    (by
      rw [rows_slices c i T X Y' k hk hc, ReadAs.apply_same, pointsTo_congr (copied i k _ hc X Y Y' (tok i ⟨k.val, hk⟩) rfl (hY ⟨k.val, hk⟩))])) $$ [Hs Hd HB]
  · isplitl [Hs]; · iexact Hs
    isplitl [Hd]; · iexact Hd
    iexact HB
  iintro HB
  rw [show (Prog.ret PUnit.unit : Prog (TpuEff nD τ sig (Elt F) Λ₀ .tc) PUnit).bind (fun __r => Pure.pure PUnit.unit) = Pure.pure PUnit.unit from rfl]
  sl_step
  isplitl [HT]; · iexact HT
  isplitl [HB]; · iexact HB
  iexact Hrs

/-- The slices that the second loop's waits name. -/
abbrev row0 : Memref sig .tc .hbm S1x1152 .f32 :=
  dstM.slice (Rect.unit (s := S79872x1152) ![0, 0] S1x1152.size inb_S79872x1152_S1x1152_0_0) (fun _ => rfl)

/-- Before trip `k` of the second loop: `k` rows waited for; after the last, the semaphore at zero and every row. -/
def drainAt (k : ℕ) (_ : Unit) : sProp 𝕄 :=
  iprop((∃ W, owes (c : Thread nD τ) 0 W)
    ∗ (if k < 1024 then batch c i T X Y' 1024 (k * credit)
       else iprop(semVal ((c : Thread nD τ), SemLoc.dma cc0_scratch0.sem) 0 ∗ bigSep Finset.univ (rows c i T X Y'))))

set_option backward.isDefEq.respectTransparency.types false in
/-- One trip of the second loop. -/
theorem drain_step (k : Fin k0_t2_loop.trips) (acc : Unit) :
    drainAt c i T X Y' k acc ⊢
      wp frame (wpE (defs₀ (F := F)) Variants.none (c : Thread nD τ) none) Set.univ
        (k0_t2_body (F := F) i tabM (Memref.isWhole_whole _) srcM (Memref.isWhole_whole _) dstM (Memref.isWhole_whole _) dstM (Memref.isWhole_whole _) cc0_scratch0 k acc)
        (drainAt c i T X Y' (k.val + 1)) := by
  have hk : k.val < 1024 := k.isLt.trans_eq trips2
  have hp := credit_pos
  unfold drainAt
  simp only [if_pos hk]
  rcases Nat.lt_or_ge (k.val + 1) 1024 with h1 | h1
  · simp only [if_pos h1]
    have hu : k.val * credit + credit < credit * 1024 := by
      rw [← Nat.succ_mul, Nat.mul_comm credit]
      exact Nat.mul_lt_mul_of_pos_right h1 hp
    sl_unfold [k0_t2_body]
    iintro ⟨⟨%W, HO⟩, HB⟩
    iapply (Transfers.wp_waitBatch (countersEmb (U := Pipeline.UD sig nD τ)) Variants.none (c : Thread nD τ) none
      (dstw := row0) (D := rows c i T X Y') (u := k.val * credit) (W := W) () (N := credit) rfl hu) $$ [HB HO]
    · isplitl [HB]; · iexact HB
      iexact HO
    iintro ⟨HB, HO⟩
    rw [show (Prog.ret PUnit.unit : Prog (TpuEff nD τ sig (Elt F) Λ₀ .tc) PUnit).bind (fun __r => Pure.pure PUnit.unit) = Pure.pure PUnit.unit from rfl]
    sl_step
    isplitl [HO]; · iexists _; iexact HO
    rw [Nat.succ_mul]
    iexact HB
  · simp only [if_neg (Nat.not_lt.mpr h1)]
    have hu : k.val * credit + credit = credit * 1024 := by
      rw [← Nat.succ_mul, Nat.mul_comm credit]
      congr 1
      omega
    sl_unfold [k0_t2_body]
    iintro ⟨⟨%W, HO⟩, HB⟩
    iapply (Transfers.wp_waitBatchLast (countersEmb (U := Pipeline.UD sig nD τ)) Variants.none (c : Thread nD τ) none
      (dstw := row0) (D := rows c i T X Y') (u := k.val * credit) (W := W) () (N := credit) rfl hp hu) $$ [HB HO]
    · isplitl [HB]; · iexact HB
      iexact HO
    iintro ⟨HD, HB, HO⟩
    rw [show (Prog.ret PUnit.unit : Prog (TpuEff nD τ sig (Elt F) Λ₀ .tc) PUnit).bind (fun __r => Pure.pure PUnit.unit) = Pure.pure PUnit.unit from rfl]
    sl_step
    isplitl [HO]; · iexists _; iexact HO
    isplitl [HB]; · iexact HB
    iexact HD

set_option backward.isDefEq.respectTransparency.types false in
/-- The body at one grid point: from the table, the rows of the point's tokens and the semaphore at zero, to the
    table, the rows copied and the semaphore at zero. -/
theorem body_run (hT : Placed T)
    (hY : ∀ (j : Fin 1024) (y : S79872x1152.Idx), (y 0).val = pos T (tok i j) → Y' y = X (at2 (tok i j) ⟨(y 1).val, (y 1).isLt⟩)) :
    iprop((tabM.view.loc (c : Thread nD τ) ↦{fullShare.right} T) ∗ bigSep Finset.univ (rows c i T X Y)
        ∗ semVal ((c : Thread nD τ), SemLoc.dma cc0_scratch0.sem) 0 ∗ (∃ W, owes (c : Thread nD τ) 0 W)) ⊢
      wp frame (wpE (defs₀ (F := F)) Variants.none (c : Thread nD τ) none) Set.univ
        (cc0_moe_dispatch (F := F) i tabM (Memref.isWhole_whole _) srcM (Memref.isWhole_whole _) dstM (Memref.isWhole_whole _) dstM (Memref.isWhole_whole _) cc0_scratch0)
        (fun _ => iprop((tabM.view.loc (c : Thread nD τ) ↦{fullShare.right} T) ∗ bigSep Finset.univ (rows c i T X Y')
          ∗ semVal ((c : Thread nD τ), SemLoc.dma cc0_scratch0.sem) 0 ∗ (∃ W, owes (c : Thread nD τ) 0 W))) := by
  rw [cc0_moe_dispatch_eq_skeleton]
  sl_unfold [cc0_moe_dispatch_skel]
  iintro ⟨HT, HR, HS, HO⟩
  imod (Transfers.batch_alloc' (Lvl := ℕ) (countersEmb (U := Pipeline.UD sig nD τ)) (c : Thread nD τ) () credit (rows c i T X Y')
    (sm := SemLoc.dma cc0_scratch0.sem) (E := Set.univ)) $$ HS with HB
  sl_for (issueAt c i T X Y Y') $$ [HT HB HR]
  · intro k acc; exact issue_step c i T X Y Y' hT hY k acc
  · unfold issueAt
    isplitl [HT]; · iexact HT
    isplitl [HB]; · iexact HB
    rw [← Transfers.bigSep_pending_zero]
    iexact HR
  iintro %acc HL
  rw [show Scf.trips k0_t1_loop.lb k0_t1_loop.ub k0_t1_loop.st = 1024 from trips1]
  unfold issueAt
  icases HL with ⟨HT, HB, -⟩
  sl_for (drainAt c i T X Y') $$ [HB HO]
  · intro k acc; exact drain_step c i T X Y' k acc
  · unfold drainAt
    rw [if_pos (by decide : (0 : ℕ) < 1024), Nat.zero_mul]
    isplitl [HO]; · iexact HO
    iexact HB
  iintro %acc' HL
  rw [show Scf.trips k0_t2_loop.lb k0_t2_loop.ub k0_t2_loop.st = 1024 from trips2]
  unfold drainAt
  rw [if_neg (Nat.lt_irrefl 1024)]
  icases HL with ⟨HO, HS, HD⟩
  sl_step
  isplitl [HT]; · iexact HT
  isplitl [HD]; · iexact HD
  isplitl [HS]; · iexact HS
  iexact HO

end Loops

end Cert.Dispatch

end
-- ==== Proof.Point.lean ====
/- One grid point on whole arrays: the rows of the point's tokens are taken out of the two arrays, copied, and put
   back; the rest of the destination is what it was. -/
module

public import proofs.«01_k».proof.Proof.Body

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (T : Table) (X : Tokens F) (Z : Sorted F)

/-- The elements of the point's rows, in the destination and in the token array. -/
def dstRows : Finset S79872x1152.Idx := Finset.univ.biUnion fun j => dstRow (pos T (tok i j))
def srcRows : Finset S65536x1152.Idx := Finset.univ.biUnion fun j => srcRow (tok i j).val

theorem not_mem_dstRows (y : S79872x1152.Idx) (h : y ∉ dstRows i T) (j : Fin 1024) : pos T (tok i j) ≠ (y 0).val :=
  fun e => h (Finset.mem_biUnion.mpr ⟨j, Finset.mem_univ j, (mem_dstRow _ y).mpr e.symm⟩)

/-- The two arrays are the point's rows beside what is left of each. -/
theorem arrays_rows (hT : Placed T) (Y : Sorted F) :
    (iprop((dstM.view.loc (c : Thread nD τ) ↦{fullShare} Y) ∗ (srcM.view.loc (c : Thread nD τ) ↦{fullShare} X)) : sProp 𝕄)
      ⊣⊢ iprop(bigSep Finset.univ (rows c i T X Y)
          ∗ (dstM.view.loc (c : Thread nD τ) ↦[Finset.univ \ dstRows i T]{fullShare} Y)
          ∗ (srcM.view.loc (c : Thread nD τ) ↦[Finset.univ \ srcRows i]{fullShare} X)) := by
  have e : (bigSep Finset.univ (rows c i T X Y) : sProp 𝕄)
      = iprop((dstM.view.loc (c : Thread nD τ) ↦[dstRows i T]{fullShare} Y)
          ∗ (srcM.view.loc (c : Thread nD τ) ↦[srcRows i]{fullShare} X)) := by
    refine (BI.bigSep_sep Finset.univ (fun j => (dstM.view.loc (c : Thread nD τ) ↦[dstRow (pos T (tok i j))]{fullShare} Y : sProp 𝕄))
      (fun j => (srcM.view.loc (c : Thread nD τ) ↦[srcRow (tok i j).val]{fullShare} X : sProp 𝕄))).trans ?_
    congr 1
    · exact (pointsTo_biUnion (ℓ := dstM.view.loc (c : Thread nD τ)) Finset.univ (fun j => dstRow (pos T (tok i j)))
        (fun s _ t _ h => dstRow_disjoint fun e => h (token_inj _ (hT.inj _ _ e)))).symm
    · exact (pointsTo_biUnion (ℓ := srcM.view.loc (c : Thread nD τ)) Finset.univ (fun j => srcRow (tok i j).val)
        (fun s _ t _ h => srcRow_disjoint fun e => h (token_inj _ (Fin.ext e)))).symm
  have hd : (dstM.view.loc (c : Thread nD τ) ↦{fullShare} Y : sProp 𝕄) ⊣⊢ _ :=
    pointsTo_split_subset (Finset.subset_univ (dstRows i T))
  have hs : (srcM.view.loc (c : Thread nD τ) ↦{fullShare} X : sProp 𝕄) ⊣⊢ _ :=
    pointsTo_split_subset (Finset.subset_univ (srcRows i))
  rw [e]
  constructor
  · iintro ⟨Hd, Hs⟩
    ihave Hd' := hd.1 $$ Hd
    ihave Hs' := hs.1 $$ Hs
    icases Hd' with ⟨Hd1, Hd2⟩
    icases Hs' with ⟨Hs1, Hs2⟩
    isplitl [Hd1 Hs1]
    · isplitl [Hd1]; · iexact Hd1
      iexact Hs1
    isplitl [Hd2]; · iexact Hd2
    iexact Hs2
  · iintro ⟨⟨Hd1, Hs1⟩, Hd2, Hs2⟩
    isplitl [Hd1 Hd2]
    · iapply hd.2
      isplitl [Hd1]; · iexact Hd1
      iexact Hd2
    · iapply hs.2
      isplitl [Hs1]; · iexact Hs1
      iexact Hs2

/-- The destination before grid point `n`: the rows of the tokens before the point's written over `Z`. -/
def dstAt (n : ℕ) : Sorted F := scat T X Z (1024 * n)

/-- The point writes its tokens' rows, -/
theorem dstAt_row (hT : Placed T) (j : Fin 1024) (y : S79872x1152.Idx) (hy : (y 0).val = pos T (tok i j)) :
    dstAt T X Z ((i 0).val + 1) y = X (at2 (tok i j) ⟨(y 1).val, (y 1).isLt⟩) :=
  scat_row hT X Z _ (tok i j) (by have := j.isLt; show 1024 * (i 0).val + j.val < _; omega) y hy

/-- and nothing else. -/
theorem dstAt_rest (hT : Placed T) (y : S79872x1152.Idx) (hy : y ∈ Finset.univ \ dstRows i T) :
    dstAt T X Z (i 0).val y = dstAt T X Z ((i 0).val + 1) y := by
  unfold dstAt
  rw [Nat.mul_succ]
  refine (scat_same hT X Z _ _ y fun t h1 h2 => ?_).symm
  have e : t = tok i ⟨t.val - 1024 * (i 0).val, by omega⟩ :=
    Fin.ext (show t.val = 1024 * (i 0).val + (t.val - 1024 * (i 0).val) by omega)
  rw [e]
  exact not_mem_dstRows i T y (Finset.mem_sdiff.mp hy).2 _

/-- The body at one grid point, on the whole arrays. -/
theorem point_run (hT : Placed T) :
    (iprop((tabM.view.loc (c : Thread nD τ) ↦{fullShare.right} T)
        ∗ (dstM.view.loc (c : Thread nD τ) ↦{fullShare} dstAt T X Z (i 0).val) ∗ (srcM.view.loc (c : Thread nD τ) ↦{fullShare} X)
        ∗ semVal ((c : Thread nD τ), SemLoc.dma cc0_scratch0.sem) 0 ∗ (∃ W, owes (c : Thread nD τ) 0 W)) : sProp 𝕄) ⊢
      wp frame (wpE (defs₀ (F := F)) Variants.none (c : Thread nD τ) none) Set.univ
        (cc0_moe_dispatch (F := F) i tabM (Memref.isWhole_whole _) srcM (Memref.isWhole_whole _) dstM (Memref.isWhole_whole _) dstM (Memref.isWhole_whole _) cc0_scratch0)
        (fun _ => iprop((tabM.view.loc (c : Thread nD τ) ↦{fullShare.right} T)
          ∗ (dstM.view.loc (c : Thread nD τ) ↦{fullShare} dstAt T X Z ((i 0).val + 1)) ∗ (srcM.view.loc (c : Thread nD τ) ↦{fullShare} X)
          ∗ semVal ((c : Thread nD τ), SemLoc.dma cc0_scratch0.sem) 0 ∗ (∃ W, owes (c : Thread nD τ) 0 W))) := by
  iintro ⟨HT, Hd, Hs, HS, HO⟩
  ihave HR := (arrays_rows c i T X hT (dstAt T X Z (i 0).val)).1 $$ [Hd Hs]
  · isplitl [Hd]; · iexact Hd
    iexact Hs
  icases HR with ⟨HR, Hd, Hs⟩
  iapply (wp_wand Idealize.ShloMosaic.frame (wpE (defs₀ (F := F)) Variants.none (c : Thread nD τ) none) Set.univ) $$ [HT HR HS HO]
  · iapply (body_run c i T X (dstAt T X Z (i 0).val) (dstAt T X Z ((i 0).val + 1)) hT (dstAt_row i T X Z hT))
    isplitl [HT]; · iexact HT
    isplitl [HR]; · iexact HR
    isplitl [HS]; · iexact HS
    iexact HO
  iintro %_ ⟨HT, HR, HS, HO⟩
  isplitl [HT]; · iexact HT
  ihave Hd := (Entails.of_eq (pointsTo_congr (dstAt_rest i T X Z hT))) $$ Hd
  ihave HA := (arrays_rows c i T X hT (dstAt T X Z ((i 0).val + 1))).2 $$ [HR Hd Hs]
  · isplitl [HR]; · iexact HR
    isplitl [Hd]; · iexact Hd
    iexact Hs
  icases HA with ⟨Hd, Hs⟩
  isplitl [Hd]; · iexact Hd
  isplitl [Hs]; · iexact Hs
  isplitl [HS]; · iexact HS
  iexact HO

end Cert.Dispatch

end
-- ==== Proof.Run.lean ====
/- The whole program's run: the host fills the destination with zeros, the call's 64 grid points write their tokens'
   rows, and the run ends with the destination scattered, the arguments unchanged and every semaphore at zero. -/
module

public import proofs.«01_k».proof.Proof.Point

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The destination before the call: zeros. -/
def zeros : Sorted F := broadcastInDim S79872x1152 ![] bcast_S_S79872x1152 (constant S_ .f32 0x00000000#32)

/-- Every buffer as the call finds it. -/
abbrev V (c : Dev nD) (b : Ref sig .tc) : Buf (Elt F) ((c : Thread nD τ).loc b) :=
  StableHlo.after hostOps0 (fun b => m (c, b)) b

theorem hostOps_fresh : (hostOps0 (F := F)).Forall fun op => op.fresh = ∅ := ⟨rfl, rfl⟩

theorem hmain (𝒱 : Variants) : Pipeline.HMainP (Ix := Unit) (Name := ℕ) (U := Pipeline.UD sig nD τ) (Lvl := ℕ) (pcfgs (F := F)) 0 defs₀ 𝒱 m main (V m) :=
  Pipeline.hmainP_prefix (pcfgs (F := F)) 0 defs₀ 𝒱 m main hostOps0 hostOps0_sub hostOps_fresh main_chain

abbrev tab (c : Dev nD) : Table := m ((c : Thread nD τ).loc main_arg0)
abbrev xs (c : Dev nD) : Tokens F := m ((c : Thread nD τ).loc main_arg1)

theorem V_arg0 (c : Dev nD) : V m c main_arg0 = tab m c := by
  rfl
theorem V_arg1 (c : Dev nD) : V m c main_arg1 = xs m c := by
  rfl
theorem V_v0 (c : Dev nD) : V m c main_v0 = (zeros : Sorted F) := by
  rfl

/-- The contents of the position table are the call's prefetched table. -/
def adm : (p : Fin 1) → (pcfgs (F := F) p).Adm := fun _ => ⟨fun k => V m 0 (pre0.ref k), trivial⟩

abbrev osem0 : Fin 1 → SemLoc sig := fun j => (![SemLoc.dma cc0_scratch0.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch0.sem) 0 := by
  rw [Pipeline.ownSems0_eq_of_list c osem0 [0] (by decide) (by decide)]; rfl

/-- The buffers the copies read, and the ones they write. -/
def H0 : Finset (Ref sig .tc) := {main_arg1}
def R0 : Finset (Ref sig .tc) := {main_v0}
theorem H0_sub : H0 ⊆ Pipeline.restRefsP sig pre0 spec0 := by decide
theorem R0_sub : R0 ⊆ Pipeline.restRefsP sig pre0 spec0 \ H0 := by decide

theorem read_eq (c : Dev nD) (V : (b : Ref sig .tc) → Buf (Elt F) ((c : Thread nD τ).loc b)) :
    (bigSep H0 (fun b => ((c : Thread nD τ).loc b) ↦{fullShare} V b) : sProp 𝕄)
      = (srcM.view.loc (c : Thread nD τ) ↦{fullShare} V main_arg1) := by
  rw [BI.bigSep_eq_bigSepL_of_eq [main_arg1] (by decide) (by decide)]; rfl
theorem written_eq (c : Dev nD) (V : (b : Ref sig .tc) → Buf (Elt F) ((c : Thread nD τ).loc b)) :
    (Pipeline.routed R0 c V : sProp 𝕄) = (dstM.view.loc (c : Thread nD τ) ↦{fullShare} V main_v0) := by
  unfold Pipeline.routed; rw [BI.bigSep_eq_bigSepL_of_eq [main_v0] (by decide) (by decide)]; rfl
theorem table_eq (c : Dev nD) (v : (k : Fin 1) → (pre0.ref k).ty.Contents (Elt F)) :
    (Pipeline.ΦT pre0 v c : sProp 𝕄) = (tabM.view.loc (c : Thread nD τ) ↦{fullShare.right} v 0) := by
  unfold Pipeline.ΦT Pipeline.prefHeld
  rw [BI.bigSep_eq_bigSepL_of_eq [0] (by decide) (by decide)]; rfl

/-- What a core holds before grid point `n`: the table, the destination with the rows of the points before written, the
    token array, the semaphore at zero. -/
def held (c : Dev nD) (n : ℕ) : sProp 𝕄 :=
  iprop((∃ r, prngReg c r) ∗ (tabM.view.loc (c : Thread nD τ) ↦{fullShare.right} tab m c)
    ∗ (dstM.view.loc (c : Thread nD τ) ↦{fullShare} dstAt (tab m c) (xs m c) zeros n)
    ∗ (srcM.view.loc (c : Thread nD τ) ↦{fullShare} xs m c)
    ∗ semVal ((c : Thread nD τ), SemLoc.dma cc0_scratch0.sem) 0)

/-- The call's proof data: no windows, `held` between the points. -/
def dats (p : Fin 1) (c : Dev nD) : Dat τ (Elt F) Unit ℕ (Pipeline.UD sig nD τ) ℕ (Pipeline.pin pcfgs (adm m) p) c where
  A w := w.elim0
  after w t := w.elim0
  Φ t := held m c t.val
  q _ := fullShare
  owed _ := 0

theorem dstAt_zero (T : Table) (X : Tokens F) (Z : Sorted F) : dstAt T X Z 0 = Z :=
  (congrArg (scat T X Z) (Nat.mul_zero 1024)).trans (scat_zero T X Z)
theorem dstAt_last (T : Table) (X : Tokens F) (Z : Sorted F) : dstAt T X Z 64 = scat T X Z 65536 :=
  congrArg (scat T X Z) (by decide)

theorem phi_cast (c : Dev nD) (t : Fin (Pipeline.pin pcfgs (adm m) 0).N) : (dats m 0 c).Φ t.castSucc = held m c t.val := rfl
theorem phi_succ (c : Dev nD) (t : Fin (Pipeline.pin pcfgs (adm m) 0).N) : (dats m 0 c).Φ t.succ = held m c (t.val + 1) := rfl

theorem coords_val (t : Fin grid0.N) : (grid0.coords t 0).val = t.val := by
  refine (Pipeline.Grid.coords_val (G := grid0) t 0 (S := 1) (B := 64) (by decide) rfl).trans ?_
  have h : t.val < 64 := lt_of_lt_of_eq t.isLt N_0
  omega

theorem sound_body (hT : ∀ c, Placed (tab m c)) (c : Dev nD) (t : Fin grid0.N) :
    (iprop(held m c t.val ∗ (∃ W, owes (c : Thread nD τ) 0 W)) : sProp 𝕄) ⊢
      wp frame (wpE (defs₀ (F := F)) Variants.none (c : Thread nD τ) none) Set.univ
        (cc0_moe_dispatch (F := F) (grid0.coords t) tabM (Memref.isWhole_whole _) srcM (Memref.isWhole_whole _) dstM (Memref.isWhole_whole _) dstM (Memref.isWhole_whole _) cc0_scratch0)
        (fun _ => iprop(held m c (t.val + 1) ∗ (∃ W, owes (c : Thread nD τ) 0 W))) := by
  have h := point_run c (grid0.coords t) (tab m c) (xs m c) zeros (hT c)
  rw [coords_val] at h
  unfold held
  iintro ⟨⟨Hg, HT, Hd, Hs, HS⟩, HO⟩
  iapply (wp_wand Idealize.ShloMosaic.frame (wpE (defs₀ (F := F)) Variants.none (c : Thread nD τ) none) Set.univ) $$ [HT Hd HS Hs HO]
  · iapply h
    isplitl [HT]; · iexact HT
    isplitl [Hd]; · iexact Hd
    isplitl [Hs]; · iexact Hs
    isplitl [HS]; · iexact HS
    iexact HO
  iintro %_ ⟨HT, Hd, Hs, HS, HO⟩
  isplitr [HO]
  · isplitl [Hg]; · iexact Hg
    isplitl [HT]; · iexact HT
    isplitl [Hd]; · iexact Hd
    isplitl [Hs]; · iexact Hs
    iexact HS
  iexact HO

theorem body_obligation (hT : ∀ c, Placed (tab m c)) (c : Dev nD) :
    BodyObligation (dats m 0 c) (defs₀ (F := F)) Variants.none () Set.univ := fun t => by
  have e := sound_body m hT c t
  rw [show defs₀ (F := F) .tc (Pipeline.pin pcfgs (adm m) 0).body ((Pipeline.pin pcfgs (adm m) 0).bodyArgs t ((Pipeline.pin pcfgs (adm m) 0).slots t))
      = cc0_moe_dispatch (F := F) (grid0.coords t) tabM (Memref.isWhole_whole _) srcM (Memref.isWhole_whole _) dstM (Memref.isWhole_whole _) dstM (Memref.isWhole_whole _) cc0_scratch0
      from by unfold defs₀; rw [Defs.onTc_tc]]
  rw [phi_cast, phi_succ]
  iintro ⟨Hh, HO, -⟩
  iapply (wp_wand Idealize.ShloMosaic.frame (wpE (defs₀ (F := F)) Variants.none (c : Thread nD τ) none) Set.univ) $$ [Hh HO]
  · iapply e
    isplitl [Hh]; · iexact Hh
    unfold Dat.owesAt Pipeline.owesWithin
    icases HO with ⟨%W, -, HW⟩
    iexists W
    iexact HW
  iintro %_ ⟨Hh, ⟨%W, HW⟩⟩
  isplitl [Hh]; · iexact Hh
  isplitl [HW]
  · unfold Dat.owesAt Pipeline.owesWithin
    iexists W
    isplitr; · ipureintro; exact fun _ _ => Or.inl trivial
    iexact HW
  rw [show (Finset.univ : Finset (Fin (Pipeline.pin pcfgs (adm m) 0).W)) = ∅ from rfl, BI.bigSep_empty]
  iempintro

/-- What the buffers hold at the end: the destination every token's row, everything else what it held before the call. -/
def G (c : Dev nD) (b : Ref sig .tc) : Buf (Elt F) ((c : Thread nD τ).loc b) :=
  Function.update (V m c) main_v0 (scat (tab m c) (xs m c) zeros 65536) b
theorem G_v0 (c : Dev nD) : G m c main_v0 = scat (tab m c) (xs m c) zeros 65536 := Function.update_self ..

/-- The table the region is entered with is the argument. -/
theorem adm_tab (c : Dev nD) : (adm m 0).1 0 = tab m c := by
  obtain rfl := Subsingleton.elim c 0
  exact V_arg0 m 0

theorem hin (c : Dev nD) :
    (iprop(Pipeline.ΦDRG osem0 (Pipeline.pin pcfgs (adm m) 0).spec H0 R0 (V m) (V m) c ∗ Pipeline.ΦT (pcfgs (F := F) 0).pre (adm m 0).1 c) : sProp 𝕄)
      ⊢ (dats m 0 c).Φ 0 := by
  rw [Pipeline.ΦDRG_eq]
  iintro ⟨⟨-, Hg, HS, Hs, Hd⟩, HT⟩
  ihave HS' := (Entails.of_eq (ownSems00_eq c)) $$ HS
  ihave Hs' := (Entails.of_eq (read_eq c (V m c))) $$ Hs
  ihave Hd' := (Entails.of_eq (written_eq c (V m c))) $$ Hd
  ihave HT' := (Entails.of_eq ((table_eq c (adm m 0).1).trans
    (congrArg (fun f => ((tabM.view.loc (c : Thread nD τ) ↦{fullShare.right} f) : sProp 𝕄)) (adm_tab m c)))) $$ HT
  iapply (Entails.of_eq (show (iprop((∃ r, prngReg c r) ∗ (tabM.view.loc (c : Thread nD τ) ↦{fullShare.right} tab m c)
    ∗ (dstM.view.loc (c : Thread nD τ) ↦{fullShare} dstAt (tab m c) (xs m c) zeros 0)
    ∗ (srcM.view.loc (c : Thread nD τ) ↦{fullShare} xs m c)
    ∗ semVal ((c : Thread nD τ), SemLoc.dma cc0_scratch0.sem) 0) : sProp 𝕄) = (dats m 0 c).Φ 0 from rfl))
  ihave Hd2 := (Entails.of_eq (congrArg (fun f => ((dstM.view.loc (c : Thread nD τ) ↦{fullShare} f) : sProp 𝕄))
    ((V_v0 m c).trans (dstAt_zero (tab m c) (xs m c) zeros).symm))) $$ Hd'
  isplitl [Hg]; · iexact Hg
  isplitl [HT']; · iexact HT'
  isplitl [Hd2]; · iexact Hd2
  isplitl [Hs']; · iexact Hs'
  iexact HS'

theorem hout (c : Dev nD) :
    (dats m 0 c).Φ (Fin.last (Pipeline.pin pcfgs (adm m) 0).N)
      ⊢ (Pipeline.ΦDRG osem0 (Pipeline.pin pcfgs (adm m) 0).spec H0 R0 (V m) (G m) c : sProp 𝕄) := by
  rw [Pipeline.ΦDRG_eq]
  have e : (dats m 0 c).Φ (Fin.last (Pipeline.pin pcfgs (adm m) 0).N) = held m c 64 :=
    congrArg (held m c) N_0
  rw [e]
  unfold held
  iintro ⟨Hg, -, Hd, Hs, HS⟩
  isplitr
  · iapply (Entails.of_eq (scopedRest0_eq c).symm)
    iempintro
  isplitl [Hg]; · iexact Hg
  isplitl [HS]; · iapply (Entails.of_eq (ownSems00_eq c).symm); iexact HS
  isplitl [Hs]; · iapply (Entails.of_eq (read_eq c (V m c)).symm); iexact Hs
  iapply (Entails.of_eq (written_eq c (G m c)).symm)
  iapply (Entails.of_eq (show ((dstM.view.loc (c : Thread nD τ) ↦{fullShare} dstAt (tab m c) (xs m c) zeros 64) : sProp 𝕄)
      = (dstM.view.loc (c : Thread nD τ) ↦{fullShare} G m c main_v0) from by
        rw [G_v0, dstAt_last]))
  iexact Hd

set_option backward.isDefEq.respectTransparency.types false in
theorem run_main (hT : ∀ c, Placed (tab m c)) (ρ : Dev nD → PrngReg) :
    θ_run (defs (F := F)) (onTc (τ := τ) (main (F := F))) (s₀ m ρ)
      (fun r => Pipeline.FramePostRG (Pipeline.pin pcfgs (adm m)) (dats m) 0 R0 (V m) (G m) r ∧ r.2.sem = fun _ => 0) :=
  Pipeline.θ_run_frameP_dmaRG (Q' := _) pcfgs (adm m) (dats m) (0 : Fin 1) launch0 osem0 defs₀ Variants.none ownSemFacts0 H0 R0 H0_sub R0_sub m ρ main
    (hbody := fun c => (body_obligation m hT c).loose) (hshare := fun c => (dats m 0 c).share_full fun _ => rfl)
    (howed := fun _ _ => rfl) (V := V m) (hmain := hmain m Variants.none) (hA := fun _ w => w.elim0)
    (hpf := fun c k => by obtain rfl := Subsingleton.elim c 0; rfl) (G := G m)
    (hin := hin m) (hout := hout m)

/-- The kernel's program ends, on every core, with every token's row at the place that the table names for it over
    zeros, the arguments unchanged and every semaphore at zero. -/
theorem run (hT : ∀ c, Placed (tab m c)) (ρ : Dev nD → PrngReg) :
    θ_run (defs (F := F)) (onTc (τ := τ) (main (F := F))) ⟨m, fun _ => 0, ρ⟩ fun r =>
      (∀ c : Dev nD, r.2.mem ((c.tc : Thread nD τ).loc main_v0)
          = scat (m ((c.tc : Thread nD τ).loc main_arg0)) (m ((c.tc : Thread nD τ).loc main_arg1)) zeros 65536
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run (defs (F := F)) _ _).mono (fun r h => ⟨fun c => ⟨
      (Pipeline.FramePostRG.written h.1 c (b := main_v0) (by decide)).trans (G_v0 m c),
      (((Pipeline.FramePostRG.toR h.1) c).2 main_arg0 (Finset.mem_sdiff.mpr ⟨Pipeline.mem_restRefs_of main_arg0 (by decide) (fun w => w.elim0), by decide⟩)).trans (V_arg0 m c),
      (((Pipeline.FramePostRG.toR h.1) c).2 main_arg1 (Finset.mem_sdiff.mpr ⟨Pipeline.mem_restRefs_of main_arg1 (by decide) (fun w => w.elim0), by decide⟩)).trans (V_arg1 m c)⟩, h.2⟩)
    (run_main m hT ρ)

end Cert.Dispatch

end
-- ==== Proof.Positions.lean ====
/- The precondition in plain words: every entry of the position table names a row of the destination, and two tokens
   never the same one. -/
module

public import proofs.«01_k».proof.Proof.Rows
public import proofs.«01_k».proof.Pre_placed
public import Idealize.ShloMosaic.Lib.ValueIdxCore

@[expose] public section

set_option maxRecDepth 16384

noncomputable section

namespace Cert.Dispatch

open Cert.Pre_placed
open Idealize.ShloMosaic

/-- The shape facts that the precondition's text states. -/
instance placedFacts : Cert.Pre_placed.Facts where
  bcast_S_S79872 := by decide
  bcast_S_S65536 := by decide
  bcast_S65536_S65536x1_0 := by decide
  scatter_S79872_S65536x1_S65536_n_0_0_1_wf := by decide
  gather_S79872_S65536x1_S65536_n_0_n_n_0_1_1_wf := by decide

open Cert.Pre_placed.Facts

theorem and_bits (a b : BitVec 1) (h : IntOp.andi a b = 1#1) : a = 1#1 ∧ b = 1#1 := by
  revert h; revert a b; decide

theorem ofBool_true {b : Bool} (h : BitVec.ofBool b = 1#1) : b = true := by
  cases b
  · exact absurd h (by decide)
  · rfl

theorem eq_of_bits (a b : BitVec 32) (h : IntOp.cmpi .eq a b = 1#1) : a = b := by
  have h := ofBool_true h
  exact eq_of_beq h

/-- The index `(t, 0)` at which token `t`'s index word is read. -/
def word (t : S65536.Idx) : S65536x1.Idx := fun a => match a with
  | ⟨0, _⟩ => ⟨(t 0).val, (t 0).isLt⟩
  | ⟨1, _⟩ => ⟨0, Nat.one_pos⟩

/-- A vector laid out as one column, read at a token. -/
theorem column_at {α : Type} (x : S65536.Idx → α) (t : Fin 65536) :
    broadcastInDim S65536x1 ![0] bcast_S65536_S65536x1_0 x (word (at1 t)) = x (at1 t) := by
  unfold broadcastInDim
  congr 1
  funext a
  obtain rfl : a = 0 := Subsingleton.elim (α := Fin 1) _ _
  rw [dif_neg (by decide)]
  rfl

/-- The gather of one entry per token reads the table at a place that depends on the token's index word alone. -/
theorem gather_congr {α : Type} (x : S79872.Idx → α) (idx : IVec S65536x1 32) (s t : S65536.Idx) (h : idx (word s) = idx (word t)) :
    Host.gather gather_S79872_S65536x1_S65536_n_0_n_n_0_1_1 x idx s = Host.gather gather_S79872_S65536x1_S65536_n_0_n_n_0_1_1 x idx t := by
  have hs : ∀ y : S65536.Idx, ∀ k, (gather_S79872_S65536x1_S65536_n_0_n_n_0_1_1).siIdx y k = word y := by
    intro y k
    funext b
    refine Fin.ext ?_
    match b with
    | ⟨0, _⟩ => rfl
    | ⟨1, _⟩ =>
      have : ∀ q : Fin (S65536x1.size 1), q.val = 0 := fun q => by have := q.isLt; simp at this; omega
      exact (this _).trans (this _).symm
  unfold Host.gather
  congr 1
  funext a
  obtain rfl : a = 0 := Subsingleton.elim (α := Fin 1) _ _
  refine Fin.ext ?_
  show GatherDims.start _ s idx 0 + GatherDims.batchCoord _ s 0 + GatherDims.offCoord _ s 0
    = GatherDims.start _ t idx 0 + GatherDims.batchCoord _ t 0 + GatherDims.offCoord _ t 0
  have hb : ∀ y, GatherDims.batchCoord gather_S79872_S65536x1_S65536_n_0_n_n_0_1_1 y 0 = 0 := fun y =>
    GatherDims.batchCoord_eq_zero _ _ _ List.not_mem_nil
  have hf : ∀ y, GatherDims.offCoord gather_S79872_S65536x1_S65536_n_0_n_n_0_1_1 y 0 = 0 := fun y =>
    GatherDims.offCoord_eq_zero _ _ _ fun h => ((GatherDims.mem_sKept _ _).mp h).1 (List.mem_singleton.mpr rfl)
  rw [hb, hb, hf, hf]
  unfold GatherDims.start
  simp only [hs, h]

/-- The precondition gives what the proofs of the two programs use. -/
theorem placed_of {F : FTy → Type} [FloatOps F] (T : Table) (X : Tokens F)
    (h : Cert.Pre_placed.fn (F := F) T X = fun _ => 1#1) : Placed T := by
  have key : ∀ y : S65536.Idx, (0 ≤ (T y).toInt ∧ (T y).toInt < 79872)
      ∧ Host.gather gather_S79872_S65536x1_S65536_n_0_n_n_0_1_1
          (Host.scatter scatter_S79872_S65536x1_S65536_n_0_0_1 (fun _ b => b)
            (broadcastInDim S79872 ![] bcast_S_S79872 (constantI S_ 32 0#32))
            (broadcastInDim S65536x1 ![0] bcast_S65536_S65536x1_0
              (select (cmpi .slt T (broadcastInDim S65536 ![] bcast_S_S65536 (constantI S_ 32 0#32)))
                (addi T (broadcastInDim S65536 ![] bcast_S_S65536 (constantI S_ 32 79872#32))) T))
            (iotaInDim S65536 32 0))
          (broadcastInDim S65536x1 ![0] bcast_S65536_S65536x1_0
              (select (cmpi .slt T (broadcastInDim S65536 ![] bcast_S_S65536 (constantI S_ 32 0#32)))
                (addi T (broadcastInDim S65536 ![] bcast_S_S65536 (constantI S_ 32 79872#32))) T)) y
        = BitVec.ofNat 32 (y 0).val := by
    intro y
    have hy := congrFun h y
    obtain ⟨h1, h2⟩ := and_bits _ _ hy
    obtain ⟨h3, h4⟩ := and_bits _ _ h1
    have h3 := ofBool_true h3
    have h4 := ofBool_true h4
    refine ⟨⟨?_, ?_⟩, ?_⟩
    · have h5 : (0#32).toInt ≤ (T y).toInt := of_decide_eq_true h3
      rw [show (0#32).toInt = 0 from by decide] at h5
      exact h5
    · have h5 : (T y).toInt < (79872#32).toInt := of_decide_eq_true h4
      rw [show (79872#32).toInt = 79872 from by decide] at h5
      exact h5
    · exact eq_of_bits _ _ h2
  have small : ∀ t : Fin 65536, ((T (at1 t)).toNat : ℤ) = (T (at1 t)).toInt := by
    intro t
    have := (key (at1 t)).1
    rw [BitVec.toInt_eq_toNat_cond] at this ⊢
    split at this
    · rw [if_pos (by assumption)]
    · have := (T (at1 t)).isLt
      omega
  refine ⟨fun t => ?_, fun s t e => ?_⟩
  · have h1 := (key (at1 t)).1.2
    have h2 := small t
    unfold pos
    omega
  · have e' : T (at1 s) = T (at1 t) := BitVec.eq_of_toNat_eq e
    have hg := gather_congr
      (Host.scatter scatter_S79872_S65536x1_S65536_n_0_0_1 (fun _ b => b)
            (broadcastInDim S79872 ![] bcast_S_S79872 (constantI S_ 32 0#32))
            (broadcastInDim S65536x1 ![0] bcast_S65536_S65536x1_0
              (select (cmpi .slt T (broadcastInDim S65536 ![] bcast_S_S65536 (constantI S_ 32 0#32)))
                (addi T (broadcastInDim S65536 ![] bcast_S_S65536 (constantI S_ 32 79872#32))) T))
            (iotaInDim S65536 32 0))
          (broadcastInDim S65536x1 ![0] bcast_S65536_S65536x1_0
              (select (cmpi .slt T (broadcastInDim S65536 ![] bcast_S_S65536 (constantI S_ 32 0#32)))
                (addi T (broadcastInDim S65536 ![] bcast_S_S65536 (constantI S_ 32 79872#32))) T)) (at1 s) (at1 t) (by
        refine (column_at _ _).trans (Eq.trans ?_ (column_at _ _).symm)
        simp only [select, cmpi, addi, e']
        rfl)
    rw [(key (at1 s)).2, (key (at1 t)).2] at hg
    have hv := congrArg BitVec.toNat hg
    simp only [BitVec.toNat_ofNat] at hv
    have h1 : ((at1 s) 0).val = s.val := rfl
    have h2 : ((at1 t) 0).val = t.val := rfl
    rw [h1, h2] at hv
    have := s.isLt
    have := t.isLt
    exact Fin.ext (by omega)

end Cert.Dispatch

end
-- ==== Proof.Scatter.lean ====
/- What the reference computes: its scatter of the tokens' rows is the destination with every token's row written, row
   by row what the table names. -/
module

public import proofs.«01_k».proof.Proof.Rows
public import proofs.«01_k».proof.Proof.Gen.ReferenceIdeal
public import proofs.«01_k».proof.Reference
public import Idealize.ShloMosaic.Lib.Routing.OpsSet
public import Idealize.ShloMosaic.Lib.Routing.OpsPair
public import Idealize.ShloMosaic.Lib.StableHlo.Run

@[expose] public section

set_option maxRecDepth 16384

noncomputable section

namespace Cert.Dispatch

open Cert.ReferenceIdeal Cert.ReferenceIdeal.Gen
open Idealize.ShloMosaic Idealize.ShloMosaic.TcCoe Idealize.ShloMosaic.StableHlo Idealize.SL.Sem

variable {F : FTy → Type} [FloatOps F]

local notation "𝔡" => scatter_S79872x1152_S65536x1_S65536x1152_1_0_0_1

/-- The index words of the scatter: the table, a negative entry counted from the end. -/
def words (T : Table) : IVec S65536x1 32 :=
  broadcastInDim S65536x1 ![0] bcast_S65536_S65536x1_0
    (select (cmpi .slt T (broadcastInDim S65536 ![] bcast_S_S65536 (constantI S_ 32 0#32)))
      (addi T (broadcastInDim S65536 ![] bcast_S_S65536 (constantI S_ 32 79872#32))) T)

/-- The scatter that the reference is. -/
def scattered (T : Table) (X : Tokens F) (Z : Sorted F) : Sorted F :=
  Host.scatter 𝔡 (fun _ b => b) Z (words T) X

/-- The place of token `t`'s index word. -/
def word2 (t : Fin 65536) : S65536x1.Idx := fun a => match a with
  | ⟨0, _⟩ => ⟨t.val, t.isLt⟩
  | ⟨1, _⟩ => ⟨0, Nat.one_pos⟩

theorem words_at {T : Table} (hT : Placed T) (t : Fin 65536) : ((words T) (word2 t)).toInt = (pos T t : ℤ) := by
  have hlt := hT.lt t
  have hz : ¬ (T (at1 t)).slt 0#32 = true := by
    unfold pos at hlt
    rw [BitVec.slt_eq_decide]
    intro h
    have h := of_decide_eq_true h
    rw [BitVec.toInt_eq_toNat_of_lt (by omega)] at h
    simp at h
    omega
  have e : words T (word2 t) = T (at1 t) := by
    have hc : ∀ x : S65536.Idx → BitVec 32, broadcastInDim S65536x1 ![0] bcast_S65536_S65536x1_0 x (word2 t) = x (at1 t) := by
      intro x
      unfold broadcastInDim
      congr 1
      funext a
      obtain rfl : a = 0 := Subsingleton.elim (α := Fin 1) _ _
      rw [dif_neg (by decide)]
      rfl
    refine (hc _).trans ?_
    have hb : cmpi .slt T (broadcastInDim S65536 ![] bcast_S_S65536 (constantI S_ 32 0#32)) (at1 t) = 0#1 := by
      show BitVec.ofBool ((T (at1 t)).slt 0#32) = 0#1
      rw [Bool.eq_false_of_not_eq_true hz]
      rfl
    unfold select
    rw [hb]
    rfl
  rw [e]
  unfold pos at hlt ⊢
  exact BitVec.toInt_eq_toNat_of_lt (by omega)

/-- Entry `l` of token `t`'s row lands at entry `l` of the row the table names for it. -/
theorem lands {T : Table} (hT : Placed T) (k : S65536x1152.Idx) (y : S79872x1152.Idx) :
    (𝔡).resultIdx? k (words T) = some y ↔ pos T ⟨(k 0).val, (k 0).isLt⟩ = (y 0).val ∧ (k 1).val = (y 1).val := by
  have s0 : (𝔡).start k (words T) 0 = (pos T ⟨(k 0).val, (k 0).isLt⟩ : ℤ) := by
    unfold ScatterDims.start
    rw [dif_pos (show (0 : Fin 2) ∈ (𝔡).scatterDimsToOperandDims from List.mem_singleton.mpr rfl)]
    refine Eq.trans ?_ (words_at hT _)
    congr 2
    funext b
    refine Fin.ext ?_
    match b with
    | ⟨0, _⟩ => rfl
    | ⟨1, _⟩ => rfl
  have s1 : (𝔡).start k (words T) 1 = 0 := by
    unfold ScatterDims.start
    rw [dif_neg (show ¬ (1 : Fin 2) ∈ (𝔡).scatterDimsToOperandDims from by decide)]
  have w0 : (𝔡).window k 0 = 0 := by
    unfold ScatterDims.window
    rw [dif_neg (show ¬ (0 : Fin 2) ∈ (𝔡).sKept from by decide)]
  have w1 : (𝔡).window k 1 = (k 1).val := by
    unfold ScatterDims.window
    rw [dif_pos (show (1 : Fin 2) ∈ (𝔡).sKept from by decide)]
    rfl
  rw [Routing.resultIdx?_eq_some]
  constructor
  · intro h
    have h0 := h 0
    have h1 := h 1
    rw [s0, w0] at h0
    rw [s1, w1] at h1
    omega
  · rintro ⟨h0, h1⟩ a
    match a with
    | ⟨0, _⟩ => exact (congrArg₂ (fun (p : ℤ) (q : ℕ) => p + (q : ℤ)) s0 w0).trans (show _ = ((y 0).val : ℤ) by omega)
    | ⟨1, _⟩ => exact (congrArg₂ (fun (p : ℤ) (q : ℕ) => p + (q : ℤ)) s1 w1).trans (show _ = ((y 1).val : ℤ) by omega)

/-- The reference's array is the destination with all 65536 tokens' rows written. -/
theorem scattered_eq {T : Table} (hT : Placed T) (X : Tokens F) (Z : Sorted F) : scattered T X Z = scat T X Z 65536 := by
  funext y
  by_cases h : ∃ t : Fin 65536, pos T t = (y 0).val
  · obtain ⟨t, ht⟩ := h
    rw [scat_row hT X Z 65536 t t.isLt y ht.symm]
    refine Routing.scatter_set_hit _ _ _ _ _ _ (fun k hk => ?_) (at2 t ⟨(y 1).val, (y 1).isLt⟩) ((lands hT _ _).2 ⟨ht, rfl⟩)
    obtain ⟨h0, h1⟩ := (lands hT _ _).1 hk
    have := hT.inj _ _ (h0.trans ht.symm)
    congr 1
    funext a
    refine Fin.ext ?_
    match a with
    | ⟨0, _⟩ => exact congrArg Fin.val this
    | ⟨1, _⟩ => exact h1
  · rw [scat_rest T X Z 65536 y fun t _ e => h ⟨t, e⟩]
    exact Routing.scatter_set_miss _ _ _ _ _ fun k hk => h ⟨_, ((lands hT _ _).1 hk).1⟩

end Cert.Dispatch

end
-- ==== Proof.HostRun.lean ====
/- The reference's run: a straight line of host operations, which ends with its result buffer holding the scatter of
   the tokens over zeros and its arguments unchanged. -/
module

public import proofs.«01_k».proof.Proof.Scatter

@[expose] public section

set_option maxRecDepth 16384

noncomputable section

namespace Cert.Dispatch.Ref

open Cert.ReferenceIdeal Cert.ReferenceIdeal.Gen Cert.Dispatch
open Idealize.ShloMosaic Idealize.ShloMosaic.TcCoe Idealize.ShloMosaic.StableHlo Idealize.SL.Sem

variable {F : FTy → Type} [FloatOps F]

/-- The operations of the reference, in order. -/
abbrev ops : List (HloOp τ sig (Elt F)) :=
  [ nullary main_cst (constant S_ .f32 0x00000000#32),
    unary main_cst main_v0 (broadcastInDim S79872x1152 ![] bcast_S_S79872x1152),
    nullary main_c (constantI S_ 32 0#32),
    unary main_c main_v1 (broadcastInDim S65536 ![] bcast_S_S65536),
    binary main_arg0 main_v1 main_v2 (cmpi .slt),
    nullary main_c_0 (constantI S_ 32 79872#32),
    unary main_c_0 main_v3 (broadcastInDim S65536 ![] bcast_S_S65536),
    binary main_arg0 main_v3 main_v4 addi,
    ternary main_v2 main_v4 main_arg0 main_v5 select,
    unary main_v5 main_v6 (broadcastInDim S65536x1 ![0] bcast_S65536_S65536x1_0),
    ternary main_v0 main_v6 main_arg1 main_v7 (fun x i u => Host.scatter scatter_S79872x1152_S65536x1_S65536x1152_1_0_0_1 (fun _ b => b) x i u) ]

theorem main_eq (c : Dev nD) : main (F := F) c = seq ops := rfl

/-- Zeros, as the reference builds them. -/
def refZeros : Sorted F := broadcastInDim S79872x1152 ![] bcast_S_S79872x1152 (constant S_ .f32 0x00000000#32)

theorem out_eq (V : Valuation τ sig (Elt F)) :
    after ops V (main_v7 : DevRef τ sig) = scattered (V (main_arg0 : DevRef τ sig)) (V (main_arg1 : DevRef τ sig)) refZeros := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub ..⟩

/-- The reference ends, on every core, with the scatter of its arguments, the arguments unchanged and every semaphore
    at zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v7)
          = scattered (m ((c.tc : Thread nD τ).loc main_arg0)) (m ((c.tc : Thread nD τ).loc main_arg1)) refZeros
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v7).trans (out_eq _), (h c main_arg0).trans (arg0_eq _),
      (h c main_arg1).trans (arg1_eq _)⟩, Idealize.ShloMosaic.sem_eq_zero_of_no_sems (by decide) r.2⟩)
    (run_seq no_scoped_refs no_scoped_sems defs main (fun _ => ops) main_eq (fun _ => ops_sub) m ρ)

end Cert.Dispatch.Ref

end
-- ==== Proof.ExpertBody.lean ====
/- What the expert call's body does at one grid point: at a tile in use it stores the two chosen experts' outputs, added;
   at a tile not in use it stores zeros. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Mixture

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rows' first 1024 lanes, and the two weights' lanes. -/
abbrev rowsOf (x : Vec F S128x1152 .f32) : Vec F S128x1024 .f32 := VecWindow.window x ![0, 0] S128x1024.size inb_S128x1152_S128x1024_0_0
abbrev loOf (x : Vec F S128x1152 .f32) : Vec F S128x1 .f32 := VecWindow.window x ![0, 1024] S128x1.size inb_S128x1152_S128x1_0_1024
abbrev hiOf (x : Vec F S128x1152 .f32) : Vec F S128x1 .f32 := VecWindow.window x ![0, 1025] S128x1.size inb_S128x1152_S128x1_0_1025

/-- What the body stores at a tile in use. -/
def busy (x : Vec F S128x1152 .f32) (g u : Vec F S1x1024x256 .bf16) (d : Vec F S1x256x1024 .bf16)
    (g' u' : Vec F S1x1024x256 .bf16) (d' : Vec F S1x256x1024 .bf16) : Vec F S128x1024 .f32 :=
  k0_pay1 (hiOf x) (k0_pay4 (rowsOf x) (loOf x) g u d) (k0_pay5 (rowsOf x) g') (k0_pay6 (rowsOf x) u') d'

/-- The second branch is taken exactly when the first is not. -/
theorem cond2_iff (i : grid0.Coords) (w : BitVec 32) : k0_cond2 i w = 1#1 ↔ ¬ k0_cond1 i w = 1#1 := by
  unfold k0_cond1 k0_cond2
  generalize BitVec.ofNat 32 (i 0).val = a
  have h1 : Scalar.cmpi .slt a w = BitVec.ofBool (decide (a.toInt < w.toInt)) := rfl
  have h2 : Scalar.cmpi .sge a w = BitVec.ofBool (decide (w.toInt ≤ a.toInt)) := rfl
  simp only [h1, h2]
  by_cases h : a.toInt < w.toInt
  · rw [decide_eq_true h, decide_eq_false (by omega)]; decide
  · rw [decide_eq_false h, decide_eq_true (by omega)]; decide

/-- What the body stores, from the word that counts the tiles in use. -/
def stored (i : grid0.Coords) (w : BitVec 32) (x : Vec F S128x1152 .f32) (g u : Vec F S1x1024x256 .bf16) (d : Vec F S1x256x1024 .bf16)
    (g' u' : Vec F S1x1024x256 .bf16) (d' : Vec F S1x256x1024 .bf16) : Vec F S128x1024 .f32 :=
  if k0_cond1 i w = 1#1 then busy x g u d g' u' d' else k0_pay2

/-- The one position of the table that counts the tiles in use. -/
abbrev first1 : S1.Idx := fun a => ⟨0, by fin_cases a; exact Nat.one_pos⟩

/-- The word that the body loads. -/
theorem used_word (T : S1.Idx → BitVec 32) (h1 h2) :
    View.readAt (Elt F) (Memref.whole main_arg2 : Memref sig .tc .smem S1 .i32).view (Rect.unit (s := S1) ![0] S1.size h1).toLoadRect T (Shape.Idx.first h2)
      = T first1 := by
  rw [View.readAt_apply]
  show T _ = T _
  congr 1
  funext a
  apply Fin.ext
  fin_cases a
  show 0 + 1 * (Shape.Idx.first (s := S1) h2 0).val = 0
  have : (Shape.Idx.first (s := S1) h2 0).val < 1 := (Shape.Idx.first (s := S1) h2 0).isLt
  omega

set_option maxHeartbeats 1000000 in
theorem body_run (c : Dev nD) (i : grid0.Coords) (a0 : Memref sig .tc .smem S624 .i32) (h0 : a0.IsWhole) (a1 : Memref sig .tc .smem S624 .i32) (h1 : a1.IsWhole)
    (arg1 : Memref sig .tc .vmem S128x1152 .f32) (harg1 : arg1.IsWhole) (arg2 : Memref sig .tc .vmem S1x1024x256 .bf16) (harg2 : arg2.IsWhole)
    (arg3 : Memref sig .tc .vmem S1x1024x256 .bf16) (harg3 : arg3.IsWhole) (arg4 : Memref sig .tc .vmem S1x256x1024 .bf16) (harg4 : arg4.IsWhole)
    (arg5 : Memref sig .tc .vmem S1x1024x256 .bf16) (harg5 : arg5.IsWhole) (arg6 : Memref sig .tc .vmem S1x1024x256 .bf16) (harg6 : arg6.IsWhole)
    (arg7 : Memref sig .tc .vmem S1x256x1024 .bf16) (harg7 : arg7.IsWhole) (arg8 : Memref sig .tc .vmem S128x1024 .f32) (harg8 : arg8.IsWhole)
    (T : S1.Idx → BitVec 32) (w : BitVec 32) (hw : T first1 = w)
    (x1 : Vec F S128x1152 .f32) (x2 x3 : Vec F S1x1024x256 .bf16) (x4 : Vec F S1x256x1024 .bf16) (x5 x6 : Vec F S1x1024x256 .bf16) (x7 : Vec F S1x256x1024 .bf16)
    (E : Set ℕ) (K : PUnit → sProp 𝕄) :
    iprop(((Memref.whole main_arg2 : Memref sig .tc .smem S1 .i32).view.loc (c : Thread nD τ) ↦{fullShare.right} T)
      ∗ owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare x6
      ∗ owns (c : Thread nD τ) arg7 fullShare x7 ∗ (∃ d, owns (c : Thread nD τ) arg8 fullShare d)
      ∗ (iprop(((Memref.whole main_arg2 : Memref sig .tc .smem S1 .i32).view.loc (c : Thread nD τ) ↦{fullShare.right} T)
      ∗ owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare x6
      ∗ owns (c : Thread nD τ) arg7 fullShare x7 ∗ owns (c : Thread nD τ) arg8 fullShare (stored i w x1 x2 x3 x4 x5 x6 x7)) -∗ K ⟨⟩))
      ⊢ wp frame (wpE (defs₀ (F := F)) Variants.none (c : Thread nD τ) none) E
        (cc0_moe_experts i a0 h0 a1 h1 (Memref.whole main_arg2) (Memref.isWhole_whole _) arg1 harg1 arg2 harg2 arg3 harg3 arg4 harg4 arg5 harg5 arg6 harg6 arg7 harg7 arg8 harg8) K := by
  simp only [cc0_moe_experts_eq_skeleton]; unfold cc0_moe_experts_skel
  by_cases hc : k0_cond1 i w = 1#1
  · have hc2 : ¬ k0_cond2 i w = 1#1 := fun h => (cond2_iff i w).mp h hc
    have hs : stored i w x1 x2 x3 x4 x5 x6 x7 = busy x1 x2 x3 x4 x5 x6 x7 := if_pos hc
    rw [hs]
    unfold owns
    iintro ⟨HT, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    have hc' : ∀ h1 h2, k0_cond1 i (View.readAt (Elt F) (Memref.whole main_arg2 : Memref sig .tc .smem S1 .i32).view (Rect.unit (s := S1) ![0] S1.size h1).toLoadRect T (Shape.Idx.first h2)) = 1#1 := by
      intro h1 h2; rw [used_word, hw]; exact hc
    have hc2' : ∀ h1 h2, ¬ k0_cond2 i (View.readAt (Elt F) (Memref.whole main_arg2 : Memref sig .tc .smem S1 .i32).view (Rect.unit (s := S1) ![0] S1.size h1).toLoadRect T (Shape.Idx.first h2)) = 1#1 := by
      intro h1 h2; rw [used_word, hw]; exact hc2
    sl_exec (disch := first | sl_exact hc' _ _ | sl_exact hc2' _ _)
    sl_step
    sl_step
    sl_exec (disch := first | sl_exact hc' _ _ | sl_exact hc2' _ _)
    sl_step
    iapply Hk
    isplitl [HT]
    · iexact HT
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    isplitl [H4]
    · iexists _; isplitr
      swap; · iexact H4
      ipureintro; exact hf4
    isplitl [H5]
    · iexists _; isplitr
      swap; · iexact H5
      ipureintro; exact hf5
    isplitl [H6]
    · iexists _; isplitr
      swap; · iexact H6
      ipureintro; exact hf6
    isplitl [H7]
    · iexists _; isplitr
      swap; · iexact H7
      ipureintro; exact hf7
    iexists _; isplitr
    swap; · iexact H8
    ipureintro
    refine (View.read_writes_full _ _ _ _ _).trans ?_
    delta body_run.sl.r body_run.sl.r_1 body_run.sl.r_2 body_run.sl.r_3
    have e0 : View.readAt (Elt F) arg1.view (Rect.unit (s := S128x1152) ![0, 0] S128x1024.size inb_S128x1152_S128x1024_0_0).toLoadRect f1 = rowsOf x1 := by rw [← hf1]; rfl
    have e1 : View.readAt (Elt F) arg1.view (Rect.unit (s := S128x1152) ![0, 1024] S128x1.size inb_S128x1152_S128x1_0_1024).toLoadRect f1 = loOf x1 := by rw [← hf1]; rfl
    have e1' : View.readAt (Elt F) arg1.view (Rect.unit (s := S128x1152) ![0, 1025] S128x1.size inb_S128x1152_S128x1_0_1025).toLoadRect f1 = hiOf x1 := by rw [← hf1]; rfl
    have e2 := (View.readAt_full arg2.view f2 inb_S1x1024x256_S1x1024x256_0_0_0).trans hf2
    have e3 := (View.readAt_full arg3.view f3 inb_S1x1024x256_S1x1024x256_0_0_0).trans hf3
    have e4 := (View.readAt_full arg4.view f4 inb_S1x256x1024_S1x256x1024_0_0_0).trans hf4
    have e5 := (View.readAt_full arg5.view f5 inb_S1x1024x256_S1x1024x256_0_0_0).trans hf5
    have e6 := (View.readAt_full arg6.view f6 inb_S1x1024x256_S1x1024x256_0_0_0).trans hf6
    have e7 := (View.readAt_full arg7.view f7 inb_S1x256x1024_S1x256x1024_0_0_0).trans hf7
    unfold busy
    rw [← e0, ← e1, ← e1', ← e2, ← e3, ← e4, ← e5, ← e6, ← e7]
  · have hc2 : k0_cond2 i w = 1#1 := (cond2_iff i w).mpr hc
    have hs : stored i w x1 x2 x3 x4 x5 x6 x7 = k0_pay2 := if_neg hc
    rw [hs]
    unfold owns
    iintro ⟨HT, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    have hc' : ∀ h1 h2, ¬ k0_cond1 i (View.readAt (Elt F) (Memref.whole main_arg2 : Memref sig .tc .smem S1 .i32).view (Rect.unit (s := S1) ![0] S1.size h1).toLoadRect T (Shape.Idx.first h2)) = 1#1 := by
      intro h1 h2; rw [used_word, hw]; exact hc
    have hc2' : ∀ h1 h2, k0_cond2 i (View.readAt (Elt F) (Memref.whole main_arg2 : Memref sig .tc .smem S1 .i32).view (Rect.unit (s := S1) ![0] S1.size h1).toLoadRect T (Shape.Idx.first h2)) = 1#1 := by
      intro h1 h2; rw [used_word, hw]; exact hc2
    sl_exec (disch := first | sl_exact hc' _ _ | sl_exact hc2' _ _)
    sl_step
    sl_step
    sl_exec (disch := first | sl_exact hc' _ _ | sl_exact hc2' _ _)
    sl_step
    iapply Hk
    isplitl [HT]
    · iexact HT
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    isplitl [H4]
    · iexists _; isplitr
      swap; · iexact H4
      ipureintro; exact hf4
    isplitl [H5]
    · iexists _; isplitr
      swap; · iexact H5
      ipureintro; exact hf5
    isplitl [H6]
    · iexists _; isplitr
      swap; · iexact H6
      ipureintro; exact hf6
    isplitl [H7]
    · iexists _; isplitr
      swap; · iexact H7
      ipureintro; exact hf7
    iexists _; isplitr
    swap; · iexact H8
    ipureintro
    exact View.read_writes_full _ _ _ _ _

end Cert.Mixture

end
-- ==== Proof.ExpertTables.lean ====
/- The three tables of the expert call: each tile's two experts, and how many tiles are in use. What the precondition
   says of them, and that every window's block then lies inside its array. -/
module

public import proofs.«01_k».proof.Proof.ExpertBody

@[expose] public section

set_option maxRecDepth 16384

noncomputable section

namespace Cert.Mixture

open Cert.ExpertsIdeal Cert.ExpertsIdeal.Gen
open Idealize.ShloMosaic Idealize.ShloMosaic.TcCoe

variable {F : FTy → Type} [FloatOps F]

/-- A word for each tile. -/
abbrev Tiles : Type := S624.Idx → BitVec 32

/-- Tile `i`'s place in such a table. -/
def tile (i : Fin 624) : S624.Idx := fun a => ⟨i.val, by fin_cases a; exact i.isLt⟩

/-- The tables name two distinct experts of the 32 for every tile, and count one tile or more as used. -/
structure Tiled (lo hi : Tiles) (n : S1.Idx → BitVec 32) : Prop where
  lo_lt : ∀ i, (lo (tile i)).toNat < 32
  hi_lt : ∀ i, (hi (tile i)).toNat < 32
  ne : ∀ i, lo (tile i) ≠ hi (tile i)
  used : 1 ≤ (n first1).toInt

/-- The grid point's word reads back as the grid point. -/
theorem point_word (i : grid0.Coords) : (Scalar.indexCast (BitVec.ofNat 32 (i 0).val) : Index).toNat = (i 0).val := by
  have h : (i 0).val < 624 := (i 0).isLt
  show (BitVec.ofNat 32 (i 0).val).toNat = _
  rw [BitVec.toNat_ofNat]; omega

theorem at_lo (pf : pre0.Contents (Elt F)) (i : grid0.Coords) (h) (h') :
    pf.at 0 (Rect.unit (s := S624) ![(Scalar.indexCast (BitVec.ofNat 32 (i 0).val) : Index).toNat] S1.size h) h' = pf 0 (tile (i 0)) := by
  show pf 0 _ = pf 0 _
  congr 1
  funext a
  apply Fin.ext
  fin_cases a
  have h0 := point_word i
  have h1 : ((Shape.Idx.first (s := S1) Nat.one_pos : S1.Idx) 0).val < 1 := Fin.isLt _
  show (Scalar.indexCast (BitVec.ofNat 32 (i 0).val) : Index).toNat + 1 * ((Shape.Idx.first (s := S1) Nat.one_pos : S1.Idx) 0).val = (i 0).val
  omega

theorem at_hi (pf : pre0.Contents (Elt F)) (i : grid0.Coords) (h) (h') :
    pf.at 1 (Rect.unit (s := S624) ![(Scalar.indexCast (BitVec.ofNat 32 (i 0).val) : Index).toNat] S1.size h) h' = pf 1 (tile (i 0)) := by
  show pf 1 _ = pf 1 _
  congr 1
  funext a
  apply Fin.ext
  fin_cases a
  have h0 := point_word i
  have h1 : ((Shape.Idx.first (s := S1) Nat.one_pos : S1.Idx) 0).val < 1 := Fin.isLt _
  show (Scalar.indexCast (BitVec.ofNat 32 (i 0).val) : Index).toNat + 1 * ((Shape.Idx.first (s := S1) Nat.one_pos : S1.Idx) 0).val = (i 0).val
  omega

theorem at_used (pf : pre0.Contents (Elt F)) (h) (h') :
    pf.at 2 (Rect.unit (s := S1) ![0] S1.size h) h' = pf 2 first1 := by
  show pf 2 _ = pf 2 _
  congr 1
  funext a
  apply Fin.ext
  fin_cases a
  have h1 : ((Shape.Idx.first (s := S1) Nat.one_pos : S1.Idx) 0).val < 1 := Fin.isLt _
  show 0 + 1 * ((Shape.Idx.first (s := S1) Nat.one_pos : S1.Idx) 0).val = 0
  omega

/-- The block of rows that a grid point reads: its own, or the last tile's in use. -/
def rowTile (n : BitVec 32) (i : ℕ) : ℕ := (Scalar.minsi (BitVec.ofNat 32 i) (Scalar.subi n 1#32)).toNat

/-- A count of one or more, less one: its natural. -/
theorem less_one (n : BitVec 32) (hn : 1 ≤ n.toInt) : (Scalar.subi n 1#32).toInt = n.toInt - 1 ∧ ((Scalar.subi n 1#32).toNat : ℤ) = n.toInt - 1 := by
  show (n - 1#32).toInt = _ ∧ ((n - 1#32).toNat : ℤ) = _
  have h0 := n.isLt
  have h1 : (n - 1#32).toNat = (2 ^ 32 - 1 + n.toNat) % 2 ^ 32 := BitVec.toNat_sub ..
  rw [BitVec.toInt_eq_toNat_cond] at hn
  rw [BitVec.toInt_eq_toNat_cond, BitVec.toInt_eq_toNat_cond, h1]
  split at hn <;> split <;> omega

theorem point_toInt (i : ℕ) (hi : i < 624) : (BitVec.ofNat 32 i).toInt = i ∧ (BitVec.ofNat 32 i).toNat = i := by
  have h : (BitVec.ofNat 32 i).toNat = i := by rw [BitVec.toNat_ofNat]; omega
  refine ⟨?_, h⟩
  rw [BitVec.toInt_eq_toNat_cond, h]
  split <;> omega

theorem rowTile_eq (n : BitVec 32) (i : ℕ) (hi : i < 624) (hn : 1 ≤ n.toInt) :
    (rowTile n i : ℤ) = if (i : ℤ) < n.toInt - 1 then (i : ℤ) else n.toInt - 1 := by
  obtain ⟨e1, e2⟩ := less_one n hn
  obtain ⟨p1, p2⟩ := point_toInt i hi
  have h : Scalar.minsi (BitVec.ofNat 32 i) (Scalar.subi n 1#32)
      = if (BitVec.ofNat 32 i).toInt < (Scalar.subi n 1#32).toInt then BitVec.ofNat 32 i else Scalar.subi n 1#32 := by
    show (if (BitVec.ofNat 32 i).slt (Scalar.subi n 1#32) then _ else _) = _
    rw [BitVec.slt_eq_decide]
    by_cases hc : (BitVec.ofNat 32 i).toInt < (Scalar.subi n 1#32).toInt
    · rw [if_pos (decide_eq_true hc), if_pos hc]
    · rw [if_neg (by rw [decide_eq_false hc]; decide), if_neg hc]
  unfold rowTile
  rw [h, p1, e1]
  split
  · rw [p2]
  · rw [e2]

theorem rowTile_le (n : BitVec 32) (i : ℕ) (hi : i < 624) (hn : 1 ≤ n.toInt) : rowTile n i ≤ i := by
  have h := rowTile_eq n i hi hn
  split at h <;> omega

/-- A tile in use reads its own block of rows. -/
theorem rowTile_busy (n : BitVec 32) (i : ℕ) (hi : i < 624) (h : (i : ℤ) < n.toInt) : rowTile n i = i := by
  have e := rowTile_eq n i hi (by omega)
  split at e <;> omega

theorem ix_rows (pf : pre0.Contents (Elt F)) (i : grid0.Coords) :
    cc0_transform_0 inb_S1_S1_0 numel1_S1 pf i = ![rowTile (pf 2 first1) (i 0).val, 0] :=
  congrArg (fun w : BitVec 32 => ![rowTile w (i 0).val, 0]) (at_used pf inb_S1_S1_0 numel1_S1)
theorem ix_lo (pf : pre0.Contents (Elt F)) (i : grid0.Coords) :
    cc0_transform_1 k0_off1_inb numel1_S1 pf i = ![(pf 0 (tile (i 0)) : BitVec 32).toNat, 0, 0] :=
  congrArg (fun w : BitVec 32 => ![w.toNat, 0, 0]) (at_lo pf i (k0_off1_inb i) numel1_S1)
theorem ix_hi (pf : pre0.Contents (Elt F)) (i : grid0.Coords) :
    cc0_transform_4 k0_off1_inb numel1_S1 pf i = ![(pf 1 (tile (i 0)) : BitVec 32).toNat, 0, 0] :=
  congrArg (fun w : BitVec 32 => ![w.toNat, 0, 0]) (at_hi pf i (k0_off1_inb i) numel1_S1)

/-- A block of one expert's weights is whole words and inside the array. -/
theorem in_up (e : ℕ) (he : e < 32) (ix : Fin 3 → ℕ) (hix : ix = ![e, 0, 0]) :
    ∃ h : (∀ a, (ix a + 1) * S1x1024x256.size a ≤ S32x1024x256.size a),
      EltTy.bits .bf16 = 32 ∨ (Rect.block (s := S32x1024x256) S1x1024x256.size ix h).WholeWords (EltTy.packing .bf16) := by
  subst hix
  refine ⟨fun a => ?_, .inr (.inr ⟨by decide, rfl, rfl, rfl⟩)⟩
  fin_cases a
  · show (e + 1) * 1 ≤ 32; omega
  · exact Nat.le_refl _
  · exact Nat.le_refl _
theorem in_down (e : ℕ) (he : e < 32) (ix : Fin 3 → ℕ) (hix : ix = ![e, 0, 0]) :
    ∃ h : (∀ a, (ix a + 1) * S1x256x1024.size a ≤ S32x256x1024.size a),
      EltTy.bits .bf16 = 32 ∨ (Rect.block (s := S32x256x1024) S1x256x1024.size ix h).WholeWords (EltTy.packing .bf16) := by
  subst hix
  refine ⟨fun a => ?_, .inr (.inr ⟨by decide, rfl, rfl, rfl⟩)⟩
  fin_cases a
  · show (e + 1) * 1 ≤ 32; omega
  · exact Nat.le_refl _
  · exact Nat.le_refl _

theorem ok_of_tiled (pf : pre0.Contents (Elt F)) (h : Tiled (pf 0) (pf 1) (pf 2)) : ok0 pf := by
  refine ⟨fun i => ⟨fun a => ?_, .inl rfl⟩, fun i => in_up _ (h.lo_lt (i 0)) _ (ix_lo pf i), fun i => in_up _ (h.lo_lt (i 0)) _ (ix_lo pf i),
    fun i => in_down _ (h.lo_lt (i 0)) _ (ix_lo pf i), fun i => in_up _ (h.hi_lt (i 0)) _ (ix_hi pf i), fun i => in_up _ (h.hi_lt (i 0)) _ (ix_hi pf i),
    fun i => in_down _ (h.hi_lt (i 0)) _ (ix_hi pf i)⟩
  rw [ix_rows]
  have hr := rowTile_le (pf 2 first1) (i 0).val (i 0).isLt h.used
  have hi : (i 0).val < 624 := (i 0).isLt
  fin_cases a
  · show (rowTile (pf 2 first1) (i 0).val + 1) * 128 ≤ 79872; omega
  · exact Nat.le_refl _

end Cert.Mixture

end
-- ==== Proof.ExpertRun.lean ====
/- The expert call's run: the host rounds the weights, the 624 grid points each store their tile, and the run ends with
   the result array's tiles as stored, the arguments unchanged and every semaphore at zero. -/
module

public import proofs.«01_k».proof.Proof.ExpertTables
public import Idealize.ShloMosaic.Lib.Pipeline.Frame
public import Idealize.ShloMosaic.Lib.Pipeline.Value

@[expose] public section

set_option maxRecDepth 16384

noncomputable section

namespace Cert.Mixture

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer as the call finds it. -/
abbrev V (c : Dev nD) (b : Ref sig .tc) : Buf (Elt F) ((c : Thread nD τ).loc b) :=
  StableHlo.after hostOps0 (fun b => m (c, b)) b

theorem hostOps_fresh : (hostOps0 (F := F)).Forall fun op => op.fresh = ∅ := ⟨rfl, rfl, rfl⟩

theorem hmain (𝒱 : Variants) : Pipeline.HMainP (Ix := Unit) (Name := ℕ) (U := UR sig nD τ) (Lvl := ℕ) (pcfgs (F := F)) 0 defs₀ 𝒱 m main (V m) :=
  Pipeline.hmainP_prefix (pcfgs (F := F)) 0 defs₀ 𝒱 m main hostOps0 hostOps0_sub hostOps_fresh main_chain

/-- The tables and the rows, as the program is given them. -/
abbrev lo (c : Dev nD) : Tiles := m ((c : Thread nD τ).loc main_arg0)
abbrev hi (c : Dev nD) : Tiles := m ((c : Thread nD τ).loc main_arg1)
abbrev used (c : Dev nD) : S1.Idx → BitVec 32 := m ((c : Thread nD τ).loc main_arg2)

theorem V_arg0 (c : Dev nD) : V m c main_arg0 = m ((c : Thread nD τ).loc main_arg0) := by rfl
theorem V_arg1 (c : Dev nD) : V m c main_arg1 = m ((c : Thread nD τ).loc main_arg1) := by rfl
theorem V_arg2 (c : Dev nD) : V m c main_arg2 = m ((c : Thread nD τ).loc main_arg2) := by rfl
theorem V_arg3 (c : Dev nD) : V m c main_arg3 = m ((c : Thread nD τ).loc main_arg3) := by rfl
theorem V_arg4 (c : Dev nD) : V m c main_arg4 = m ((c : Thread nD τ).loc main_arg4) := by rfl
theorem V_arg5 (c : Dev nD) : V m c main_arg5 = m ((c : Thread nD τ).loc main_arg5) := by rfl
theorem V_arg6 (c : Dev nD) : V m c main_arg6 = m ((c : Thread nD τ).loc main_arg6) := by rfl

/-- What the precondition gives of every core's tables. -/
abbrev AllTiled : Prop := ∀ c, Tiled (lo m c) (hi m c) (used m c)

variable (hT : AllTiled m)

/-- The contents of the three tables are the call's prefetched tables. -/
def adm : (p : Fin 1) → (pcfgs (F := F) p).Adm := fun _ => ⟨fun k => V m 0 (pre0.ref k), ok_of_tiled _ (hT 0)⟩

/-- The call at these tables. -/
abbrev cfgT : Cfg sig Λ₀ := Pipeline.pin (pcfgs (F := F)) (adm m hT) 0

theorem adm_used (c : Dev nD) : (adm m hT 0).1 2 = used m c := by
  obtain rfl := Subsingleton.elim c 0
  exact V_arg2 m 0
theorem adm_lo (c : Dev nD) : (adm m hT 0).1 0 = lo m c := by
  obtain rfl := Subsingleton.elim c 0
  exact V_arg0 m 0
theorem adm_hi (c : Dev nD) : (adm m hT 0).1 1 = hi m c := by
  obtain rfl := Subsingleton.elim c 0
  exact V_arg1 m 0

/-- The word that counts the tiles in use. -/
abbrev count (c : Dev nD) : BitVec 32 := used m c first1

theorem tables_eq (c : Dev nD) (v : (k : Fin 3) → (pre0.ref k).ty.Contents (Elt F)) :
    (Pipeline.ΦT pre0 v c : sProp 𝕄)
      = iprop(((c : Thread nD τ).loc main_arg0 ↦{fullShare.right} v 0) ∗ ((c : Thread nD τ).loc main_arg1 ↦{fullShare.right} v 1)
        ∗ ((c : Thread nD τ).loc main_arg2 ↦{fullShare.right} v 2)) := by
  unfold Pipeline.ΦT Pipeline.prefHeld
  rw [BI.bigSep_eq_bigSepL_of_eq [0, 1, 2] (by decide) (by decide)]; rfl

/-- Window `w`'s block at point `t`. -/
def iblk (c : Dev nD) (w : Fin (cfgT m hT).W) (t : Fin (cfgT m hT).N) : (((cfgT m hT).win w).xblock ((cfgT m hT).grid.coords t)).Idx → Elt F ((cfgT m hT).win w).elt :=
  (((cfgT m hT).win w).blk t).view.read (Elt F) (V m c (Pipeline.arrRef spec0 w))

/-- What point `t` stores. -/
def out (c : Dev nD) (t : Fin (cfgT m hT).N) : Vec F S128x1024 .f32 :=
  stored (grid0.coords t) (count m c) (iblk m hT c 0 t) (iblk m hT c 1 t) (iblk m hT c 2 t) (iblk m hT c 3 t) (iblk m hT c 4 t) (iblk m hT c 5 t) (iblk m hT c 6 t)

/-- The call's proof data: every input window at its block, the result's at what the point stores; the tables held. -/
def dats (_ : Fin 1) (c : Dev nD) : Dat τ (Elt F) Unit ℕ (UR sig nD τ) ℕ (cfgT m hT) c where
  A w := V m c (Pipeline.arrRef spec0 w)
  after w t := match w with
    | ⟨0, _⟩ => iblk m hT c 0 t
    | ⟨1, _⟩ => iblk m hT c 1 t
    | ⟨2, _⟩ => iblk m hT c 2 t
    | ⟨3, _⟩ => iblk m hT c 3 t
    | ⟨4, _⟩ => iblk m hT c 4 t
    | ⟨5, _⟩ => iblk m hT c 5 t
    | ⟨6, _⟩ => iblk m hT c 6 t
    | ⟨7, _⟩ => out m hT c t
  Φ _ := iprop(Pipeline.ΦA spec0 c ∗ Pipeline.ΦT pre0 (adm m hT 0).1 c)
  q w := Pipeline.shareOf (cfgT m hT).spec w
  owed _ := 0

theorem A_eq (c : Dev nD) (w : Fin (cfgT m hT).W) : (dats m hT 0 c).A w = V m c (Pipeline.arrRef spec0 w) := by
  dsimp only [dats]

theorem after_0 (c : Dev nD) (t : Fin (cfgT m hT).N) : (dats m hT 0 c).after 0 t = iblk m hT c 0 t := rfl
theorem after_1 (c : Dev nD) (t : Fin (cfgT m hT).N) : (dats m hT 0 c).after 1 t = iblk m hT c 1 t := rfl
theorem after_2 (c : Dev nD) (t : Fin (cfgT m hT).N) : (dats m hT 0 c).after 2 t = iblk m hT c 2 t := rfl
theorem after_3 (c : Dev nD) (t : Fin (cfgT m hT).N) : (dats m hT 0 c).after 3 t = iblk m hT c 3 t := rfl
theorem after_4 (c : Dev nD) (t : Fin (cfgT m hT).N) : (dats m hT 0 c).after 4 t = iblk m hT c 4 t := rfl
theorem after_5 (c : Dev nD) (t : Fin (cfgT m hT).N) : (dats m hT 0 c).after 5 t = iblk m hT c 5 t := rfl
theorem after_6 (c : Dev nD) (t : Fin (cfgT m hT).N) : (dats m hT 0 c).after 6 t = iblk m hT c 6 t := rfl
theorem after_7 (c : Dev nD) (t : Fin (cfgT m hT).N) : (dats m hT 0 c).after 7 t = out m hT c t := rfl

/-- Before each point an input window's staging buffer holds its block. -/
theorem before_0 (c : Dev nD) (t : Fin (cfgT m hT).N) (d) : (dats m hT 0 c).before 0 t d = iblk m hT c 0 t :=
  ((dats m hT 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgT m hT).N) (d) : (dats m hT 0 c).before 1 t d = iblk m hT c 1 t :=
  ((dats m hT 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgT m hT).N) (d) : (dats m hT 0 c).before 2 t d = iblk m hT c 2 t :=
  ((dats m hT 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgT m hT).N) (d) : (dats m hT 0 c).before 3 t d = iblk m hT c 3 t :=
  ((dats m hT 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgT m hT).N) (d) : (dats m hT 0 c).before 4 t d = iblk m hT c 4 t :=
  ((dats m hT 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgT m hT).N) (d) : (dats m hT 0 c).before 5 t d = iblk m hT c 5 t :=
  ((dats m hT 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfgT m hT).N) (d) : (dats m hT 0 c).before 6 t d = iblk m hT c 6 t :=
  ((dats m hT 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- No window is idle: each point stores its tile. -/
theorem live_0 (t : Fin (cfgT m hT).N) : (cfgT m hT).idle 0 (grid0.coords t) = false := rfl
theorem live_1 (t : Fin (cfgT m hT).N) : (cfgT m hT).idle 1 (grid0.coords t) = false := rfl
theorem live_2 (t : Fin (cfgT m hT).N) : (cfgT m hT).idle 2 (grid0.coords t) = false := rfl
theorem live_3 (t : Fin (cfgT m hT).N) : (cfgT m hT).idle 3 (grid0.coords t) = false := rfl
theorem live_4 (t : Fin (cfgT m hT).N) : (cfgT m hT).idle 4 (grid0.coords t) = false := rfl
theorem live_5 (t : Fin (cfgT m hT).N) : (cfgT m hT).idle 5 (grid0.coords t) = false := rfl
theorem live_6 (t : Fin (cfgT m hT).N) : (cfgT m hT).idle 6 (grid0.coords t) = false := rfl
theorem idle_7 (pf : pre0.Contents (Elt F)) (i : grid0.Coords) : idle0 pf 7 i = false := by
  have h : ∀ w : BitVec 32, (!(k0_cond1 i w == 1#1) && !(k0_cond2 i w == 1#1)) = false := fun w => by
    by_cases h : k0_cond1 i w = 1#1
    · rw [h]; rfl
    · rw [(cond2_iff i w).mpr h]; cases (k0_cond1 i w == 1#1) <;> rfl
  exact h (pf.atD 2 ![0])
theorem pin_idle (a : (p : Fin 1) → (pcfgs (F := F) p).Adm) (i : grid0.Coords) :
    (Pipeline.pin (pcfgs (F := F)) a 0).idle 7 i = idle0 (a 0).1 7 i := rfl
theorem live_7 (t : Fin (cfgT m hT).N) : (cfgT m hT).idle 7 (grid0.coords t) = false := by
  rw [pin_idle]; exact idle_7 _ _

/-- Each window's staging memref at point `t`, and its wholeness. -/
abbrev ms_0 (t : Fin (cfgT m hT).N) : Memref sig .tc .vmem S128x1152 .f32 := spec0_0.stage ((cfgT m hT).slots t 0)
abbrev hs_0 (t : Fin (cfgT m hT).N) : (ms_0 m hT t).IsWhole := hstage0_0 (((cfgT m hT).slots t 0).cast nbuf0_0)
abbrev ms_1 (t : Fin (cfgT m hT).N) : Memref sig .tc .vmem S1x1024x256 .bf16 := spec0_1.stage ((cfgT m hT).slots t 1)
abbrev hs_1 (t : Fin (cfgT m hT).N) : (ms_1 m hT t).IsWhole := hstage0_1 (((cfgT m hT).slots t 1).cast nbuf0_1)
abbrev ms_2 (t : Fin (cfgT m hT).N) : Memref sig .tc .vmem S1x1024x256 .bf16 := spec0_2.stage ((cfgT m hT).slots t 2)
abbrev hs_2 (t : Fin (cfgT m hT).N) : (ms_2 m hT t).IsWhole := hstage0_2 (((cfgT m hT).slots t 2).cast nbuf0_2)
abbrev ms_3 (t : Fin (cfgT m hT).N) : Memref sig .tc .vmem S1x256x1024 .bf16 := spec0_3.stage ((cfgT m hT).slots t 3)
abbrev hs_3 (t : Fin (cfgT m hT).N) : (ms_3 m hT t).IsWhole := hstage0_3 (((cfgT m hT).slots t 3).cast nbuf0_3)
abbrev ms_4 (t : Fin (cfgT m hT).N) : Memref sig .tc .vmem S1x1024x256 .bf16 := spec0_4.stage ((cfgT m hT).slots t 4)
abbrev hs_4 (t : Fin (cfgT m hT).N) : (ms_4 m hT t).IsWhole := hstage0_4 (((cfgT m hT).slots t 4).cast nbuf0_4)
abbrev ms_5 (t : Fin (cfgT m hT).N) : Memref sig .tc .vmem S1x1024x256 .bf16 := spec0_5.stage ((cfgT m hT).slots t 5)
abbrev hs_5 (t : Fin (cfgT m hT).N) : (ms_5 m hT t).IsWhole := hstage0_5 (((cfgT m hT).slots t 5).cast nbuf0_5)
abbrev ms_6 (t : Fin (cfgT m hT).N) : Memref sig .tc .vmem S1x256x1024 .bf16 := spec0_6.stage ((cfgT m hT).slots t 6)
abbrev hs_6 (t : Fin (cfgT m hT).N) : (ms_6 m hT t).IsWhole := hstage0_6 (((cfgT m hT).slots t 6).cast nbuf0_6)
abbrev ms_7 (t : Fin (cfgT m hT).N) : Memref sig .tc .vmem S128x1024 .f32 := spec0_7.stage ((cfgT m hT).slots t 7)
abbrev hs_7 (t : Fin (cfgT m hT).N) : (ms_7 m hT t).IsWhole := hstage0_7 (((cfgT m hT).slots t 7).cast nbuf0_7)

/-- What each window's buffer is left holding. -/
theorem leaves_0 (c : Dev nD) (t : Fin (cfgT m hT).N) :
    ((dats m hT 0 c).leavesExact 0 t : sProp 𝕄) = owns (c : Thread nD τ) (ms_0 m hT t) fullShare (iblk m hT c 0 t) := by
  unfold Dat.leavesExact; rw [live_0 m hT t, after_0]; rfl
theorem leaves_1 (c : Dev nD) (t : Fin (cfgT m hT).N) :
    ((dats m hT 0 c).leavesExact 1 t : sProp 𝕄) = owns (c : Thread nD τ) (ms_1 m hT t) fullShare (iblk m hT c 1 t) := by
  unfold Dat.leavesExact; rw [live_1 m hT t, after_1]; rfl
theorem leaves_2 (c : Dev nD) (t : Fin (cfgT m hT).N) :
    ((dats m hT 0 c).leavesExact 2 t : sProp 𝕄) = owns (c : Thread nD τ) (ms_2 m hT t) fullShare (iblk m hT c 2 t) := by
  unfold Dat.leavesExact; rw [live_2 m hT t, after_2]; rfl
theorem leaves_3 (c : Dev nD) (t : Fin (cfgT m hT).N) :
    ((dats m hT 0 c).leavesExact 3 t : sProp 𝕄) = owns (c : Thread nD τ) (ms_3 m hT t) fullShare (iblk m hT c 3 t) := by
  unfold Dat.leavesExact; rw [live_3 m hT t, after_3]; rfl
theorem leaves_4 (c : Dev nD) (t : Fin (cfgT m hT).N) :
    ((dats m hT 0 c).leavesExact 4 t : sProp 𝕄) = owns (c : Thread nD τ) (ms_4 m hT t) fullShare (iblk m hT c 4 t) := by
  unfold Dat.leavesExact; rw [live_4 m hT t, after_4]; rfl
theorem leaves_5 (c : Dev nD) (t : Fin (cfgT m hT).N) :
    ((dats m hT 0 c).leavesExact 5 t : sProp 𝕄) = owns (c : Thread nD τ) (ms_5 m hT t) fullShare (iblk m hT c 5 t) := by
  unfold Dat.leavesExact; rw [live_5 m hT t, after_5]; rfl
theorem leaves_6 (c : Dev nD) (t : Fin (cfgT m hT).N) :
    ((dats m hT 0 c).leavesExact 6 t : sProp 𝕄) = owns (c : Thread nD τ) (ms_6 m hT t) fullShare (iblk m hT c 6 t) := by
  unfold Dat.leavesExact; rw [live_6 m hT t, after_6]; rfl
theorem leaves_7 (c : Dev nD) (t : Fin (cfgT m hT).N) :
    ((dats m hT 0 c).leavesExact 7 t : sProp 𝕄) = owns (c : Thread nD τ) (ms_7 m hT t) fullShare (out m hT c t) := by
  unfold Dat.leavesExact; rw [live_7 m hT t, after_7]; rfl

/-- The body as the pipeline calls it at point `t`. -/
abbrev bodyAt (t : Fin (cfgT m hT).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _)
    (ms_0 m hT t) (hs_0 m hT t) (ms_1 m hT t) (hs_1 m hT t) (ms_2 m hT t) (hs_2 m hT t) (ms_3 m hT t) (hs_3 m hT t) (ms_4 m hT t) (hs_4 m hT t) (ms_5 m hT t) (hs_5 m hT t) (ms_6 m hT t) (hs_6 m hT t) (ms_7 m hT t) (hs_7 m hT t)

def bodyPre (c : Dev nD) (t : Fin (cfgT m hT).N) : sProp 𝕄 :=
  iprop((dats m hT 0 c).Φ t.castSucc ∗ (dats m hT 0 c).owesAt () t.castSucc
    ∗ (∃ d, owns (c : Thread nD τ) (ms_0 m hT t) fullShare ((dats m hT 0 c).before 0 t d))
    ∗ (∃ d, owns (c : Thread nD τ) (ms_1 m hT t) fullShare ((dats m hT 0 c).before 1 t d))
    ∗ (∃ d, owns (c : Thread nD τ) (ms_2 m hT t) fullShare ((dats m hT 0 c).before 2 t d))
    ∗ (∃ d, owns (c : Thread nD τ) (ms_3 m hT t) fullShare ((dats m hT 0 c).before 3 t d))
    ∗ (∃ d, owns (c : Thread nD τ) (ms_4 m hT t) fullShare ((dats m hT 0 c).before 4 t d))
    ∗ (∃ d, owns (c : Thread nD τ) (ms_5 m hT t) fullShare ((dats m hT 0 c).before 5 t d))
    ∗ (∃ d, owns (c : Thread nD τ) (ms_6 m hT t) fullShare ((dats m hT 0 c).before 6 t d))
    ∗ (∃ d, owns (c : Thread nD τ) (ms_7 m hT t) fullShare ((dats m hT 0 c).before 7 t d)))

def bodyPost (c : Dev nD) (t : Fin (cfgT m hT).N) : sProp 𝕄 :=
  iprop((dats m hT 0 c).Φ t.succ ∗ (dats m hT 0 c).owesAt () t.succ
    ∗ (dats m hT 0 c).leavesExact 0 t
    ∗ (dats m hT 0 c).leavesExact 1 t
    ∗ (dats m hT 0 c).leavesExact 2 t
    ∗ (dats m hT 0 c).leavesExact 3 t
    ∗ (dats m hT 0 c).leavesExact 4 t
    ∗ (dats m hT 0 c).leavesExact 5 t
    ∗ (dats m hT 0 c).leavesExact 6 t
    ∗ (dats m hT 0 c).leavesExact 7 t)

set_option maxHeartbeats 1000000 in
/-- The body's triple at a generic point. -/
theorem sound_body (c : Dev nD) (t : Fin (cfgT m hT).N) :
    bodyPre m hT c t ⊢ wp frame (wpE (defs₀ (F := F)) Variants.none (c : Thread nD τ) none) Set.univ (bodyAt m hT t) (fun _ => bodyPost m hT c t) := by
  unfold bodyPre bodyPost bodyAt
  simp only [before_0, before_1, before_2, before_3, before_4, before_5, before_6]
  rw [show (dats m hT 0 c).Φ t.succ = (dats m hT 0 c).Φ t.castSucc from rfl,
    show (dats m hT 0 c).owesAt () t.succ = (dats m hT 0 c).owesAt () t.castSucc from rfl]
  rw [leaves_0, leaves_1, leaves_2, leaves_3, leaves_4, leaves_5, leaves_6, leaves_7]
  rw [show (dats m hT 0 c).Φ t.castSucc = iprop(Pipeline.ΦA spec0 c ∗ Pipeline.ΦT pre0 (adm m hT 0).1 c) from rfl, tables_eq]
  iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ ((adm m hT 0).1 2) (count m c) (congrFun (adm_used m hT c) first1)
    (iblk m hT c 0 t) (iblk m hT c 1 t) (iblk m hT c 2 t) (iblk m hT c 3 t) (iblk m hT c 4 t) (iblk m hT c 5 t) (iblk m hT c 6 t) Set.univ _)
  isplitl [HT2]; · iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨HT2, H0, H1, H2, H3, H4, H5, H6, H7⟩
  isplitl [HA HT0 HT1 HT2]
  · isplitl [HA]; · iexact HA
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfgT m hT).N) :
    defs₀ (F := F) .tc (cfgT m hT).body ((cfgT m hT).bodyArgs t ((cfgT m hT).slots t)) = bodyAt m hT t := by
  unfold defs₀; rw [Defs.onTc_tc]

set_option maxHeartbeats 4000000 in
theorem body_obligation (c : Dev nD) : BodyObligation (dats (F := F) m hT 0 c) (defs₀ (F := F)) Variants.none () Set.univ := fun t => by
  rw [bigSep_W0, bigSep_W0, defs₀_row]
  exact triple_restated (sound_body m hT c t) rfl .rfl fun _ => .rfl

set_option backward.isDefEq.respectTransparency.types false in
theorem run_main : θ_run (defs (F := F)) (onTc (τ := τ) (main (F := F))) (s₀ m ρ)
      (fun r => Pipeline.FramePost (Pipeline.pin pcfgs (adm m hT)) (dats m hT) 0 (V m) r ∧ r.2.sem = fun _ => 0) :=
  (θ_run (defs (F := F)) _ _).mono (fun r (h : _ ∧ _) => ⟨Pipeline.RDat.FramePost.toDat (Pipeline.pin pcfgs (adm m hT)) (dats m hT) 0 (V m) r h.1, h.2⟩)
    (Pipeline.RDat.θ_run_frameP_track_shared (Q' := _) pcfgs (adm m hT) (0 : Fin 1) launch₀0 defs₀ Variants.none (fun c => (dats m hT 0 c).toR) m ρ main
      (hbody := fun c => (body_obligation m hT c).loose.toR) (hq := fun c w _ => rfl) (howed := fun _ _ => rfl) (V := V m) (hmain := hmain m Variants.none)
      (hA := fun c w => A_eq m hT c w) (hpf := fun c k => by obtain rfl := Subsingleton.elim c 0; rfl)
      (hin := fun c => .rfl)
      (hout := fun c => by
        show iprop(Pipeline.ΦA spec0 c ∗ Pipeline.ΦT pre0 (adm m hT 0).1 c) ⊢ _
        iintro ⟨H, -⟩
        iexact H))

end Cert.Mixture

end
-- ==== Proof.ExpertValue.lean ====
/- The expert call's result as one function of its seven arguments: tile by tile, the two chosen experts' outputs added,
   and zeros at the tiles not in use. -/
module

public import proofs.«01_k».proof.Proof.ExpertRun
public import Idealize.ShloMosaic.Lib.Pipeline.ValueKit.Geometry

@[expose] public section

set_option maxRecDepth 16384

noncomputable section

namespace Cert.Mixture

open Cert.ExpertsIdeal Cert.ExpertsIdeal.Gen
open Idealize.ShloMosaic Idealize.ShloMosaic.TcCoe Idealize.SL Idealize.SL.Sem
open Idealize.ShloMosaic.Pipeline (Dat Cfg Window)

variable {F : FTy → Type} [FloatOps F]

/-- Places in arrays of two and of three axes. -/
def at2 {d : Fin 2 → ℕ} (x : Fin (d 0)) (y : Fin (d 1)) : (⟨2, d⟩ : Shape).Idx := fun a => match a with | ⟨0, _⟩ => x | ⟨1, _⟩ => y
def at3 {d : Fin 3 → ℕ} (x : Fin (d 0)) (y : Fin (d 1)) (z : Fin (d 2)) : (⟨3, d⟩ : Shape).Idx :=
  fun a => match a with | ⟨0, _⟩ => x | ⟨1, _⟩ => y | ⟨2, _⟩ => z

/-- Row `a` of tile `i`, among all rows. -/
def rowAt (i : Fin 624) (a : Fin 128) : Fin 79872 := ⟨i.val * 128 + a.val, by have := i.isLt; have := a.isLt; omega⟩
/-- A row's tile, and its place in the tile. -/
def tileOf (r : Fin 79872) : Fin 624 := ⟨r.val / 128, by have := r.isLt; omega⟩
def inTile (r : Fin 79872) : Fin 128 := ⟨r.val % 128, by omega⟩
/-- The expert that a word names. -/
def expert (w : BitVec 32) : Fin 32 := ⟨w.toNat % 32, by omega⟩

theorem tileOf_rowAt (i : Fin 624) (a : Fin 128) : tileOf (rowAt i a) = i :=
  Fin.ext (by show (i.val * 128 + a.val) / 128 = i.val; have := a.isLt; omega)
theorem inTile_rowAt (i : Fin 624) (a : Fin 128) : inTile (rowAt i a) = a :=
  Fin.ext (by show (i.val * 128 + a.val) % 128 = a.val; have := a.isLt; omega)
theorem rowAt_tileOf (r : Fin 79872) : rowAt (tileOf r) (inTile r) = r :=
  Fin.ext (by show r.val / 128 * 128 + r.val % 128 = r.val; omega)

/-- Tile `i`'s rows; expert `e`'s weights. -/
def rowsBlk (X : Vec F S79872x1152 .f32) (i : Fin 624) : Vec F S128x1152 .f32 := fun y => X (at2 (rowAt i (y 0)) (y 1))
def upBlk (W : Vec F S32x1024x256 .bf16) (e : Fin 32) : Vec F S1x1024x256 .bf16 := fun y => W (at3 e (y 1) (y 2))
def downBlk (W : Vec F S32x256x1024 .bf16) (e : Fin 32) : Vec F S1x256x1024 .bf16 := fun y => W (at3 e (y 1) (y 2))

/-- The weights as the host rounds them. -/
def upCast (W : Vec F S32x1024x256 .f32) : Vec F S32x1024x256 .bf16 := truncf .bf16 W bitsLt_bf16_f32
def downCast (W : Vec F S32x256x1024 .f32) : Vec F S32x256x1024 .bf16 := truncf .bf16 W bitsLt_bf16_f32

/-- Tile `i` of the result. -/
def tileOut (lo hi : Tiles) (n : S1.Idx → BitVec 32) (X : Vec F S79872x1152 .f32) (G U : Vec F S32x1024x256 .f32) (D : Vec F S32x256x1024 .f32)
    (i : Fin 624) : Vec F S128x1024 .f32 :=
  if (i.val : ℤ) < (n first1).toInt then
    busy (rowsBlk X i) (upBlk (upCast G) (expert (lo (tile i)))) (upBlk (upCast U) (expert (lo (tile i)))) (downBlk (downCast D) (expert (lo (tile i))))
      (upBlk (upCast G) (expert (hi (tile i)))) (upBlk (upCast U) (expert (hi (tile i)))) (downBlk (downCast D) (expert (hi (tile i))))
  else k0_pay2

/-- The whole result. -/
def mixture (lo hi : Tiles) (n : S1.Idx → BitVec 32) (X : Vec F S79872x1152 .f32) (G U : Vec F S32x1024x256 .f32) (D : Vec F S32x256x1024 .f32) :
    Vec F S79872x1024 .f32 :=
  fun j => tileOut lo hi n X G U D (tileOf (j 0)) (at2 (inTile (j 0)) (j 1))

variable (m : (ℓ : Loc nD τ sig) → Buf (Elt F) ℓ) (ρ : Dev nD → PrngReg) (hT : AllTiled m)

theorem V_v0 (c : Dev nD) : V m c main_v0 = upCast (m ((c : Thread nD τ).loc main_arg4)) := by rfl
theorem V_v1 (c : Dev nD) : V m c main_v1 = upCast (m ((c : Thread nD τ).loc main_arg5)) := by rfl
theorem V_v2 (c : Dev nD) : V m c main_v2 = downCast (m ((c : Thread nD τ).loc main_arg6)) := by rfl

theorem cond1_iff (i : grid0.Coords) (w : BitVec 32) : k0_cond1 i w = 1#1 ↔ ((i 0).val : ℤ) < w.toInt := by
  have hi := point_toInt (i 0).val (i 0).isLt
  unfold k0_cond1
  have h1 : Scalar.cmpi .slt (BitVec.ofNat 32 (i 0).val) w = BitVec.ofBool (decide (((i 0).val : ℤ) < w.toInt)) := by
    rw [← hi.1]; rfl
  simp only [h1]
  by_cases h : ((i 0).val : ℤ) < w.toInt
  · rw [decide_eq_true h]; simp only [h, iff_true]; decide
  · rw [decide_eq_false h]; simp only [h, iff_false]; decide

/-- Point `t` is tile `t`. -/
theorem coords_val : ∀ t : Fin grid0.N, (grid0.coords t 0).val = t.val := by decide +kernel

/-- Where each window's block at point `t` lies in its array, from its block index there. -/
theorem place_0 (a : (pcfg0 (F := F)).Adm) (t : Fin grid0.N) (y : S128x1152.Idx) (ix : Fin 2 → ℕ)
    (e : cc0_transform_0 inb_S1_S1_0 numel1_S1 a.1 (grid0.coords t) = ix) (b : Fin 2) :
    ((((cfg0 a).win 0).blk t).view.emb y b).val = ix b * S128x1152.size b + (y b).val := by
  subst e
  show _ * S128x1152.size b + 1 * (y b).val = _
  rw [Nat.one_mul]; rfl
theorem place_1 (a : (pcfg0 (F := F)).Adm) (t : Fin grid0.N) (y : S1x1024x256.Idx) (ix : Fin 3 → ℕ)
    (e : cc0_transform_1 k0_off1_inb numel1_S1 a.1 (grid0.coords t) = ix) (b : Fin 3) :
    ((((cfg0 a).win 1).blk t).view.emb y b).val = ix b * S1x1024x256.size b + (y b).val := by
  subst e
  show _ * S1x1024x256.size b + 1 * (y b).val = _
  rw [Nat.one_mul]; rfl
theorem place_2 (a : (pcfg0 (F := F)).Adm) (t : Fin grid0.N) (y : S1x1024x256.Idx) (ix : Fin 3 → ℕ)
    (e : cc0_transform_2 k0_off1_inb numel1_S1 a.1 (grid0.coords t) = ix) (b : Fin 3) :
    ((((cfg0 a).win 2).blk t).view.emb y b).val = ix b * S1x1024x256.size b + (y b).val := by
  subst e
  show _ * S1x1024x256.size b + 1 * (y b).val = _
  rw [Nat.one_mul]; rfl
theorem place_4 (a : (pcfg0 (F := F)).Adm) (t : Fin grid0.N) (y : S1x1024x256.Idx) (ix : Fin 3 → ℕ)
    (e : cc0_transform_4 k0_off1_inb numel1_S1 a.1 (grid0.coords t) = ix) (b : Fin 3) :
    ((((cfg0 a).win 4).blk t).view.emb y b).val = ix b * S1x1024x256.size b + (y b).val := by
  subst e
  show _ * S1x1024x256.size b + 1 * (y b).val = _
  rw [Nat.one_mul]; rfl
theorem place_5 (a : (pcfg0 (F := F)).Adm) (t : Fin grid0.N) (y : S1x1024x256.Idx) (ix : Fin 3 → ℕ)
    (e : cc0_transform_5 k0_off1_inb numel1_S1 a.1 (grid0.coords t) = ix) (b : Fin 3) :
    ((((cfg0 a).win 5).blk t).view.emb y b).val = ix b * S1x1024x256.size b + (y b).val := by
  subst e
  show _ * S1x1024x256.size b + 1 * (y b).val = _
  rw [Nat.one_mul]; rfl
theorem place_3 (a : (pcfg0 (F := F)).Adm) (t : Fin grid0.N) (y : S1x256x1024.Idx) (ix : Fin 3 → ℕ)
    (e : cc0_transform_3 k0_off1_inb numel1_S1 a.1 (grid0.coords t) = ix) (b : Fin 3) :
    ((((cfg0 a).win 3).blk t).view.emb y b).val = ix b * S1x256x1024.size b + (y b).val := by
  subst e
  show _ * S1x256x1024.size b + 1 * (y b).val = _
  rw [Nat.one_mul]; rfl
theorem place_6 (a : (pcfg0 (F := F)).Adm) (t : Fin grid0.N) (y : S1x256x1024.Idx) (ix : Fin 3 → ℕ)
    (e : cc0_transform_6 k0_off1_inb numel1_S1 a.1 (grid0.coords t) = ix) (b : Fin 3) :
    ((((cfg0 a).win 6).blk t).view.emb y b).val = ix b * S1x256x1024.size b + (y b).val := by
  subst e
  show _ * S1x256x1024.size b + 1 * (y b).val = _
  rw [Nat.one_mul]; rfl

/-- So what each window reads of its array: the tile's rows, and the named expert's weights. -/
theorem read_0 (a : (pcfg0 (F := F)).Adm) (t : Fin grid0.N) (X : Vec F S79872x1152 .f32) (i : Fin 624)
    (e : cc0_transform_0 inb_S1_S1_0 numel1_S1 a.1 (grid0.coords t) = ![i.val, 0]) :
    (((cfg0 a).win 0).blk t).view.read (Elt F) X = rowsBlk X i := by
  funext y
  show X ((((cfg0 a).win 0).blk t).view.emb y) = X _
  congr 1
  funext b
  apply Fin.ext
  refine (place_0 a t y _ e b).trans ?_
  fin_cases b
  · rfl
  · exact (congrArg (· + _) (Nat.zero_mul _)).trans (Nat.zero_add _)
theorem read_1 (a : (pcfg0 (F := F)).Adm) (t : Fin grid0.N) (W : Vec F S32x1024x256 .bf16) (x : Fin 32)
    (e : cc0_transform_1 k0_off1_inb numel1_S1 a.1 (grid0.coords t) = ![x.val, 0, 0]) :
    (((cfg0 a).win 1).blk t).view.read (Elt F) W = upBlk W x := by
  refine funext fun (y : S1x1024x256.Idx) => ?_
  show W ((((cfg0 a).win 1).blk t).view.emb y) = W _
  congr 1
  funext b
  apply Fin.ext
  refine (place_1 a t y _ e b).trans ?_
  fin_cases b
  · show x.val * 1 + (y 0).val = x.val
    have : (y 0).val < 1 := (y 0).isLt
    omega
  · exact (congrArg (· + _) (Nat.zero_mul _)).trans (Nat.zero_add _)
  · exact (congrArg (· + _) (Nat.zero_mul _)).trans (Nat.zero_add _)
theorem read_2 (a : (pcfg0 (F := F)).Adm) (t : Fin grid0.N) (W : Vec F S32x1024x256 .bf16) (x : Fin 32)
    (e : cc0_transform_2 k0_off1_inb numel1_S1 a.1 (grid0.coords t) = ![x.val, 0, 0]) :
    (((cfg0 a).win 2).blk t).view.read (Elt F) W = upBlk W x := by
  refine funext fun (y : S1x1024x256.Idx) => ?_
  show W ((((cfg0 a).win 2).blk t).view.emb y) = W _
  congr 1
  funext b
  apply Fin.ext
  refine (place_2 a t y _ e b).trans ?_
  fin_cases b
  · show x.val * 1 + (y 0).val = x.val
    have : (y 0).val < 1 := (y 0).isLt
    omega
  · exact (congrArg (· + _) (Nat.zero_mul _)).trans (Nat.zero_add _)
  · exact (congrArg (· + _) (Nat.zero_mul _)).trans (Nat.zero_add _)
theorem read_4 (a : (pcfg0 (F := F)).Adm) (t : Fin grid0.N) (W : Vec F S32x1024x256 .bf16) (x : Fin 32)
    (e : cc0_transform_4 k0_off1_inb numel1_S1 a.1 (grid0.coords t) = ![x.val, 0, 0]) :
    (((cfg0 a).win 4).blk t).view.read (Elt F) W = upBlk W x := by
  refine funext fun (y : S1x1024x256.Idx) => ?_
  show W ((((cfg0 a).win 4).blk t).view.emb y) = W _
  congr 1
  funext b
  apply Fin.ext
  refine (place_4 a t y _ e b).trans ?_
  fin_cases b
  · show x.val * 1 + (y 0).val = x.val
    have : (y 0).val < 1 := (y 0).isLt
    omega
  · exact (congrArg (· + _) (Nat.zero_mul _)).trans (Nat.zero_add _)
  · exact (congrArg (· + _) (Nat.zero_mul _)).trans (Nat.zero_add _)
theorem read_5 (a : (pcfg0 (F := F)).Adm) (t : Fin grid0.N) (W : Vec F S32x1024x256 .bf16) (x : Fin 32)
    (e : cc0_transform_5 k0_off1_inb numel1_S1 a.1 (grid0.coords t) = ![x.val, 0, 0]) :
    (((cfg0 a).win 5).blk t).view.read (Elt F) W = upBlk W x := by
  refine funext fun (y : S1x1024x256.Idx) => ?_
  show W ((((cfg0 a).win 5).blk t).view.emb y) = W _
  congr 1
  funext b
  apply Fin.ext
  refine (place_5 a t y _ e b).trans ?_
  fin_cases b
  · show x.val * 1 + (y 0).val = x.val
    have : (y 0).val < 1 := (y 0).isLt
    omega
  · exact (congrArg (· + _) (Nat.zero_mul _)).trans (Nat.zero_add _)
  · exact (congrArg (· + _) (Nat.zero_mul _)).trans (Nat.zero_add _)
theorem read_3 (a : (pcfg0 (F := F)).Adm) (t : Fin grid0.N) (W : Vec F S32x256x1024 .bf16) (x : Fin 32)
    (e : cc0_transform_3 k0_off1_inb numel1_S1 a.1 (grid0.coords t) = ![x.val, 0, 0]) :
    (((cfg0 a).win 3).blk t).view.read (Elt F) W = downBlk W x := by
  refine funext fun (y : S1x256x1024.Idx) => ?_
  show W ((((cfg0 a).win 3).blk t).view.emb y) = W _
  congr 1
  funext b
  apply Fin.ext
  refine (place_3 a t y _ e b).trans ?_
  fin_cases b
  · show x.val * 1 + (y 0).val = x.val
    have : (y 0).val < 1 := (y 0).isLt
    omega
  · exact (congrArg (· + _) (Nat.zero_mul _)).trans (Nat.zero_add _)
  · exact (congrArg (· + _) (Nat.zero_mul _)).trans (Nat.zero_add _)
theorem read_6 (a : (pcfg0 (F := F)).Adm) (t : Fin grid0.N) (W : Vec F S32x256x1024 .bf16) (x : Fin 32)
    (e : cc0_transform_6 k0_off1_inb numel1_S1 a.1 (grid0.coords t) = ![x.val, 0, 0]) :
    (((cfg0 a).win 6).blk t).view.read (Elt F) W = downBlk W x := by
  refine funext fun (y : S1x256x1024.Idx) => ?_
  show W ((((cfg0 a).win 6).blk t).view.emb y) = W _
  congr 1
  funext b
  apply Fin.ext
  refine (place_6 a t y _ e b).trans ?_
  fin_cases b
  · show x.val * 1 + (y 0).val = x.val
    have : (y 0).val < 1 := (y 0).isLt
    omega
  · exact (congrArg (· + _) (Nat.zero_mul _)).trans (Nat.zero_add _)
  · exact (congrArg (· + _) (Nat.zero_mul _)).trans (Nat.zero_add _)

theorem expert_val (w : BitVec 32) (h : w.toNat < 32) : (expert w).val = w.toNat := Nat.mod_eq_of_lt h

theorem lo_ix (c : Dev nD) (t : Fin grid0.N) :
    cc0_transform_1 k0_off1_inb numel1_S1 (adm m hT 0).1 (grid0.coords t) = ![(expert (lo m c (tile (grid0.coords t 0)))).val, 0, 0] := by
  refine (ix_lo _ _).trans ((congrArg (fun w : BitVec 32 => ![w.toNat, 0, 0]) (congrFun (adm_lo m hT c) (tile (grid0.coords t 0)))).trans ?_)
  exact congrArg (fun k : ℕ => ![k, 0, 0]) (expert_val _ ((hT c).lo_lt _)).symm
theorem hi_ix (c : Dev nD) (t : Fin grid0.N) :
    cc0_transform_4 k0_off1_inb numel1_S1 (adm m hT 0).1 (grid0.coords t) = ![(expert (hi m c (tile (grid0.coords t 0)))).val, 0, 0] := by
  refine (ix_hi _ _).trans ((congrArg (fun w : BitVec 32 => ![w.toNat, 0, 0]) (congrFun (adm_hi m hT c) (tile (grid0.coords t 0)))).trans ?_)
  exact congrArg (fun k : ℕ => ![k, 0, 0]) (expert_val _ ((hT c).hi_lt _)).symm

/-- What the arguments hold. -/
abbrev rowsIn (c : Dev nD) : Vec F S79872x1152 .f32 := m ((c : Thread nD τ).loc main_arg3)
abbrev gateIn (c : Dev nD) : Vec F S32x1024x256 .f32 := m ((c : Thread nD τ).loc main_arg4)
abbrev upIn (c : Dev nD) : Vec F S32x1024x256 .f32 := m ((c : Thread nD τ).loc main_arg5)
abbrev downIn (c : Dev nD) : Vec F S32x256x1024 .f32 := m ((c : Thread nD τ).loc main_arg6)

/-- The result array that the run is shown to leave. -/
abbrev result (c : Dev nD) : Vec F S79872x1024 .f32 := mixture (lo m c) (hi m c) (used m c) (rowsIn m c) (gateIn m c) (upIn m c) (downIn m c)

theorem iblk_0 (c : Dev nD) (t : Fin (cfgT m hT).N) (hb : ((grid0.coords t 0).val : ℤ) < (count m c).toInt) :
    iblk m hT c 0 t = rowsBlk (rowsIn m c) (grid0.coords t 0) :=
  read_0 (adm m hT 0) t (rowsIn m c) (grid0.coords t 0) (by
    rw [ix_rows, adm_used m hT c, rowTile_busy _ _ (grid0.coords t 0).isLt hb])
theorem iblk_1 (c : Dev nD) (t : Fin (cfgT m hT).N) : iblk m hT c 1 t = upBlk (upCast (gateIn m c)) (expert (lo m c (tile (grid0.coords t 0)))) :=
  read_1 (adm m hT 0) t (upCast (gateIn m c)) _ (lo_ix m hT c t)
theorem iblk_2 (c : Dev nD) (t : Fin (cfgT m hT).N) : iblk m hT c 2 t = upBlk (upCast (upIn m c)) (expert (lo m c (tile (grid0.coords t 0)))) :=
  read_2 (adm m hT 0) t (upCast (upIn m c)) _ (lo_ix m hT c t)
theorem iblk_3 (c : Dev nD) (t : Fin (cfgT m hT).N) : iblk m hT c 3 t = downBlk (downCast (downIn m c)) (expert (lo m c (tile (grid0.coords t 0)))) :=
  read_3 (adm m hT 0) t (downCast (downIn m c)) _ (lo_ix m hT c t)
theorem iblk_4 (c : Dev nD) (t : Fin (cfgT m hT).N) : iblk m hT c 4 t = upBlk (upCast (gateIn m c)) (expert (hi m c (tile (grid0.coords t 0)))) :=
  read_4 (adm m hT 0) t (upCast (gateIn m c)) _ (hi_ix m hT c t)
theorem iblk_5 (c : Dev nD) (t : Fin (cfgT m hT).N) : iblk m hT c 5 t = upBlk (upCast (upIn m c)) (expert (hi m c (tile (grid0.coords t 0)))) :=
  read_5 (adm m hT 0) t (upCast (upIn m c)) _ (hi_ix m hT c t)
theorem iblk_6 (c : Dev nD) (t : Fin (cfgT m hT).N) : iblk m hT c 6 t = downBlk (downCast (downIn m c)) (expert (hi m c (tile (grid0.coords t 0)))) :=
  read_6 (adm m hT 0) t (downCast (downIn m c)) _ (hi_ix m hT c t)

/-- What point `t` stores is tile `t` of the result. -/
theorem out_eq (c : Dev nD) (t : Fin (cfgT m hT).N) :
    out m hT c t = tileOut (lo m c) (hi m c) (used m c) (rowsIn m c) (gateIn m c) (upIn m c) (downIn m c) (grid0.coords t 0) := by
  unfold out stored tileOut
  by_cases hb : ((grid0.coords t 0).val : ℤ) < (count m c).toInt
  · rw [if_pos ((cond1_iff (grid0.coords t) _).mpr hb), if_pos hb, iblk_0 m hT c t hb, iblk_1, iblk_2, iblk_3, iblk_4, iblk_5, iblk_6]
  · rw [if_neg (fun h => hb ((cond1_iff (grid0.coords t) _).mp h)), if_neg hb]

theorem place_7 (a : (pcfg0 (F := F)).Adm) (t : Fin grid0.N) (y : S128x1024.Idx) :
    (((cfg0 a).win 7).blk t).view.emb y = (at2 (rowAt (grid0.coords t 0) (y 0)) (y 1) : S79872x1024.Idx) := by
  funext b
  apply Fin.ext
  have h : (grid0.coords t 0).val < 624 := (grid0.coords t 0).isLt
  fin_cases b
  · show (BitVec.ofNat 32 (grid0.coords t 0).val).toNat * 128 + 1 * (y 0).val = (grid0.coords t 0).val * 128 + (y 0).val
    rw [(point_toInt _ h).2, Nat.one_mul]
  · show 0 * 1024 + 1 * (y 1).val = (y 1).val
    omega

/-- Every point writes its tile back: the next point's is another. -/
theorem flush_7 (a : (pcfg0 (F := F)).Adm) (t : Fin grid0.N) : ((cfg0 a).win 7).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · refine .inr (decide_eq_true ⟨by show t.val + 1 < grid0.N; have := t.isLt; omega, fun e => ?_⟩)
    have e0 := congrFun e (0 : Fin 2)
    change (BitVec.ofNat 32 (grid0.coords ⟨t.val + 1, _⟩ 0).val).toNat = (BitVec.ofNat 32 (grid0.coords t 0).val).toNat at e0
    rw [(point_toInt _ (grid0.coords _ 0).isLt).2, (point_toInt _ (grid0.coords _ 0).isLt).2, coords_val, coords_val] at e0
    exact absurd e0 (Nat.succ_ne_self _)

theorem tile_apply (c : Dev nD) (i : Fin 624) (y : S128x1024.Idx) :
    tileOut (lo m c) (hi m c) (used m c) (rowsIn m c) (gateIn m c) (upIn m c) (downIn m c) i y = result m c (at2 (rowAt i (y 0)) (y 1)) := by
  have key : ∀ (i i' : Fin 624) (y y' : S128x1024.Idx), i = i' → y = y' →
      tileOut (lo m c) (hi m c) (used m c) (rowsIn m c) (gateIn m c) (upIn m c) (downIn m c) i y
        = tileOut (lo m c) (hi m c) (used m c) (rowsIn m c) (gateIn m c) (upIn m c) (downIn m c) i' y' := by
    rintro i _ y _ rfl rfl; rfl
  refine key _ _ _ _ (tileOf_rowAt i (y 0)).symm ?_
  funext b
  fin_cases b
  · exact (inTile_rowAt i (y 0)).symm
  · rfl

/-- The tiles cover the result. -/
theorem cover_7 (a : (pcfg0 (F := F)).Adm) (i : S79872x1024.Idx) :
    ∃ t : Fin grid0.N, ((cfg0 a).win 7).flush t = true ∧ i ∈ (((cfg0 a).win 7).blk t).view.set := by
  have hi : (tileOf (i 0)).val < grid0.N := by rw [N_0]; exact (tileOf (i 0)).isLt
  refine ⟨⟨(tileOf (i 0)).val, hi⟩, flush_7 a _, ?_⟩
  have e := place_7 a ⟨(tileOf (i 0)).val, hi⟩ (at2 (inTile (i 0)) (i 1))
  have ec : grid0.coords ⟨(tileOf (i 0)).val, hi⟩ 0 = tileOf (i 0) := Fin.ext (coords_val _)
  have e' : (at2 (rowAt (grid0.coords ⟨(tileOf (i 0)).val, hi⟩ 0) (inTile (i 0))) (i 1) : S79872x1024.Idx) = i := by
    funext b
    fin_cases b
    · exact (congrArg (fun k : Fin 624 => rowAt k (inTile (i 0))) ec).trans (rowAt_tileOf (i 0))
    · rfl
  exact Finset.mem_map.mpr ⟨_, Finset.mem_univ _, e.trans e'⟩

/-- The result array ends holding the mixture. -/
theorem final (c : Dev nD) : (dats m hT 0 c).arrAt 7 (cfgT m hT).N = result m c :=
  (dats m hT 0 c).arrAt_eq_of_emb 7 (result m c)
    (fun t _ (y : S128x1024.Idx) => (congrFun (out_eq m hT c t) y).trans
      ((tile_apply m c (grid0.coords t 0) y).trans (congrArg (result m c) (place_7 (adm m hT 0) t y).symm)))
    (cover_7 (adm m hT 0))

include hT in
/-- The run: the result array at the mixture, the seven arguments unchanged, every semaphore at zero. -/
theorem run : θ_run (defs (F := F)) (onTc (τ := τ) (main (F := F))) (s₀ m ρ)
      (fun r => (∀ c : Dev nD,
        r.2.mem ((c : Thread nD τ).loc main_v3) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6))
        ∧ r.2.sem = fun _ => 0) :=
  (θ_run (defs (F := F)) _ _).mono (fun r (h : _ ∧ _) => ⟨fun c =>
      ⟨((h.1 c).1 7).trans (final m hT c),
        (h.1 c).2 main_arg0 (by decide : main_arg0 ∈ Pipeline.restRefs sig spec0),
        (h.1 c).2 main_arg1 (by decide : main_arg1 ∈ Pipeline.restRefs sig spec0),
        (h.1 c).2 main_arg2 (by decide : main_arg2 ∈ Pipeline.restRefs sig spec0),
        ((h.1 c).1 0).trans ((dats m hT 0 c).arrAt_in 0 rfl _),
        (h.1 c).2 main_arg4 (by decide : main_arg4 ∈ Pipeline.restRefs sig spec0),
        (h.1 c).2 main_arg5 (by decide : main_arg5 ∈ Pipeline.restRefs sig spec0),
        (h.1 c).2 main_arg6 (by decide : main_arg6 ∈ Pipeline.restRefs sig spec0)⟩, h.2⟩)
    (run_main m ρ hT)

end Cert.Mixture

end
-- ==== Proof.ExpertSame.lean ====
/- The expert call's two prints are one program at the machine's own floats: so one run proves both frames. -/
module

public import proofs.«01_k».proof.Proof.ExpertValue
public import proofs.«01_k».proof.Proof.Gen.Experts
public import Idealize.ShloMosaic.PureOps.BitExact

@[expose] public section
set_option maxRecDepth 16384

noncomputable section

namespace Cert.Mixture.Same

open Idealize.ShloMosaic Idealize.SL.Sem

/-- The body table's one label, its staging buffers named by plain indices. -/
theorem body_same (t : Fin 624) (s0 s1 s2 s3 s4 s5 s6 s7 : Fin 2) :
    Cert.Experts.cc0_moe_experts (F := Bits) (Cert.Experts.grid0.coords t) (Memref.whole Cert.Experts.main_arg0) (Memref.isWhole_whole _)
      (Memref.whole Cert.Experts.main_arg1) (Memref.isWhole_whole _) (Memref.whole Cert.Experts.main_arg2) (Memref.isWhole_whole _)
      (Cert.Experts.stage0_0 s0) (Cert.Experts.Facts₀.hstage0_0 s0) (Cert.Experts.stage0_1 s1) (Cert.Experts.Facts₀.hstage0_1 s1)
      (Cert.Experts.stage0_2 s2) (Cert.Experts.Facts₀.hstage0_2 s2) (Cert.Experts.stage0_3 s3) (Cert.Experts.Facts₀.hstage0_3 s3)
      (Cert.Experts.stage0_4 s4) (Cert.Experts.Facts₀.hstage0_4 s4) (Cert.Experts.stage0_5 s5) (Cert.Experts.Facts₀.hstage0_5 s5)
      (Cert.Experts.stage0_6 s6) (Cert.Experts.Facts₀.hstage0_6 s6) (Cert.Experts.stage0_7 s7) (Cert.Experts.Facts₀.hstage0_7 s7)
    = Cert.ExpertsIdeal.cc0_moe_experts (F := Bits) (Cert.ExpertsIdeal.grid0.coords t) (Memref.whole Cert.ExpertsIdeal.main_arg0) (Memref.isWhole_whole _)
      (Memref.whole Cert.ExpertsIdeal.main_arg1) (Memref.isWhole_whole _) (Memref.whole Cert.ExpertsIdeal.main_arg2) (Memref.isWhole_whole _)
      (Cert.ExpertsIdeal.stage0_0 s0) (Cert.ExpertsIdeal.Facts₀.hstage0_0 s0) (Cert.ExpertsIdeal.stage0_1 s1) (Cert.ExpertsIdeal.Facts₀.hstage0_1 s1)
      (Cert.ExpertsIdeal.stage0_2 s2) (Cert.ExpertsIdeal.Facts₀.hstage0_2 s2) (Cert.ExpertsIdeal.stage0_3 s3) (Cert.ExpertsIdeal.Facts₀.hstage0_3 s3)
      (Cert.ExpertsIdeal.stage0_4 s4) (Cert.ExpertsIdeal.Facts₀.hstage0_4 s4) (Cert.ExpertsIdeal.stage0_5 s5) (Cert.ExpertsIdeal.Facts₀.hstage0_5 s5)
      (Cert.ExpertsIdeal.stage0_6 s6) (Cert.ExpertsIdeal.Facts₀.hstage0_6 s6) (Cert.ExpertsIdeal.stage0_7 s7) (Cert.ExpertsIdeal.Facts₀.hstage0_7 s7) := by
  have c3 : @Cert.Experts.cc0_moe_experts Bits _ _ = @Cert.ExpertsIdeal.cc0_moe_experts Bits _ _ := rfl
  rw [c3]
  rfl

/-- The two body tables. -/
theorem table_same : @Cert.Experts.defs₀ Bits _ _ = @Cert.ExpertsIdeal.defs₀ Bits _ _ := by
  unfold Cert.Experts.defs₀ Cert.ExpertsIdeal.defs₀
  refine congrArg Defs.onTc (funext fun l => funext fun a => ?_)
  match l, a with
  | 0, (t, s) => exact body_same t (s 0) (s 1) (s 2) (s 3) (s 4) (s 5) (s 6) (s 7)

theorem defs_same : Cert.Experts.defs (F := Bits) = Cert.ExpertsIdeal.defs (F := Bits) :=
  congrArg (Pipeline.defs (Cert.ExpertsIdeal.pcfgs (F := Bits))) table_same

theorem main_same : Cert.Experts.main (F := Bits) = Cert.ExpertsIdeal.main (F := Bits) := rfl

/-- A run of the one is a run of the other. -/
theorem carry (m : (ℓ : Loc Cert.ExpertsIdeal.nD Cert.ExpertsIdeal.τ Cert.ExpertsIdeal.sig) → Buf (Elt Bits) ℓ) (ρ : Dev Cert.ExpertsIdeal.nD → PrngReg)
    (D) (M) (hD : D = Cert.ExpertsIdeal.defs (F := Bits)) (hM : M = Cert.ExpertsIdeal.main (F := Bits)) (Q)
    (h : θ_run (Cert.ExpertsIdeal.defs (F := Bits)) (onTc (τ := Cert.ExpertsIdeal.τ) (Cert.ExpertsIdeal.main (F := Bits))) ⟨m, fun _ => 0, ρ⟩ Q) :
    θ_run D (onTc (τ := Cert.ExpertsIdeal.τ) M) ⟨m, fun _ => 0, ρ⟩ Q := by
  subst hD hM
  exact h

end Cert.Mixture.Same

end
-- ==== Proof.ExpertPre.lean ====
/- The expert call's precondition in plain words. -/
module

public import proofs.«01_k».proof.Proof.ExpertTables
public import proofs.«01_k».proof.Proof.Gen.Pre_tiled

@[expose] public section

set_option maxRecDepth 16384

noncomputable section

namespace Cert.Mixture

open Cert.Pre_tiled
open Idealize.ShloMosaic

theorem both_bits (a b : BitVec 1) (h : IntOp.andi a b = 1#1) : a = 1#1 ∧ b = 1#1 := by
  revert h; revert a b; decide

theorem bit_true {b : Bool} (h : BitVec.ofBool b = 1#1) : b = true := by
  cases b
  · exact absurd h (by decide)
  · rfl

/-- A word that is not negative and below 32 as a signed number is below 32 as a natural one. -/
theorem small_of (w : BitVec 32) (h1 : IntOp.cmpi .sge w 0#32 = 1#1) (h2 : IntOp.cmpi .slt w 32#32 = 1#1) : w.toNat < 32 := by
  have h1 : (0#32).toInt ≤ w.toInt := of_decide_eq_true (bit_true h1)
  have h2 : w.toInt < (32#32).toInt := of_decide_eq_true (bit_true h2)
  rw [show (0#32).toInt = 0 from by decide] at h1
  rw [show (32#32).toInt = 32 from by decide] at h2
  have hw := w.isLt
  rw [BitVec.toInt_eq_toNat_cond] at h1 h2
  split at h1
  · rw [if_pos (by assumption)] at h2; omega
  · omega

theorem one_at {α : Type} (n : Cert.Pre_tiled.S1.Idx → α) (y : S624.Idx) :
    broadcastInDim S624 ![0] Cert.Pre_tiled.Facts.bcast_S1_S624_0 n y = n first1 := by
  unfold broadcastInDim
  congr 1
  funext a
  fin_cases a
  exact Subsingleton.elim (α := Fin 1) _ _

/-- The precondition gives what the proofs of the two programs use. -/
theorem tiled_of {F : FTy → Type} [FloatOps F] (lo hi : Tiles) (n : Cert.Pre_tiled.S1.Idx → BitVec 32) (X : FVec F S79872x1152 .f32)
    (G U : FVec F S32x1024x256 .f32) (D : FVec F S32x256x1024 .f32)
    (h : Cert.Pre_tiled.fn (F := F) lo hi n X G U D = fun _ => 1#1) : Tiled lo hi n := by
  have key : ∀ y : S624.Idx, (lo y).toNat < 32 ∧ (hi y).toNat < 32 ∧ lo y ≠ hi y ∧ 1 ≤ (n first1).toInt := by
    intro y
    have hy := congrFun h y
    obtain ⟨h12, h15⟩ := both_bits _ _ hy
    obtain ⟨h10, h11⟩ := both_bits _ _ h12
    obtain ⟨h4, h9⟩ := both_bits _ _ h10
    obtain ⟨h1, h3⟩ := both_bits _ _ h4
    obtain ⟨h6, h8⟩ := both_bits _ _ h9
    refine ⟨small_of _ h1 h3, small_of _ h6 h8, ?_, ?_⟩
    · have hb : (lo y != hi y) = true := bit_true h11
      exact bne_iff_ne.mp hb
    · have h15 := (one_at _ y).symm.trans h15
      have h : (1#32).toInt ≤ (n first1).toInt := of_decide_eq_true (bit_true h15)
      rw [show (1#32).toInt = 1 from by decide] at h
      exact h
  exact ⟨fun i => (key (tile i)).1, fun i => (key (tile i)).2.1, fun i => (key (tile i)).2.2.1, (key (tile 0)).2.2.2⟩

end Cert.Mixture

end
-- ==== Proof.ExpertTile.lean ====
/- One tile's two experts over the extended reals, element by element. -/
module

public import proofs.«01_k».proof.Proof.ExpertValue
public import Idealize.ShloMosaic.Lib.Pointwise

@[expose] public section

set_option maxRecDepth 16384

noncomputable section

namespace Cert.Mixture

open Cert.ExpertsIdeal Cert.ExpertsIdeal.Gen
open Idealize.ShloMosaic

/-- `a · σ(a)`. -/
def silu (a : EReal) : EReal := a * Ideal.div 1 (1 + Ideal.exp (-a))

theorem pay5_apply (x : Vec Ideal S128x1024 .f32) (g : Vec Ideal S1x1024x256 .bf16) (a : Fin 128) (f : Fin 256) :
    k0_pay5 (F := Ideal) x g (ix2 a f) = ∑ k : Fin 1024, (x (ix2 a k) : EReal) * g (ix3 0 k f) := by
  pointwise [k0_pay5, k0_pay3]

theorem pay6_apply (x : Vec Ideal S128x1024 .f32) (g : Vec Ideal S1x1024x256 .bf16) (a : Fin 128) (f : Fin 256) :
    k0_pay6 (F := Ideal) x g (ix2 a f) = ∑ k : Fin 1024, (x (ix2 a k) : EReal) * g (ix3 0 k f) := by
  pointwise [k0_pay6, k0_pay3]

theorem pay1_apply (w : Vec Ideal S128x1 .f32) (s : FVec Ideal S128x1024 .f32) (p q : FVec Ideal S128x256 .f32) (d : Vec Ideal S1x256x1024 .bf16)
    (a : Fin 128) (b : Fin 1024) :
    k0_pay1 (F := Ideal) w s p q d (ix2 a b)
      = (s (ix2 a b) : EReal) + ∑ f : Fin 256, (silu (p (ix2 a f)) * q (ix2 a f)) * w (ix2 a 0) * d (ix3 0 f b) := by
  pointwise [k0_pay1, silu]
  simp only [zero_sub]

theorem pay4_apply (x : Vec Ideal S128x1024 .f32) (w : Vec Ideal S128x1 .f32) (g u : Vec Ideal S1x1024x256 .bf16) (d : Vec Ideal S1x256x1024 .bf16)
    (a : Fin 128) (b : Fin 1024) :
    k0_pay4 (F := Ideal) x w g u d (ix2 a b)
      = ∑ f : Fin 256, (silu (∑ k : Fin 1024, (x (ix2 a k) : EReal) * g (ix3 0 k f)) * (∑ k : Fin 1024, (x (ix2 a k) : EReal) * u (ix3 0 k f)))
          * w (ix2 a 0) * d (ix3 0 f b) := by
  pointwise [k0_pay4, k0_pay3, silu]
  simp only [zero_sub]

theorem pay2_apply (j : S128x1024.Idx) : (k0_pay2 (F := Ideal) j : EReal) = 0 := by
  pointwise [k0_pay2]

/-- Lane `k` of a row, among its 1152. -/
def lane (k : Fin 1024) : Fin 1152 := ⟨k.val, by have := k.isLt; omega⟩

/-- Row `r` against column `f` of expert `e`. -/
def dotAt (X : S79872x1152.Idx → EReal) (W : S32x1024x256.Idx → EReal) (r : Fin 79872) (e : Fin 32) (f : Fin 256) : EReal :=
  ∑ k : Fin 1024, X (ix2 r (lane k)) * W (ix3 e k f)

/-- The hidden value `f` of expert `e` at row `r`. -/
def hidAt (X : S79872x1152.Idx → EReal) (G U : S32x1024x256.Idx → EReal) (r : Fin 79872) (e : Fin 32) (f : Fin 256) : EReal :=
  silu (dotAt X G r e f) * dotAt X U r e f

/-- Expert `e`'s output at row `r`, weighted by `w`. -/
def weighted (X : S79872x1152.Idx → EReal) (G U : S32x1024x256.Idx → EReal) (D : S32x256x1024.Idx → EReal) (r : Fin 79872) (e : Fin 32) (w : EReal)
    (b : Fin 1024) : EReal :=
  ∑ f : Fin 256, hidAt X G U r e f * w * D (ix3 e f b)

theorem rows_at (X : Vec Ideal S79872x1152 .f32) (i : Fin 624) (a : Fin 128) (k : Fin 1024) :
    rowsOf (rowsBlk X i) (ix2 a k) = X (ix2 (rowAt i a) (lane k)) := by
  show X _ = X _
  congr 1
  funext c
  apply Fin.ext
  fin_cases c
  · show i.val * 128 + (0 + 1 * a.val) = i.val * 128 + a.val; omega
  · show 0 + 1 * k.val = k.val; omega
theorem lo_at (X : Vec Ideal S79872x1152 .f32) (i : Fin 624) (a : Fin 128) :
    loOf (rowsBlk X i) (ix2 a 0) = X (ix2 (rowAt i a) 1024) := by
  show X _ = X _
  congr 1
  funext c
  apply Fin.ext
  fin_cases c
  · show i.val * 128 + (0 + 1 * a.val) = i.val * 128 + a.val; omega
  · rfl
theorem hi_at (X : Vec Ideal S79872x1152 .f32) (i : Fin 624) (a : Fin 128) :
    hiOf (rowsBlk X i) (ix2 a 0) = X (ix2 (rowAt i a) 1025) := by
  show X _ = X _
  congr 1
  funext c
  apply Fin.ext
  fin_cases c
  · show i.val * 128 + (0 + 1 * a.val) = i.val * 128 + a.val; omega
  · rfl
theorem up_at (W : Vec Ideal S32x1024x256 .f32) (e : Fin 32) (k : Fin 1024) (f : Fin 256) : upBlk (upCast W) e (ix3 0 k f) = W (ix3 e k f) := by
  show W _ = W _
  congr 1
  funext c
  fin_cases c <;> rfl
theorem down_at (W : Vec Ideal S32x256x1024 .f32) (e : Fin 32) (f : Fin 256) (b : Fin 1024) : downBlk (downCast W) e (ix3 0 f b) = W (ix3 e f b) := by
  show W _ = W _
  congr 1
  funext c
  fin_cases c <;> rfl

/-- The sum over a block's columns is the sum over the row of the whole array. -/
theorem dot_tile (X : Vec Ideal S79872x1152 .f32) (W : Vec Ideal S32x1024x256 .f32) (i : Fin 624) (e : Fin 32) (a : Fin 128) (f : Fin 256) :
    (∑ k : Fin 1024, (rowsOf (rowsBlk X i) (ix2 a k) : EReal) * upBlk (upCast W) e (ix3 0 k f)) = dotAt X W (rowAt i a) e f :=
  Finset.sum_congr rfl fun k _ => congrArg₂ (fun s t : EReal => s * t) (rows_at X i a k) (up_at W e k f)

/-- One expert's share of a tile's element. -/
theorem part_eq (X : Vec Ideal S79872x1152 .f32) (w : EReal) (G U : Vec Ideal S32x1024x256 .f32) (D : Vec Ideal S32x256x1024 .f32) (i : Fin 624) (e : Fin 32)
    (v : EReal) (a : Fin 128) (b : Fin 1024) (hv : w = v) :
    (∑ f : Fin 256, (silu (∑ k : Fin 1024, (rowsOf (rowsBlk X i) (ix2 a k) : EReal) * upBlk (upCast G) e (ix3 0 k f))
        * ∑ k : Fin 1024, (rowsOf (rowsBlk X i) (ix2 a k) : EReal) * upBlk (upCast U) e (ix3 0 k f)) * w * downBlk (downCast D) e (ix3 0 f b))
      = weighted X G U D (rowAt i a) e v b := by
  subst hv
  exact Finset.sum_congr rfl fun f _ => congrArg₂ (fun s t : EReal => s * t)
    (congrArg (fun s : EReal => s * w) (congrArg₂ (fun s t : EReal => silu s * t) (dot_tile X G i e a f) (dot_tile X U i e a f))) (down_at D e f b)

/-- A tile in use: the two chosen experts, each weighted, added. -/
theorem busy_apply (X : Vec Ideal S79872x1152 .f32) (G U : Vec Ideal S32x1024x256 .f32) (D : Vec Ideal S32x256x1024 .f32) (i : Fin 624) (p q : Fin 32)
    (a : Fin 128) (b : Fin 1024) :
    busy (rowsBlk X i) (upBlk (upCast G) p) (upBlk (upCast U) p) (downBlk (downCast D) p) (upBlk (upCast G) q) (upBlk (upCast U) q) (downBlk (downCast D) q) (ix2 a b)
      = weighted X G U D (rowAt i a) p (X (ix2 (rowAt i a) 1024)) b + weighted X G U D (rowAt i a) q (X (ix2 (rowAt i a) 1025)) b := by
  unfold busy
  rw [pay1_apply, pay4_apply]
  simp only [pay5_apply, pay6_apply]
  exact congrArg₂ (fun s t : EReal => s + t)
    (part_eq _ _ G U D i p _ a b (lo_at X i a)) (part_eq _ _ G U D i q _ a b (hi_at X i a))

/-- The whole result, element by element. -/
theorem mixture_apply (lo hi : Tiles) (n : S1.Idx → BitVec 32) (X : Vec Ideal S79872x1152 .f32) (G U : Vec Ideal S32x1024x256 .f32) (D : Vec Ideal S32x256x1024 .f32)
    (r : Fin 79872) (b : Fin 1024) :
    mixture lo hi n X G U D (ix2 r b)
      = if ((tileOf r).val : ℤ) < (n first1).toInt then
          weighted X G U D r (expert (lo (tile (tileOf r)))) (X (ix2 r 1024)) b + weighted X G U D r (expert (hi (tile (tileOf r)))) (X (ix2 r 1025)) b
        else 0 := by
  have e : (at2 (inTile r) b : S128x1024.Idx) = ix2 (inTile r) b := by funext c; fin_cases c <;> rfl
  show tileOut lo hi n X G U D (tileOf r) (at2 (inTile r) b) = _
  rw [e]
  unfold tileOut
  by_cases h : ((tileOf r).val : ℤ) < (n first1).toInt
  · rw [if_pos h, if_pos h]
    refine (busy_apply X G U D (tileOf r) _ _ (inTile r) b).trans ?_
    rw [rowAt_tileOf]
  · rw [if_neg h, if_neg h]
    exact pay2_apply _

end Cert.Mixture

end
-- ==== Proof.ExpertRef.lean ====
/- The expert call's reference over the extended reals, element by element. -/
module

public import proofs.«01_k».proof.Proof.ExpertTile
public import proofs.«01_k».proof.Proof.Gen.ExpertsReferenceIdeal.Run

@[expose] public section

set_option maxRecDepth 16384

noncomputable section

namespace Cert.Mixture.Ref

open Cert.ExpertsReferenceIdeal Cert.ExpertsReferenceIdeal.Gen Cert.Mixture
open Idealize.ShloMosaic Idealize.SL.Sem

/-- Every row against every column of every expert. -/
def product (X : FVec Ideal S79872x1152 .f32) (W : FVec Ideal S32x1024x256 .f32) : FVec Ideal S79872x32x256 .f32 :=
  Host.dotGeneral dot_S79872x1024_S32x1024x256_S79872x32x256_1_1_0_02_n_n none
    (extractStridedSlice S79872x1024 ![0, 0] X slices_S79872x1152_S79872x1024_0_0) W

theorem product_apply (X : FVec Ideal S79872x1152 .f32) (W : FVec Ideal S32x1024x256 .f32) (r : Fin 79872) (e : Fin 32) (f : Fin 256) :
    product X W (ix3 r e f) = dotAt X W r e f := by
  pointwise [product, dotAt, lane]

/-- The weight of every expert at every row. -/
def gate (lo hi : IVec S624 32) (n : IVec S1 32) (X : FVec Ideal S79872x1152 .f32) : FVec Ideal S79872x32 .f32 :=
    select (broadcastInDim S79872x32 ![0, 1] bcast_S79872x1_S79872x32_0_1 (broadcastInDim S79872x1 ![0] bcast_S79872_S79872x1_0
        (shapeCast S79872 (broadcastInDim S624x128 ![0] bcast_S624_S624x128_0 (cmpi .slt (iotaInDim S624 32 0) (broadcastInDim S624 ![0] bcast_S1_S624_0 n))) shapeCasts_S624x128_S79872)))
      (addf
        (mulf (uitofp .f32 (cmpi .eq (broadcastInDim S79872x32 ![0, 1] bcast_S79872x1_S79872x32_0_1 (broadcastInDim S79872x1 ![0] bcast_S79872_S79872x1_0
            (shapeCast S79872 (broadcastInDim S624x128 ![0] bcast_S624_S624x128_0 lo) shapeCasts_S624x128_S79872)))
            (broadcastInDim S79872x32 ![0, 1] bcast_S1x32_S79872x32_0_1 (iotaInDim S1x32 32 1))))
          (broadcastInDim S79872x32 ![0, 1] bcast_S79872x1_S79872x32_0_1 (extractStridedSlice S79872x1 ![0, 1024] X slices_S79872x1152_S79872x1_0_1024)))
        (mulf (uitofp .f32 (cmpi .eq (broadcastInDim S79872x32 ![0, 1] bcast_S79872x1_S79872x32_0_1 (broadcastInDim S79872x1 ![0] bcast_S79872_S79872x1_0
            (shapeCast S79872 (broadcastInDim S624x128 ![0] bcast_S624_S624x128_0 hi) shapeCasts_S624x128_S79872)))
            (broadcastInDim S79872x32 ![0, 1] bcast_S1x32_S79872x32_0_1 (iotaInDim S1x32 32 1))))
          (broadcastInDim S79872x32 ![0, 1] bcast_S79872x1_S79872x32_0_1 (extractStridedSlice S79872x1 ![0, 1025] X slices_S79872x1152_S79872x1_0_1025))))
      (broadcastInDim S79872x32 ![] bcast_S_S79872x32 (id (constant S_ .f32 0x00000000#32)))

/-- The hidden values, each scaled by its expert's weight at the row. -/
def hidden (A U : FVec Ideal S79872x32x256 .f32) (g : FVec Ideal S79872x32 .f32) : FVec Ideal S79872x32x256 .f32 :=
  mulf (mulf (mulf A (Host.divf (broadcastInDim S79872x32x256 ![] bcast_S_S79872x32x256 (constant S_ .f32 0x3F800000#32))
      (addf (broadcastInDim S79872x32x256 ![] bcast_S_S79872x32x256 (constant S_ .f32 0x3F800000#32)) (Host.exp (Host.negf A))))) U)
    (broadcastInDim S79872x32x256 ![0, 1, 2] bcast_S79872x32x1_S79872x32x256_0_1_2 (broadcastInDim S79872x32x1 ![0, 1] bcast_S79872x32_S79872x32x1_0_1 g))

theorem hidden_apply (A U : FVec Ideal S79872x32x256 .f32) (g : FVec Ideal S79872x32 .f32) (r : Fin 79872) (e : Fin 32) (f : Fin 256) :
    hidden A U g (ix3 r e f) = ((silu (A (ix3 r e f)) * U (ix3 r e f)) * g (ix2 r e) : EReal) := by
  pointwise [hidden, silu]

/-- The last product: over the experts and their hidden values. -/
def summed (H : FVec Ideal S79872x32x256 .f32) (D : FVec Ideal S32x256x1024 .f32) : FVec Ideal S79872x1024 .f32 :=
  Host.dotGeneral dot_S79872x32x256_S32x256x1024_S79872x1024_12_01_0_2_n_n none H D

theorem summed_apply (H : FVec Ideal S79872x32x256 .f32) (D : FVec Ideal S32x256x1024 .f32) (r : Fin 79872) (b : Fin 1024) :
    summed H D (ix2 r b) = ∑ e : Fin 32, ∑ f : Fin 256, (H (ix3 r e f) : EReal) * D (ix3 e f b) := by
  pointwise [summed]

/-- One when the word names expert `e`, zero otherwise. -/
def pick (w : BitVec 32) (e : Fin 32) : EReal := if w = BitVec.ofNat 32 e.val then 1 else 0

theorem pick_eq (w : BitVec 32) (e : Fin 32) :
    (FloatOps.uitofp (F := Ideal) FTy.f32 (IntOp.cmpi CmpIPredicate.eq w (BitVec.ofNat 32 e.val)) : EReal) = pick w e := by
  show (((BitVec.ofBool (w == BitVec.ofNat 32 e.val)).toNat : ℝ) : EReal) = pick w e
  unfold pick
  by_cases h : w = BitVec.ofNat 32 e.val
  · rw [if_pos h, beq_iff_eq.mpr h]; simp
  · rw [if_neg h, beq_eq_false_iff_ne.mpr h]; simp

/-- A word below 32 names one expert. -/
theorem pick_expert (w : BitVec 32) (h : w.toNat < 32) (e : Fin 32) : pick w e = if e = expert w then 1 else 0 := by
  unfold pick
  have hv := expert_val w h
  have he := e.isLt
  by_cases hw : w = BitVec.ofNat 32 e.val
  · rw [if_pos hw, if_pos]
    apply Fin.ext
    rw [hv, hw, BitVec.toNat_ofNat]; omega
  · rw [if_neg hw, if_neg]
    intro hx
    apply hw
    apply BitVec.eq_of_toNat_eq
    rw [hx, hv, BitVec.toNat_ofNat]; omega

theorem row_tile (r : Fin 79872) (h : r.val / 128 < 624) : (ix1 (⟨r.val / 128, h⟩ : Fin 624) : Cert.ExpertsIdeal.S624.Idx) = tile (tileOf r) := by
  funext a
  fin_cases a
  rfl

theorem first_eq : (ix1 0 : Cert.ExpertsIdeal.S1.Idx) = first1 := by
  funext a
  fin_cases a
  exact Subsingleton.elim (α := Fin 1) _ _

theorem select_lt (x y : BitVec 32) (a b : EReal) : Scalar.select (IntOp.cmpi CmpIPredicate.slt x y) a b = if x.toInt < y.toInt then a else b := by
  show (if BitVec.ofBool (x.slt y) = 1#1 then a else b) = _
  by_cases h : x.toInt < y.toInt
  · rw [if_pos h, show x.slt y = true from decide_eq_true h]; rfl
  · rw [if_neg h, show x.slt y = false from decide_eq_false h]; rfl

theorem gate_apply (lo hi : IVec S624 32) (n : IVec S1 32) (X : FVec Ideal S79872x1152 .f32) (r : Fin 79872) (e : Fin 32) :
    (gate lo hi n X (ix2 r e) : EReal)
      = if ((tileOf r).val : ℤ) < (n first1).toInt then
          pick (lo (tile (tileOf r))) e * X (ix2 r 1024) + pick (hi (tile (tileOf r))) e * X (ix2 r 1025)
        else 0 := by
  have ht : r.val / 128 < 624 := by have := r.isLt; omega
  have hp : (BitVec.ofNat 32 (r.val / 128)).toInt = ((tileOf r).val : ℤ) := by
    have hv : (tileOf r).val = r.val / 128 := rfl
    rw [hv, BitVec.toInt_eq_toNat_cond, BitVec.toNat_ofNat]
    rw [if_pos (by omega)]; omega
  have hz : (id (constant (F := Ideal) S_ FTy.f32 0#32) ix0 : EReal) = (0 : EReal) := Ideal.ofBits_zero_f32
  pointwise [gate]
  rw [pick_eq, pick_eq, select_lt, hp, hz]
  have e0 : lo (ix1 ⟨r.val / 128, ht⟩) = lo (tile (tileOf r)) := congrArg lo (row_tile r ht)
  have e1 : hi (ix1 ⟨r.val / 128, ht⟩) = hi (tile (tileOf r)) := congrArg hi (row_tile r ht)
  have e2 : n (ix1 0) = n first1 := congrArg n first_eq
  rw [e0, e1, e2]

/-- What the reference computes. -/
def outcome (lo hi : IVec S624 32) (n : IVec S1 32) (X : FVec Ideal S79872x1152 .f32) (G U : FVec Ideal S32x1024x256 .f32) (D : FVec Ideal S32x256x1024 .f32) :
    FVec Ideal S79872x1024 .f32 :=
  summed (hidden (product X G) (product X U) (gate lo hi n X)) D

/-- A sum over the experts in which two distinct ones alone count. -/
theorem sum_two (p q : Fin 32) (hne : p ≠ q) (t : Fin 32 → EReal) (h : ∀ e, e ≠ p → e ≠ q → t e = 0) : ∑ e : Fin 32, t e = t p + t q := by
  rw [← Finset.sum_pair hne]
  refine (Finset.sum_subset (Finset.subset_univ _) fun e _ he => ?_).symm
  have he := Finset.mem_insert.not.mp he
  push Not at he
  exact h e he.1 fun hq => he.2 (Finset.mem_singleton.mpr hq)

/-- The reference at row `r` and lane `b`: all the experts, each weighted by its gate. -/
theorem outcome_apply (lo hi : IVec S624 32) (n : IVec S1 32) (X : FVec Ideal S79872x1152 .f32) (G U : FVec Ideal S32x1024x256 .f32) (D : FVec Ideal S32x256x1024 .f32)
    (r : Fin 79872) (b : Fin 1024) :
    outcome lo hi n X G U D (ix2 r b) = ∑ e : Fin 32, weighted X G U D r e (gate lo hi n X (ix2 r e)) b := by
  unfold outcome
  rw [summed_apply]
  refine Finset.sum_congr rfl fun e _ => Finset.sum_congr rfl fun f _ => ?_
  rw [hidden_apply, product_apply, product_apply]
  rfl

theorem weighted_zero (X : FVec Ideal S79872x1152 .f32) (G U : FVec Ideal S32x1024x256 .f32) (D : FVec Ideal S32x256x1024 .f32) (r : Fin 79872) (e : Fin 32)
    (b : Fin 1024) : weighted X G U D r e 0 b = 0 :=
  Finset.sum_eq_zero fun f _ => by rw [mul_zero, zero_mul]

/-- The two programs compute one array. -/
theorem outcome_eq {lo hi : Tiles} {n : Cert.ExpertsIdeal.S1.Idx → BitVec 32} (h : Tiled lo hi n) (X : FVec Ideal S79872x1152 .f32)
    (G U : FVec Ideal S32x1024x256 .f32) (D : FVec Ideal S32x256x1024 .f32) :
    outcome lo hi n X G U D = mixture (F := Ideal) lo hi n X G U D := by
  funext j
  obtain ⟨r, b, rfl⟩ : ∃ (r : Fin 79872) (b : Fin 1024), j = ix2 r b := ⟨j 0, j 1, by funext a; fin_cases a <;> rfl⟩
  refine (outcome_apply lo hi n X G U D r b).trans (Eq.trans ?_ (mixture_apply lo hi n X G U D r b).symm)
  have hlo := h.lo_lt (tileOf r)
  have hhi := h.hi_lt (tileOf r)
  have hne : expert (lo (tile (tileOf r))) ≠ expert (hi (tile (tileOf r))) := by
    intro hx
    apply h.ne (tileOf r)
    apply BitVec.eq_of_toNat_eq
    rw [← expert_val _ hlo, ← expert_val _ hhi, hx]
  have hg := fun e => gate_apply lo hi n X r e
  by_cases hu : ((tileOf r).val : ℤ) < (n first1).toInt
  · rw [if_pos hu]
    simp only [if_pos hu] at hg
    have hgp := fun e => (hg e).trans (congrArg₂ (fun s t : EReal => s * X (ix2 r 1024) + t * X (ix2 r 1025)) (pick_expert _ hlo e) (pick_expert _ hhi e))
    refine (sum_two _ _ hne _ fun e h1 h2 => ?_).trans (congrArg₂ (fun s t : EReal => s + t) ?_ ?_)
    · have h0 : (gate lo hi n X (ix2 r e) : EReal) = 0 := (hgp e).trans (by rw [if_neg h1, if_neg h2, zero_mul, zero_mul, add_zero])
      exact (congrArg (fun w : EReal => weighted X G U D r e w b) h0).trans (weighted_zero X G U D r e b)
    · exact congrArg (fun w : EReal => weighted X G U D r _ w b) ((hgp _).trans (by rw [if_pos rfl, if_neg hne, one_mul, zero_mul, add_zero]))
    · exact congrArg (fun w : EReal => weighted X G U D r _ w b) ((hgp _).trans (by rw [if_neg hne.symm, if_pos rfl, one_mul, zero_mul, zero_add]))
  · rw [if_neg hu]
    simp only [if_neg hu] at hg
    refine Finset.sum_eq_zero fun e _ => ?_
    exact (congrArg (fun w : EReal => weighted X G U D r e w b) (hg e)).trans (weighted_zero X G U D r e b)

/-- The reference's run: its result is `outcome` of the arguments, and these stay as they are. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = outcome (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Cert.Mixture.Ref

end
-- ==== Proof.CombineRows.lean ====
/- The combine call: the rows of the experts' outputs that its copies read, the rows of the buffer that they fill, and
   both held row by row. Two tokens may name the same source row, so each copy reads with a share of its own. -/
module

public import proofs.«01_k».proof.Proof.Gen.CombineIdeal.Skeleton
public import proofs.«01_k».proof.Proof.Gen.CombineIdeal.Launch
public import proofs.«01_k».proof.Proof.Gen.CombineIdeal.Loops
public import Idealize.ShloMosaic.Lib.Batch
public import Idealize.ShloMosaic.Lib.Ring
public import Idealize.ShloMosaic.Lib.Tactic
public import Idealize.ShloMosaic.Lib.Pipeline.FrameValue

@[expose] public section

set_option maxRecDepth 16384

noncomputable section

namespace Cert.Merge

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The contents of the position table, of the experts' outputs and of the buffer. -/
abbrev Table : Type := S65536.Idx → BitVec 32
abbrev Outputs (F : FTy → Type) : Type := S79872x1024.Idx → Elt F .f32
abbrev Rows (F : FTy → Type) : Type := S512x1024.Idx → Elt F .f32

/-- Token `t`'s place in the position table; the place of a lane in a row of the outputs. -/
def at1 (t : Fin 65536) : S65536.Idx := fun a => ⟨t.val, by fin_cases a; exact t.isLt⟩
def atY (r : Fin 79872) (l : Fin 1024) : S79872x1024.Idx :=
  fun a => match a with
    | ⟨0, _⟩ => ⟨r.val, r.isLt⟩
    | ⟨1, _⟩ => ⟨l.val, l.isLt⟩

/-- The row that the table names for token `t`. -/
def pos (T : Table) (t : Fin 65536) : ℕ := (T (at1 t)).toNat

/-- A table that names rows of the outputs. -/
def InRange (T : Table) : Prop := ∀ t, pos T t < 79872

/-- That row. -/
def rowOf {T : Table} (hT : InRange T) (t : Fin 65536) : Fin 79872 := ⟨pos T t, hT t⟩

/-- The token that trip `k` of point `i` moves. -/
def token (i : Fin 128) (k : Fin 512) : Fin 65536 := ⟨512 * i.val + k.val, by have := i.isLt; have := k.isLt; omega⟩

/-- The rows of the outputs that point `i`'s tokens name, in the tokens' order. -/
def gathered {T : Table} (hT : InRange T) (Y : Outputs F) (i : Fin 128) : Rows F :=
  fun y => Y (atY (rowOf hT (token i ⟨(y 0).val, (y 0).isLt⟩)) ⟨(y 1).val, (y 1).isLt⟩)

/-- The elements of a row of the buffer, and of a row of the outputs. -/
def bufRow (p : ℕ) : Finset S512x1024.Idx := Finset.univ.filter fun y => (y 0).val = p
def outRow (p : ℕ) : Finset S79872x1024.Idx := Finset.univ.filter fun y => (y 0).val = p

theorem mem_bufRow (p : ℕ) (y : S512x1024.Idx) : y ∈ bufRow p ↔ (y 0).val = p := by
  simp only [bufRow, Finset.mem_filter, Finset.mem_univ, true_and]
theorem mem_outRow (p : ℕ) (y : S79872x1024.Idx) : y ∈ outRow p ↔ (y 0).val = p := by
  simp only [outRow, Finset.mem_filter, Finset.mem_univ, true_and]

theorem bufRow_disjoint {p q : ℕ} (h : p ≠ q) : Disjoint (bufRow p) (bufRow q) :=
  Finset.disjoint_left.mpr fun y hp hq => h (((mem_bufRow p y).mp hp).symm.trans ((mem_bufRow q y).mp hq))

/-- The buffer is its 512 rows. -/
theorem bufRow_cover : (Finset.univ.biUnion fun j : Fin 512 => bufRow j.val) = Finset.univ :=
  Finset.eq_univ_iff_forall.mpr fun y => Finset.mem_biUnion.mpr
    ⟨⟨(y 0).val, (y 0).isLt⟩, Finset.mem_univ _, (mem_bufRow _ y).mpr rfl⟩

/-- A one-row slice of the buffer has the elements of its row. -/
theorem buf_rect (o : Fin 2 → ℕ) (h : ∀ a, o a + S1x1024.size a ≤ S512x1024.size a) (h1 : o 1 = 0) :
    (Rect.unit (s := S512x1024) o S1x1024.size h).set = bufRow (o 0) := by
  ext y
  rw [Rect.mem_set_unit, mem_bufRow]
  have l : (y 1).val < 1024 := (y 1).isLt
  constructor
  · intro H
    have a0 : o 0 ≤ (y 0).val ∧ (y 0).val < o 0 + 1 := H 0
    omega
  · intro H a
    fin_cases a
    · show o 0 ≤ (y 0).val ∧ (y 0).val < o 0 + 1; omega
    · show o 1 ≤ (y 1).val ∧ (y 1).val < o 1 + 1024; omega

/-- A one-row slice of the outputs has the elements of its row. -/
theorem out_rect (o : Fin 2 → ℕ) (h : ∀ a, o a + S1x1024.size a ≤ S79872x1024.size a) (h1 : o 1 = 0) :
    (Rect.unit (s := S79872x1024) o S1x1024.size h).set = outRow (o 0) := by
  ext y
  rw [Rect.mem_set_unit, mem_outRow]
  have l : (y 1).val < 1024 := (y 1).isLt
  constructor
  · intro H
    have a0 : o 0 ≤ (y 0).val ∧ (y 0).val < o 0 + 1 := H 0
    omega
  · intro H a
    fin_cases a
    · show o 0 ≤ (y 0).val ∧ (y 0).val < o 0 + 1; omega
    · show o 1 ≤ (y 1).val ∧ (y 1).val < o 1 + 1024; omega

/-- The position table, the outputs and the buffer as the body holds them. -/
abbrev tabM : Memref sig .tc .smem S65536 .i32 := Memref.whole main_arg0
abbrev srcM : Memref sig .tc .hbm S79872x1024 .f32 := Memref.whole main_arg2
abbrev bufM : Memref sig .tc .vmem S512x1024 .f32 := Memref.whole cc0_scratch0

/-- The share of the outputs that copy `j` reads with. -/
def part (j : Fin 512) : PosShare TreeShare := Transfers.dealOf fullShare Finset.univ j

variable (c : Dev nD) (i : grid0.Coords) (T : Table) (Y : Outputs F)

/-- The token of trip `j`. -/
abbrev tok (j : Fin 512) : Fin 65536 := token (i 0) j

/-- The two rows that trip `j` copies between, the buffer's holding `B`. -/
def rows (B : Rows F) (j : Fin 512) : sProp 𝕄 :=
  iprop((bufM.view.loc (c : Thread nD τ) ↦[bufRow j.val]{fullShare} B)
    ∗ (srcM.view.loc (c : Thread nD τ) ↦[outRow (pos T (tok i j))]{part j} Y))

instance rows_storable (B : Rows F) (j : Fin 512) : BI.Storable (upEmb : UEmb _ 𝕄) (rows c i T Y B j) := by
  unfold rows; infer_instance

/-- What is left of each copy's share of the outputs. -/
def others : sProp 𝕄 :=
  bigSep Finset.univ fun j : Fin 512 => (srcM.view.loc (c : Thread nD τ) ↦[Finset.univ \ outRow (pos T (tok i j))]{part j} Y : sProp 𝕄)

/-- The buffer and the outputs are the point's rows beside what is left of the shares. -/
theorem arrays_rows (B : Rows F) :
    (iprop((bufM.view.loc (c : Thread nD τ) ↦{fullShare} B) ∗ (srcM.view.loc (c : Thread nD τ) ↦{fullShare} Y)) : sProp 𝕄)
      ⊣⊢ iprop(bigSep Finset.univ (rows c i T Y B) ∗ others c i T Y) := by
  have hb : (bufM.view.loc (c : Thread nD τ) ↦{fullShare} B : sProp 𝕄)
      = bigSep Finset.univ fun j : Fin 512 => (bufM.view.loc (c : Thread nD τ) ↦[bufRow j.val]{fullShare} B : sProp 𝕄) := by
    refine (congrArg (fun S => (bufM.view.loc (c : Thread nD τ) ↦[S]{fullShare} B : sProp 𝕄)) bufRow_cover.symm).trans ?_
    exact pointsTo_biUnion (ℓ := bufM.view.loc (c : Thread nD τ)) Finset.univ (fun j : Fin 512 => bufRow j.val)
      (fun s _ t _ h => bufRow_disjoint fun e => h (Fin.ext e))
  have hd : (srcM.view.loc (c : Thread nD τ) ↦{fullShare} Y : sProp 𝕄)
      = bigSep Finset.univ fun j : Fin 512 => (srcM.view.loc (c : Thread nD τ) ↦{part j} Y : sProp 𝕄) :=
    Transfers.pointsTo_deal Finset.univ ⟨0, Finset.mem_univ _⟩ fullShare
  have hs : (bigSep Finset.univ fun j : Fin 512 => (srcM.view.loc (c : Thread nD τ) ↦{part j} Y : sProp 𝕄))
      ⊣⊢ iprop((bigSep Finset.univ fun j : Fin 512 => (srcM.view.loc (c : Thread nD τ) ↦[outRow (pos T (tok i j))]{part j} Y : sProp 𝕄))
        ∗ others c i T Y) := by
    unfold others
    have e : (bigSep Finset.univ fun j : Fin 512 =>
          (iprop((srcM.view.loc (c : Thread nD τ) ↦[outRow (pos T (tok i j))]{part j} Y)
            ∗ (srcM.view.loc (c : Thread nD τ) ↦[Finset.univ \ outRow (pos T (tok i j))]{part j} Y)) : sProp 𝕄))
        = iprop((bigSep Finset.univ fun j : Fin 512 => (srcM.view.loc (c : Thread nD τ) ↦[outRow (pos T (tok i j))]{part j} Y : sProp 𝕄))
          ∗ (bigSep Finset.univ fun j : Fin 512 =>
              (srcM.view.loc (c : Thread nD τ) ↦[Finset.univ \ outRow (pos T (tok i j))]{part j} Y : sProp 𝕄))) :=
      BI.bigSep_sep Finset.univ
        (fun j : Fin 512 => (srcM.view.loc (c : Thread nD τ) ↦[outRow (pos T (tok i j))]{part j} Y : sProp 𝕄))
        (fun j : Fin 512 => (srcM.view.loc (c : Thread nD τ) ↦[Finset.univ \ outRow (pos T (tok i j))]{part j} Y : sProp 𝕄))
    rw [← e]
    have h : ∀ j : Fin 512, (srcM.view.loc (c : Thread nD τ) ↦{part j} Y : sProp 𝕄)
        ⊣⊢ iprop((srcM.view.loc (c : Thread nD τ) ↦[outRow (pos T (tok i j))]{part j} Y)
          ∗ (srcM.view.loc (c : Thread nD τ) ↦[Finset.univ \ outRow (pos T (tok i j))]{part j} Y)) :=
      fun j => pointsTo_split_subset (Finset.subset_univ _)
    exact ⟨BI.bigSep_mono fun j _ => (h j).1, BI.bigSep_mono fun j _ => (h j).2⟩
  have hr : (bigSep Finset.univ (rows c i T Y B) : sProp 𝕄)
      = iprop((bigSep Finset.univ fun j : Fin 512 => (bufM.view.loc (c : Thread nD τ) ↦[bufRow j.val]{fullShare} B : sProp 𝕄))
          ∗ (bigSep Finset.univ fun j : Fin 512 => (srcM.view.loc (c : Thread nD τ) ↦[outRow (pos T (tok i j))]{part j} Y : sProp 𝕄))) :=
    BI.bigSep_sep Finset.univ (fun j : Fin 512 => (bufM.view.loc (c : Thread nD τ) ↦[bufRow j.val]{fullShare} B : sProp 𝕄))
      (fun j : Fin 512 => (srcM.view.loc (c : Thread nD τ) ↦[outRow (pos T (tok i j))]{part j} Y : sProp 𝕄))
  rw [hb, hd, hr]
  constructor
  · iintro ⟨Hb, Hs⟩
    ihave Hs' := hs.1 $$ Hs
    icases Hs' with ⟨Hs1, Hs2⟩
    isplitl [Hb Hs1]
    · isplitl [Hb]; · iexact Hb
      iexact Hs1
    iexact Hs2
  · iintro ⟨⟨Hb, Hs1⟩, Hs2⟩
    isplitl [Hb]; · iexact Hb
    iapply hs.2
    isplitl [Hs1]; · iexact Hs1
    iexact Hs2

end Cert.Merge

end
-- ==== Proof.CombineBody.lean ====
/- What the combine kernel's body does at one grid point: the first loop starts one copy a trip, of the row of the
   experts' outputs that the position table names into the token's row of the buffer, all on one semaphore; the second
   loop waits for the copies one row at a time; then the tile is read, the buffer added, the sum normalised and stored. -/
module

public import proofs.«01_k».proof.Proof.CombineRows
public import Idealize.ShloMosaic.Lib.Pipeline.FrameBody
public import Idealize.ShloMosaic.Lib.VecWindow

@[expose] public section

set_option maxRecDepth 16384

noncomputable section

namespace Cert.Merge

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem trips1 : k0_t1_loop.trips = 512 := by decide
theorem trips2 : k0_t2_loop.trips = 512 := by decide

/-- The slices that a trip copies between. -/
abbrev bufS (k : Fin k0_t1_loop.trips) : Memref sig .tc .vmem S1x1024 .f32 :=
  bufM.slice (Rect.unit (s := S512x1024) (k0_off2 k) S1x1024.size (k0_off2_inb k)) (fun _ => rfl)
abbrev outS (w : BitVec 32) (h : k0_chk1 w) : Memref sig .tc .hbm S1x1024 .f32 :=
  srcM.slice (Rect.unit (s := S79872x1024) (k0_off3 w) S1x1024.size (k0_off3_inb w h)) (fun _ => rfl)

/-- What one row's copy adds to the semaphore. -/
def credit : ℕ := RefSig.tileCredit S1x1024 .f32
theorem credit_eq (k : Fin k0_t1_loop.trips) : (bufS k).view.amount (.dma cc0_scratch1.sem) = credit := rfl
theorem credit_pos : 0 < credit := RefSig.tileCredit_pos _ _ (by decide)

theorem bufS_set (k : Fin k0_t1_loop.trips) : (bufS k).view.set = bufRow k.val :=
  (View.set_slice_whole _ _).trans ((buf_rect _ (k0_off2_inb k) (by rw [k0_off2_eq]; rfl)).trans (by rw [k0_off2_eq]; rfl))

theorem outS_set (w : BitVec 32) (h : k0_chk1 w) : (outS w h).view.set = outRow w.toNat :=
  (View.set_slice_whole _ _).trans (out_rect _ (k0_off3_inb w h) rfl)

/-- A copied row holds the named row of the outputs. -/
theorem copied (k : Fin k0_t1_loop.trips) (w : BitVec 32) (h : k0_chk1 w) (Y : Outputs F) (B B' : Rows F)
    (r : Fin 79872) (hr : r.val = w.toNat)
    (hB : ∀ y : S512x1024.Idx, (y 0).val = k.val → B' y = Y (atY r ⟨(y 1).val, (y 1).isLt⟩)) :
    ∀ y ∈ (bufS k).view.set, (bufS k).view.write (Elt F) B ((outS w h).view.read (Elt F) Y) Finset.univ y = B' y := by
  intro y hy
  obtain ⟨x, -, rfl⟩ := Finset.mem_map.mp hy
  rw [View.write_emb_of_mem (h := Finset.mem_univ x), hB _ ((mem_bufRow _ _).mp ((bufS_set k) ▸ hy))]
  show Y ((outS w h).view.emb x) = Y _
  congr 1
  have e0 : ((outS w h).view.emb x 0).val = w.toNat + (x 0).val := by
    show w.toNat + 1 * (x 0).val = _; omega
  have e1 : ((outS w h).view.emb x 1).val = (x 1).val := by
    show 0 + 1 * (x 1).val = _; omega
  have d1 : ((bufS k).view.emb x 1).val = k0_off2 k 1 + (x 1).val := by
    show k0_off2 k 1 + 1 * (x 1).val = _; omega
  rw [k0_off2_eq] at d1
  have x0 : (x 0).val < 1 := (x 0).isLt
  funext a
  apply Fin.ext
  fin_cases a
  · refine e0.trans ?_
    show w.toNat + (x 0).val = r.val
    omega
  · refine e1.trans ?_
    refine Eq.trans ?_ d1.symm
    show (x 1).val = 0 + (x 1).val
    omega

section Loops

variable (c : Dev nD) (i : grid0.Coords) (T : Table) (Y : Outputs F) (B B' : Rows F)
variable (a2 : Memref sig .tc .vmem S512x1024 .f32) (h2 : a2.IsWhole) (a4 : Memref sig .tc .vmem S1x1024 .f32) (h4 : a4.IsWhole)
  (a5 : Memref sig .tc .vmem S512x1024 .f32) (h5 : a5.IsWhole)

/-- The copies of one grid point: `k` started, `u` units waited for. -/
abbrev batch (k u : ℕ) : sProp 𝕄 :=
  Transfers.Batch (countersEmb (U := Pipeline.UD sig nD τ)) (c : Thread nD τ) (.dma cc0_scratch1.sem) () credit (rows c i T Y B') k u

/-- Before trip `k` of the first loop: the table, `k` copies started, the rows of the later trips still in hand. -/
def issueAt (k : ℕ) (_ : PUnit) : sProp 𝕄 :=
  iprop((tabM.view.loc (c : Thread nD τ) ↦{fullShare.right} T) ∗ batch c i T Y B' k 0
    ∗ bigSep (Transfers.pending k) (rows c i T Y B))

theorem word_eq (k : Fin k0_t1_loop.trips) (h1 h2) :
    View.readAt (Elt F) tabM.view (Rect.unit (s := S65536) (k0_off1 i k) S1.size h1).toLoadRect T (Shape.Idx.first h2)
      = T (at1 (tok i ⟨k.val, k.isLt.trans_eq trips1⟩)) := by
  rw [View.readAt_apply]
  show T _ = T _
  congr 1
  funext a
  apply Fin.ext
  fin_cases a
  show k0_off1 i k 0 + 1 * 0 = 512 * (i 0).val + k.val
  rw [k0_off1_eq]
  show 512 * (i 0).val + k.val + 1 * 0 = _
  omega

/-- The words of a table that names rows of the outputs pass the body's check. -/
theorem chk_of (hT : InRange T) (t : Fin 65536) : k0_chk1 (T (at1 t)) := by
  have := hT t
  intro a
  fin_cases a
  · show (T (at1 t)).toNat + 1 ≤ 79872; unfold pos at this; omega
  · show 0 + 1024 ≤ 1024; omega

/-- A trip's two rows are the slices that it copies between. -/
theorem rows_slices (B : Rows F) (k : Fin k0_t1_loop.trips) (hk : k.val < 512) (hc : k0_chk1 (T (at1 (tok i ⟨k.val, hk⟩)))) :
    (rows c i T Y B ⟨k.val, hk⟩ : sProp 𝕄)
      = iprop(((bufS k).view.loc (c : Thread nD τ) ↦[(bufS k).view.set]{fullShare} B)
          ∗ ((outS _ hc).view.loc (c : Thread nD τ) ↦[(outS _ hc).view.set]{part ⟨k.val, hk⟩} Y)) := by
  unfold rows
  rw [bufS_set, outS_set]
  rfl

set_option backward.isDefEq.respectTransparency.types false in
/-- One trip of the first loop. -/
theorem issue_step (hT : InRange T)
    (hB : ∀ (j : Fin 512) (y : S512x1024.Idx), (y 0).val = j.val → B' y = Y (atY (rowOf hT (tok i j)) ⟨(y 1).val, (y 1).isLt⟩))
    (k : Fin k0_t1_loop.trips) (acc : PUnit) :
    issueAt c i T Y B B' k acc ⊢
      wp frame (wpE (defs₀ (F := F)) Variants.none (c : Thread nD τ) none) Set.univ
        (k0_t1_body (F := F) i tabM (Memref.isWhole_whole _) a2 h2 srcM (Memref.isWhole_whole _) a4 h4 a5 h5 bufM (Memref.isWhole_whole _) cc0_scratch1 k acc)
        (issueAt c i T Y B B' (k.val + 1)) := by
  have hk : k.val < 512 := k.isLt.trans_eq trips1
  unfold issueAt
  rw [Transfers.bigSep_pending_step _ k.val hk]
  sl_unfold [k0_t1_body]
  iintro ⟨HT, HB, Hr, Hrs⟩
  sl_exec
  have e : (issue_step.sl.r (F := F) i T k : BitVec 32) = T (at1 (tok i ⟨k.val, hk⟩)) := by
    delta issue_step.sl.r
    exact word_eq i T k _ _
  rw [e]
  have hc := chk_of T hT (tok i ⟨k.val, hk⟩)
  rw [wp_assume_of _ _ _ _ hc]
  ihave Hr' := (Entails.of_eq (rows_slices c i T Y B k hk hc)) $$ Hr
  icases Hr' with ⟨Hd, Hs⟩
  iapply (Transfers.wp_dmaBatch (countersEmb (U := Pipeline.UD sig nD τ)) Variants.none (c : Thread nD τ) none
    (src := outS _ hc) (via := .same) (dst := bufS k) (Sd := (bufS k).view.set) (fd := B) (fs := Y) (q := part ⟨k.val, hk⟩)
    (D := rows c i T Y B') (j := k.val) (u := 0) () credit (credit_eq k) (Finset.Subset.refl _) hk (Nat.zero_le _)
    (by
      rw [rows_slices c i T Y B' k hk hc, ReadAs.apply_same, pointsTo_congr (copied k _ hc Y B B' (rowOf hT (tok i ⟨k.val, hk⟩)) rfl (hB ⟨k.val, hk⟩))])) $$ [Hs Hd HB]
  · isplitl [Hs]; · iexact Hs
    isplitl [Hd]; · iexact Hd
    iexact HB
  iintro HB
  rw [show (Prog.ret PUnit.unit : Prog (TpuEff nD τ sig (Elt F) Λ₀ .tc) PUnit).bind (fun __r => Pure.pure PUnit.unit) = Pure.pure PUnit.unit from rfl]
  sl_step
  isplitl [HT]; · iexact HT
  isplitl [HB]; · iexact HB
  iexact Hrs

/-- The slice of the buffer that a wait names. -/
abbrev waitS (k : Fin k0_t2_loop.trips) : Memref sig .tc .vmem S1x1024 .f32 :=
  bufM.slice (Rect.unit (s := S512x1024) (k0_off4 k) S1x1024.size (k0_off4_inb k)) (fun _ => rfl)

/-- Before trip `k` of the second loop: `k` rows waited for; after the last, the semaphore at zero and every row. -/
def drainAt (k : ℕ) (_ : Unit) : sProp 𝕄 :=
  iprop((∃ W, owes (c : Thread nD τ) 0 W)
    ∗ (if k < 512 then batch c i T Y B' 512 (k * credit)
       else iprop(semVal ((c : Thread nD τ), SemLoc.dma cc0_scratch1.sem) 0 ∗ bigSep Finset.univ (rows c i T Y B'))))

set_option backward.isDefEq.respectTransparency.types false in
/-- One trip of the second loop. -/
theorem drain_step (k : Fin k0_t2_loop.trips) (acc : Unit) :
    drainAt c i T Y B' k acc ⊢
      wp frame (wpE (defs₀ (F := F)) Variants.none (c : Thread nD τ) none) Set.univ
        (k0_t2_body (F := F) i tabM (Memref.isWhole_whole _) a2 h2 srcM (Memref.isWhole_whole _) a4 h4 a5 h5 bufM (Memref.isWhole_whole _) cc0_scratch1 k acc)
        (drainAt c i T Y B' (k.val + 1)) := by
  have hk : k.val < 512 := k.isLt.trans_eq trips2
  have hp := credit_pos
  unfold drainAt
  simp only [if_pos hk]
  rcases Nat.lt_or_ge (k.val + 1) 512 with h1 | h1
  · simp only [if_pos h1]
    have hu : k.val * credit + credit < credit * 512 := by
      rw [← Nat.succ_mul, Nat.mul_comm credit]
      exact Nat.mul_lt_mul_of_pos_right h1 hp
    sl_unfold [k0_t2_body]
    iintro ⟨⟨%W, HO⟩, HB⟩
    iapply (Transfers.wp_waitBatch (countersEmb (U := Pipeline.UD sig nD τ)) Variants.none (c : Thread nD τ) none
      (dstw := waitS k) (D := rows c i T Y B') (u := k.val * credit) (W := W) () (N := credit) rfl hu) $$ [HB HO]
    · isplitl [HB]; · iexact HB
      iexact HO
    iintro ⟨HB, HO⟩
    rw [show (Prog.ret PUnit.unit : Prog (TpuEff nD τ sig (Elt F) Λ₀ .tc) PUnit).bind (fun __r => Pure.pure PUnit.unit) = Pure.pure PUnit.unit from rfl]
    sl_step
    isplitl [HO]; · iexists _; iexact HO
    rw [Nat.succ_mul]
    iexact HB
  · simp only [if_neg (Nat.not_lt.mpr h1)]
    have hu : k.val * credit + credit = credit * 512 := by
      rw [← Nat.succ_mul, Nat.mul_comm credit]
      congr 1
      omega
    sl_unfold [k0_t2_body]
    iintro ⟨⟨%W, HO⟩, HB⟩
    iapply (Transfers.wp_waitBatchLast (countersEmb (U := Pipeline.UD sig nD τ)) Variants.none (c : Thread nD τ) none
      (dstw := waitS k) (D := rows c i T Y B') (u := k.val * credit) (W := W) () (N := credit) rfl hp hu) $$ [HB HO]
    · isplitl [HB]; · iexact HB
      iexact HO
    iintro ⟨HD, HB, HO⟩
    rw [show (Prog.ret PUnit.unit : Prog (TpuEff nD τ sig (Elt F) Λ₀ .tc) PUnit).bind (fun __r => Pure.pure PUnit.unit) = Pure.pure PUnit.unit from rfl]
    sl_step
    isplitl [HO]; · iexists _; iexact HO
    isplitl [HB]; · iexact HB
    iexact HD

/-- The gathered rows are row by row what the copies leave. -/
theorem gathered_row (hT : InRange T) (j : Fin 512) (y : S512x1024.Idx) (hy : (y 0).val = j.val) :
    gathered hT Y (i 0) y = Y (atY (rowOf hT (tok i j)) ⟨(y 1).val, (y 1).isLt⟩) := by
  obtain rfl : j = ⟨(y 0).val, (y 0).isLt⟩ := Fin.ext hy.symm
  rfl

set_option backward.isDefEq.respectTransparency.types false in
/-- The body at one grid point: the result's tile is left at the point's value, everything else as it was found. -/
theorem body_run (hT : InRange T) (x : Vec F S512x1024 .f32) (g : Vec F S1x1024 .f32) :
    (iprop((tabM.view.loc (c : Thread nD τ) ↦{fullShare.right} T) ∗ (bufM.view.loc (c : Thread nD τ) ↦{fullShare} B)
        ∗ (srcM.view.loc (c : Thread nD τ) ↦{fullShare} Y)
        ∗ semVal ((c : Thread nD τ), SemLoc.dma cc0_scratch1.sem) 0 ∗ (∃ W, owes (c : Thread nD τ) 0 W)
        ∗ owns (c : Thread nD τ) a2 fullShare x ∗ owns (c : Thread nD τ) a4 fullShare g ∗ (∃ d, owns (c : Thread nD τ) a5 fullShare d)) : sProp 𝕄) ⊢
      wp frame (wpE (defs₀ (F := F)) Variants.none (c : Thread nD τ) none) Set.univ
        (cc0_moe_combine (F := F) i tabM (Memref.isWhole_whole _) a2 h2 srcM (Memref.isWhole_whole _) a4 h4 a5 h5 bufM (Memref.isWhole_whole _) cc0_scratch1)
        (fun _ => iprop((tabM.view.loc (c : Thread nD τ) ↦{fullShare.right} T) ∗ (bufM.view.loc (c : Thread nD τ) ↦{fullShare} gathered hT Y (i 0))
          ∗ (srcM.view.loc (c : Thread nD τ) ↦{fullShare} Y)
          ∗ semVal ((c : Thread nD τ), SemLoc.dma cc0_scratch1.sem) 0 ∗ (∃ W, owes (c : Thread nD τ) 0 W)
          ∗ owns (c : Thread nD τ) a2 fullShare x ∗ owns (c : Thread nD τ) a4 fullShare g
          ∗ owns (c : Thread nD τ) a5 fullShare (k0_pay1 x (gathered hT Y (i 0)) g))) := by
  rw [cc0_moe_combine_eq_skeleton]
  sl_unfold [cc0_moe_combine_skel]
  iintro ⟨HT, Hbuf, Hsrc, HS, HO, H2, H4, H5⟩
  ihave HR0 := (arrays_rows c i T Y B).1 $$ [Hbuf Hsrc]
  · isplitl [Hbuf]; · iexact Hbuf
    iexact Hsrc
  icases HR0 with ⟨HR, Hoth⟩
  imod (Transfers.batch_alloc' (Lvl := ℕ) (countersEmb (U := Pipeline.UD sig nD τ)) (c : Thread nD τ) () credit (rows c i T Y (gathered hT Y (i 0)))
    (sm := SemLoc.dma cc0_scratch1.sem) (E := Set.univ)) $$ HS with HB
  sl_for (issueAt c i T Y B (gathered hT Y (i 0))) $$ [HT HB HR]
  · intro k acc; exact issue_step c i T Y B (gathered hT Y (i 0)) a2 h2 a4 h4 a5 h5 hT (gathered_row i T Y hT) k acc
  · unfold issueAt
    isplitl [HT]; · iexact HT
    isplitl [HB]; · iexact HB
    rw [← Transfers.bigSep_pending_zero]
    iexact HR
  iintro %acc HL
  rw [show Scf.trips k0_t1_loop.lb k0_t1_loop.ub k0_t1_loop.st = 512 from trips1]
  unfold issueAt
  icases HL with ⟨HT, HB, -⟩
  sl_for (drainAt c i T Y (gathered hT Y (i 0))) $$ [HB HO]
  · intro k acc; exact drain_step c i T Y (gathered hT Y (i 0)) a2 h2 a4 h4 a5 h5 k acc
  · unfold drainAt
    rw [if_pos (by decide : (0 : ℕ) < 512), Nat.zero_mul]
    isplitl [HO]; · iexact HO
    iexact HB
  iintro %acc' HL
  rw [show Scf.trips k0_t2_loop.lb k0_t2_loop.ub k0_t2_loop.st = 512 from trips2]
  unfold drainAt
  rw [if_neg (Nat.lt_irrefl 512)]
  icases HL with ⟨HO, HS, HD⟩
  ihave HR1 := (arrays_rows c i T Y (gathered hT Y (i 0))).2 $$ [HD Hoth]
  · isplitl [HD]; · iexact HD
    iexact Hoth
  icases HR1 with ⟨Hbuf, Hsrc⟩
  unfold owns
  icases H2 with ⟨%f2, %hf2, H2⟩
  icases H4 with ⟨%f4, %hf4, H4⟩
  icases H5 with ⟨%d5, %f5, -, H5⟩
  sl_exec
  sl_step
  isplitl [HT]; · iexact HT
  isplitl [Hbuf]; · iexact Hbuf
  isplitl [Hsrc]; · iexact Hsrc
  isplitl [HS]; · iexact HS
  isplitl [HO]; · iexact HO
  isplitl [H2]
  · iexists _; isplitr
    swap; · iexact H2
    ipureintro; exact hf2
  isplitl [H4]
  · iexists _; isplitr
    swap; · iexact H4
    ipureintro; exact hf4
  iexists _; isplitr
  swap; · iexact H5
  ipureintro
  refine (View.read_writes_full _ _ _ _ _).trans ?_
  have e2 := (View.readAt_full a2.view f2 inb_S512x1024_S512x1024_0_0).trans hf2
  have e4 := (View.readAt_full a4.view f4 inb_S1x1024_S1x1024_0_0).trans hf4
  have e6 : View.readAt (Elt F) bufM.view (Rect.unit (s := S512x1024) ![0, 0] S512x1024.size inb_S512x1024_S512x1024_0_0).toLoadRect (gathered hT Y (i 0)) = gathered hT Y (i 0) :=
    View.readAt_full bufM.view (gathered hT Y (i 0)) inb_S512x1024_S512x1024_0_0
  rw [← e2, ← e4]
  refine Eq.trans ?_ (congrArg (fun b => k0_pay1 _ b _) e6)
  rfl

end Loops

end Cert.Merge

end
-- ==== Proof.CombineRun.lean ====
/- The combine call's run: its 128 grid points each store their tile, and the run ends with the result array's tiles as
   stored, the arguments unchanged and every semaphore at zero. -/
module

public import proofs.«01_k».proof.Proof.CombineBody
public import Idealize.ShloMosaic.Lib.Pipeline.Frame
public import Idealize.ShloMosaic.Lib.Pipeline.Value

@[expose] public section

set_option maxRecDepth 16384

noncomputable section

namespace Cert.Merge

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every buffer as the call finds it. -/
abbrev V (c : Dev nD) (b : Ref sig .tc) : Buf (Elt F) ((c : Thread nD τ).loc b) :=
  StableHlo.after hostOps0 (fun b => m (c, b)) b

theorem hostOps_fresh : (hostOps0 (F := F)).Forall fun op => op.fresh = ∅ := rfl

theorem hmain (𝒱 : Variants) : Pipeline.HMainP (Ix := Unit) (Name := ℕ) (U := Pipeline.UD sig nD τ) (Lvl := ℕ) (pcfgs (F := F)) 0 defs₀ 𝒱 m main (V m) :=
  Pipeline.hmainP_prefix (pcfgs (F := F)) 0 defs₀ 𝒱 m main hostOps0 hostOps0_sub hostOps_fresh main_chain

/-- The position table, the residual stream, the experts' outputs and the gain, as the program is given them. -/
abbrev tab (c : Dev nD) : Table := m ((c : Thread nD τ).loc main_arg0)
abbrev hs (c : Dev nD) : Vec F S65536x1024 .f32 := m ((c : Thread nD τ).loc main_arg1)
abbrev ys (c : Dev nD) : Outputs F := m ((c : Thread nD τ).loc main_arg2)
abbrev gain (c : Dev nD) : Vec F S1024 .f32 := m ((c : Thread nD τ).loc main_arg3)

theorem V_arg0 (c : Dev nD) : V m c main_arg0 = tab m c := by rfl
theorem V_arg1 (c : Dev nD) : V m c main_arg1 = hs m c := by rfl
theorem V_arg2 (c : Dev nD) : V m c main_arg2 = ys m c := by rfl
theorem V_arg3 (c : Dev nD) : V m c main_arg3 = gain m c := by rfl

/-- A table of every core that names rows of the outputs. -/
abbrev AllInRange : Prop := ∀ c, InRange (tab m c)

variable (hT : AllInRange m)

/-- The contents of the position table are the call's prefetched table. -/
def adm : (p : Fin 1) → (pcfgs (F := F) p).Adm := fun _ => ⟨fun k => V m 0 (pre0.ref k), trivial⟩

/-- The call at this table. -/
abbrev cfgT : Cfg sig Λ₀ := Pipeline.pin (pcfgs (F := F)) (adm m) 0

theorem adm_tab (c : Dev nD) : (adm m 0).1 0 = tab m c := by
  obtain rfl := Subsingleton.elim c 0
  exact V_arg0 m 0

abbrev osem0 : Fin 1 → SemLoc sig := fun j => (![SemLoc.dma cc0_scratch1.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch1.sem) 0 := by
  rw [Pipeline.ownSems0_eq_of_list c osem0 [0] (by decide) (by decide)]; rfl

/-- The buffers the copies read; they write none but the call's own. -/
def H0 : Finset (Ref sig .tc) := {main_arg2}
def R0 : Finset (Ref sig .tc) := ∅
theorem H0_sub : H0 ⊆ Pipeline.restRefsP sig pre0 spec0 := by decide
theorem R0_sub : R0 ⊆ Pipeline.restRefsP sig pre0 spec0 \ H0 := by decide

theorem read_eq (c : Dev nD) (V : (b : Ref sig .tc) → Buf (Elt F) ((c : Thread nD τ).loc b)) :
    (bigSep H0 (fun b => ((c : Thread nD τ).loc b) ↦{fullShare} V b) : sProp 𝕄)
      = (srcM.view.loc (c : Thread nD τ) ↦{fullShare} V main_arg2) := by
  rw [BI.bigSep_eq_bigSepL_of_eq [main_arg2] (by decide) (by decide)]; rfl
theorem written_eq (c : Dev nD) (V : (b : Ref sig .tc) → Buf (Elt F) ((c : Thread nD τ).loc b)) :
    (Pipeline.routed R0 c V : sProp 𝕄) = iprop(emp) := by
  unfold Pipeline.routed R0; rw [BI.bigSep_empty]; rfl
theorem table_eq (c : Dev nD) (v : (k : Fin 1) → (pre0.ref k).ty.Contents (Elt F)) :
    (Pipeline.ΦT pre0 v c : sProp 𝕄) = (tabM.view.loc (c : Thread nD τ) ↦{fullShare.right} v 0) := by
  unfold Pipeline.ΦT Pipeline.prefHeld
  rw [BI.bigSep_eq_bigSepL_of_eq [0] (by decide) (by decide)]; rfl

/-- What a core holds between the grid points: the table, the buffer, the outputs, the semaphore at zero. -/
def held (c : Dev nD) : sProp 𝕄 :=
  iprop((∃ r, prngReg c r) ∗ (tabM.view.loc (c : Thread nD τ) ↦{fullShare.right} tab m c)
    ∗ (∃ B : Rows F, bufM.view.loc (c : Thread nD τ) ↦{fullShare} B)
    ∗ (srcM.view.loc (c : Thread nD τ) ↦{fullShare} ys m c)
    ∗ semVal ((c : Thread nD τ), SemLoc.dma cc0_scratch1.sem) 0)

/-- Window `w`'s block at point `t`. -/
def iblk (c : Dev nD) (w : Fin (cfgT m).W) (t : Fin (cfgT m).N) : (((cfgT m).win w).xblock ((cfgT m).grid.coords t)).Idx → Elt F ((cfgT m).win w).elt :=
  (((cfgT m).win w).blk t).view.read (Elt F) (V m c (Pipeline.arrRef spec0 w))

/-- What point `t` stores. -/
def out (c : Dev nD) (t : Fin (cfgT m).N) : Vec F S512x1024 .f32 :=
  k0_pay1 (iblk m c 0 t) (gathered (hT c) (ys m c) (grid0.coords t 0)) (iblk m c 1 t)

/-- The call's proof data: the input windows at their blocks, the result's at what the point stores. -/
def dats (p : Fin 1) (c : Dev nD) : Dat τ (Elt F) Unit ℕ (Pipeline.UD sig nD τ) ℕ (Pipeline.pin pcfgs (adm m) p) c where
  A w := V m c (Pipeline.arrRef spec0 w)
  after w t := match w with
    | ⟨0, _⟩ => iblk m c 0 t
    | ⟨1, _⟩ => iblk m c 1 t
    | ⟨2, _⟩ => out m hT c t
  Φ _ := held m c
  q _ := fullShare
  owed _ := 0

theorem A_eq (c : Dev nD) (w : Fin (cfgT m).W) : (dats m hT 0 c).A w = V m c (Pipeline.arrRef spec0 w) := by
  dsimp only [dats]

theorem after_0 (c : Dev nD) (t : Fin (cfgT m).N) : (dats m hT 0 c).after 0 t = iblk m c 0 t := rfl
theorem after_1 (c : Dev nD) (t : Fin (cfgT m).N) : (dats m hT 0 c).after 1 t = iblk m c 1 t := rfl
theorem after_2 (c : Dev nD) (t : Fin (cfgT m).N) : (dats m hT 0 c).after 2 t = out m hT c t := rfl

/-- Before each point an input window's staging buffer holds its block. -/
theorem before_0 (c : Dev nD) (t : Fin (cfgT m).N) (d) : (dats m hT 0 c).before 0 t d = iblk m c 0 t :=
  ((dats m hT 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgT m).N) (d) : (dats m hT 0 c).before 1 t d = iblk m c 1 t :=
  ((dats m hT 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- No window is idle: each point stores its tile. -/
theorem live_0 (t : Fin (cfgT m).N) : (cfgT m).idle 0 (grid0.coords t) = false := rfl
theorem live_1 (t : Fin (cfgT m).N) : (cfgT m).idle 1 (grid0.coords t) = false := rfl
theorem live_2 (t : Fin (cfgT m).N) : (cfgT m).idle 2 (grid0.coords t) = false := rfl

/-- Each window's staging memref at point `t`, and its wholeness. -/
abbrev ms_0 (t : Fin (cfgT m).N) : Memref sig .tc .vmem S512x1024 .f32 := spec0_0.stage ((cfgT m).slots t 0)
abbrev hs_0 (t : Fin (cfgT m).N) : (ms_0 m t).IsWhole := hstage0_0 (((cfgT m).slots t 0).cast nbuf0_0)
abbrev ms_1 (t : Fin (cfgT m).N) : Memref sig .tc .vmem S1x1024 .f32 := spec0_1.stage ((cfgT m).slots t 1)
abbrev hs_1 (t : Fin (cfgT m).N) : (ms_1 m t).IsWhole := hstage0_1 (((cfgT m).slots t 1).cast nbuf0_1)
abbrev ms_2 (t : Fin (cfgT m).N) : Memref sig .tc .vmem S512x1024 .f32 := spec0_2.stage ((cfgT m).slots t 2)
abbrev hs_2 (t : Fin (cfgT m).N) : (ms_2 m t).IsWhole := hstage0_2 (((cfgT m).slots t 2).cast nbuf0_2)

/-- What each window's buffer is left holding. -/
theorem leaves_0 (c : Dev nD) (t : Fin (cfgT m).N) :
    ((dats m hT 0 c).leavesExact 0 t : sProp 𝕄) = owns (c : Thread nD τ) (ms_0 m t) fullShare (iblk m c 0 t) := by
  unfold Dat.leavesExact; rw [live_0 m t, after_0]; rfl
theorem leaves_1 (c : Dev nD) (t : Fin (cfgT m).N) :
    ((dats m hT 0 c).leavesExact 1 t : sProp 𝕄) = owns (c : Thread nD τ) (ms_1 m t) fullShare (iblk m c 1 t) := by
  unfold Dat.leavesExact; rw [live_1 m t, after_1]; rfl
theorem leaves_2 (c : Dev nD) (t : Fin (cfgT m).N) :
    ((dats m hT 0 c).leavesExact 2 t : sProp 𝕄) = owns (c : Thread nD τ) (ms_2 m t) fullShare (out m hT c t) := by
  unfold Dat.leavesExact; rw [live_2 m t, after_2]; rfl

/-- The body as the pipeline calls it at point `t`. -/
abbrev bodyAt (t : Fin (cfgT m).N) : Prog (TpuEff nD τ sig (Elt F) Λ₀ .tc) PUnit :=
  cc0_moe_combine (grid0.coords t) tabM (Memref.isWhole_whole _) (ms_0 m t) (hs_0 m t) srcM (Memref.isWhole_whole _) (ms_1 m t) (hs_1 m t)
    (ms_2 m t) (hs_2 m t) bufM (Memref.isWhole_whole _) cc0_scratch1

def bodyPre (c : Dev nD) (t : Fin (cfgT m).N) : sProp 𝕄 :=
  iprop((dats m hT 0 c).Φ t.castSucc ∗ (dats m hT 0 c).owesAt () t.castSucc
    ∗ (∃ d, owns (c : Thread nD τ) (ms_0 m t) fullShare ((dats m hT 0 c).before 0 t d))
    ∗ (∃ d, owns (c : Thread nD τ) (ms_1 m t) fullShare ((dats m hT 0 c).before 1 t d))
    ∗ (∃ d, owns (c : Thread nD τ) (ms_2 m t) fullShare ((dats m hT 0 c).before 2 t d)))

def bodyPost (c : Dev nD) (t : Fin (cfgT m).N) : sProp 𝕄 :=
  iprop((dats m hT 0 c).Φ t.succ ∗ (dats m hT 0 c).owesAt () t.succ
    ∗ (dats m hT 0 c).leavesExact 0 t
    ∗ (dats m hT 0 c).leavesExact 1 t
    ∗ (dats m hT 0 c).leavesExact 2 t)

set_option maxHeartbeats 1000000 in
/-- The body's triple at a generic point. -/
theorem sound_body (c : Dev nD) (t : Fin (cfgT m).N) :
    bodyPre m hT c t ⊢ wp frame (wpE (defs₀ (F := F)) Variants.none (c : Thread nD τ) none) Set.univ (bodyAt m t) (fun _ => bodyPost m hT c t) := by
  unfold bodyPre bodyPost bodyAt
  simp only [before_0, before_1]
  rw [leaves_0, leaves_1, leaves_2]
  rw [show (dats m hT 0 c).Φ t.castSucc = held m c from rfl, show (dats m hT 0 c).Φ t.succ = held m c from rfl]
  unfold held
  iintro ⟨⟨Hg, HT, ⟨%B, Hb⟩, Hs, HS⟩, HO, ⟨%d0, H0⟩, ⟨%d1, H1⟩, ⟨%d2, H2⟩⟩
  iapply (wp_wand Idealize.ShloMosaic.frame (wpE (defs₀ (F := F)) Variants.none (c : Thread nD τ) none) Set.univ) $$ [HT Hb Hs HS HO H0 H1 H2]
  · iapply (body_run c (grid0.coords t) (tab m c) (ys m c) B (ms_0 m t) (hs_0 m t) (ms_1 m t) (hs_1 m t) (ms_2 m t) (hs_2 m t) (hT c) (iblk m c 0 t) (iblk m c 1 t))
    isplitl [HT]; · iexact HT
    isplitl [Hb]; · iexact Hb
    isplitl [Hs]; · iexact Hs
    isplitl [HS]; · iexact HS
    isplitl [HO]
    · unfold Dat.owesAt Pipeline.owesWithin
      icases HO with ⟨%W, -, HW⟩
      iexists W
      iexact HW
    isplitl [H0]; · iexact H0
    isplitl [H1]; · iexact H1
    iexists _; iexact H2
  iintro %_ ⟨HT, Hb, Hs, HS, ⟨%W, HW⟩, H0, H1, H2⟩
  isplitl [Hg HT Hb Hs HS]
  · isplitl [Hg]; · iexact Hg
    isplitl [HT]; · iexact HT
    isplitl [Hb]; · iexists _; iexact Hb
    isplitl [Hs]; · iexact Hs
    iexact HS
  isplitl [HW]
  · unfold Dat.owesAt Pipeline.owesWithin
    iexists W
    isplitr; · ipureintro; exact fun _ _ => Or.inl trivial
    iexact HW
  isplitl [H0]; · iexact H0
  isplitl [H1]; · iexact H1
  iexact H2

theorem defs₀_row (t : Fin (cfgT m).N) :
    defs₀ (F := F) .tc (cfgT m).body ((cfgT m).bodyArgs t ((cfgT m).slots t)) = bodyAt m t := by
  unfold defs₀; rw [Defs.onTc_tc]

set_option maxHeartbeats 4000000 in
theorem body_obligation (c : Dev nD) : BodyObligation (dats (F := F) m hT 0 c) (defs₀ (F := F)) Variants.none () Set.univ := fun t => by
  rw [bigSep_W0, bigSep_W0, defs₀_row]
  exact triple_restated (sound_body m hT c t) rfl .rfl fun _ => .rfl

theorem hin (c : Dev nD) :
    (iprop(Pipeline.ΦDRG osem0 (Pipeline.pin pcfgs (adm m) 0).spec H0 R0 (V m) (V m) c ∗ Pipeline.ΦT (pcfgs (F := F) 0).pre (adm m 0).1 c) : sProp 𝕄)
      ⊢ (dats m hT 0 c).Φ 0 := by
  rw [Pipeline.ΦDRG_eq]
  iintro ⟨⟨Hb, Hg, HS, Hs, -⟩, HT⟩
  ihave Hb' := (Entails.of_eq (scopedRest0_eq c)) $$ Hb
  ihave HS' := (Entails.of_eq (ownSems00_eq c)) $$ HS
  ihave Hs' := (Entails.of_eq (read_eq c (V m c))) $$ Hs
  ihave HT' := (Entails.of_eq ((table_eq c (adm m 0).1).trans
    (congrArg (fun f => ((tabM.view.loc (c : Thread nD τ) ↦{fullShare.right} f) : sProp 𝕄)) (adm_tab m c)))) $$ HT
  iapply (Entails.of_eq (show held m c = (dats m hT 0 c).Φ 0 from rfl))
  unfold held
  isplitl [Hg]; · iexact Hg
  isplitl [HT']; · iexact HT'
  isplitl [Hb']; · iexact Hb'
  isplitl [Hs']; · iexact Hs'
  iexact HS'

theorem hout (c : Dev nD) :
    (dats m hT 0 c).Φ (Fin.last (Pipeline.pin pcfgs (adm m) 0).N)
      ⊢ (Pipeline.ΦDRG osem0 (Pipeline.pin pcfgs (adm m) 0).spec H0 R0 (V m) (V m) c : sProp 𝕄) := by
  rw [Pipeline.ΦDRG_eq]
  rw [show (dats m hT 0 c).Φ (Fin.last (Pipeline.pin pcfgs (adm m) 0).N) = held m c from rfl]
  unfold held
  iintro ⟨Hg, -, Hb, Hs, HS⟩
  isplitl [Hb]; · iapply (Entails.of_eq (scopedRest0_eq c).symm); iexact Hb
  isplitl [Hg]; · iexact Hg
  isplitl [HS]; · iapply (Entails.of_eq (ownSems00_eq c).symm); iexact HS
  isplitl [Hs]; · iapply (Entails.of_eq (read_eq c (V m c)).symm); iexact Hs
  iapply (Entails.of_eq (written_eq c (V m c)).symm)
  iempintro

set_option backward.isDefEq.respectTransparency.types false in
theorem run_main : θ_run (defs (F := F)) (onTc (τ := τ) (main (F := F))) (s₀ m ρ)
      (fun r => Pipeline.FramePostRG (Pipeline.pin pcfgs (adm m)) (dats m hT) 0 R0 (V m) (V m) r ∧ r.2.sem = fun _ => 0) :=
  Pipeline.θ_run_frameP_dmaRG (Q' := _) pcfgs (adm m) (dats m hT) (0 : Fin 1) launch0 osem0 defs₀ Variants.none ownSemFacts0 H0 R0 H0_sub R0_sub m ρ main
    (hbody := fun c => (body_obligation m hT c).loose) (hshare := fun c => (dats m hT 0 c).share_full fun _ => rfl)
    (howed := fun _ _ => rfl) (V := V m) (hmain := hmain m Variants.none) (hA := fun c w => A_eq m hT c w)
    (hpf := fun c k => by obtain rfl := Subsingleton.elim c 0; rfl) (G := V m)
    (hin := hin m hT) (hout := hout m hT)

end Cert.Merge

end
-- ==== Proof.CombineValue.lean ====
/- The combine call's result as one function of its four arguments: tile by tile, what the grid's points store. -/
module

public import proofs.«01_k».proof.Proof.CombineRun
public import Idealize.ShloMosaic.Lib.Pipeline.ValueKit.Geometry

@[expose] public section

set_option maxRecDepth 16384

noncomputable section

namespace Cert.Merge

open Cert.CombineIdeal Cert.CombineIdeal.Gen
open Idealize.ShloMosaic Idealize.ShloMosaic.TcCoe Idealize.SL Idealize.SL.Sem
open Idealize.ShloMosaic.Pipeline (Dat Cfg Window)

variable {F : FTy → Type} [FloatOps F]

/-- A place in an array of two axes. -/
def at2 {d : Fin 2 → ℕ} (x : Fin (d 0)) (y : Fin (d 1)) : (⟨2, d⟩ : Shape).Idx := fun a => match a with | ⟨0, _⟩ => x | ⟨1, _⟩ => y

/-- A token's tile, and its place in the tile. -/
def tileOf (r : Fin 65536) : Fin 128 := ⟨r.val / 512, by have := r.isLt; omega⟩
def inTile (r : Fin 65536) : Fin 512 := ⟨r.val % 512, by omega⟩

theorem tileOf_token (i : Fin 128) (a : Fin 512) : tileOf (token i a) = i :=
  Fin.ext (by show (512 * i.val + a.val) / 512 = i.val; have := a.isLt; omega)
theorem inTile_token (i : Fin 128) (a : Fin 512) : inTile (token i a) = a :=
  Fin.ext (by show (512 * i.val + a.val) % 512 = a.val; have := a.isLt; omega)
theorem token_tileOf (r : Fin 65536) : token (tileOf r) (inTile r) = r :=
  Fin.ext (by show 512 * (r.val / 512) + r.val % 512 = r.val; omega)

/-- Tile `i`'s rows of the residual stream; the gain as one row. -/
def rowsBlk (X : Vec F S65536x1024 .f32) (i : Fin 128) : Vec F S512x1024 .f32 := fun y => X (at2 (token i (y 0)) (y 1))
def gainRow (g : Vec F S1024 .f32) : Vec F S1x1024 .f32 := shapeCast S1x1024 g shapeCasts_S1024_S1x1024

/-- Tile `i` of the result. -/
def tileOut {T : Table} (hT : InRange T) (X : Vec F S65536x1024 .f32) (Y : Outputs F) (g : Vec F S1024 .f32) (i : Fin 128) : Vec F S512x1024 .f32 :=
  k0_pay1 (rowsBlk X i) (gathered hT Y i) (gainRow g)

/-- The whole result. -/
def merged {T : Table} (hT : InRange T) (X : Vec F S65536x1024 .f32) (Y : Outputs F) (g : Vec F S1024 .f32) : Vec F S65536x1024 .f32 :=
  fun j => tileOut hT X Y g (tileOf (j 0)) (at2 (inTile (j 0)) (j 1))

variable (m : (ℓ : Loc nD τ sig) → Buf (Elt F) ℓ) (ρ : Dev nD → PrngReg) (hT : AllInRange m)

theorem V_v0 (c : Dev nD) : V m c main_v0 = gainRow (gain m c) := by rfl

/-- Point `t` is tile `t`. -/
theorem coords_val : ∀ t : Fin grid0.N, (grid0.coords t 0).val = t.val := by decide +kernel

theorem word_val (n : ℕ) (h : n < 128) : (BitVec.ofNat 32 n).toNat = n := by
  rw [BitVec.toNat_ofNat]; exact Nat.mod_eq_of_lt (by omega)

/-- Where each window's block lies in its array. -/
theorem place_0 (a : (pcfg0 (F := F)).Adm) (t : Fin grid0.N) (y : S512x1024.Idx) :
    (((cfg0 a).win 0).blk t).view.emb y = (at2 (token (grid0.coords t 0) (y 0)) (y 1) : S65536x1024.Idx) := by
  funext b
  apply Fin.ext
  have h : (grid0.coords t 0).val < 128 := (grid0.coords t 0).isLt
  fin_cases b
  · show (BitVec.ofNat 32 (grid0.coords t 0).val).toNat * 512 + 1 * (y 0).val = 512 * (grid0.coords t 0).val + (y 0).val
    rw [word_val _ h, Nat.one_mul, Nat.mul_comm]
  · show 0 * 1024 + 1 * (y 1).val = (y 1).val
    omega
theorem place_1 (a : (pcfg0 (F := F)).Adm) (t : Fin grid0.N) (y : S1x1024.Idx) :
    (((cfg0 a).win 1).blk t).view.emb y = y := by
  funext b
  apply Fin.ext
  fin_cases b
  · show 0 * 1 + 1 * (y 0).val = (y 0).val
    omega
  · show 0 * 1024 + 1 * (y 1).val = (y 1).val
    omega
theorem place_2 (a : (pcfg0 (F := F)).Adm) (t : Fin grid0.N) (y : S512x1024.Idx) :
    (((cfg0 a).win 2).blk t).view.emb y = (at2 (token (grid0.coords t 0) (y 0)) (y 1) : S65536x1024.Idx) := by
  funext b
  apply Fin.ext
  have h : (grid0.coords t 0).val < 128 := (grid0.coords t 0).isLt
  fin_cases b
  · show (BitVec.ofNat 32 (grid0.coords t 0).val).toNat * 512 + 1 * (y 0).val = 512 * (grid0.coords t 0).val + (y 0).val
    rw [word_val _ h, Nat.one_mul, Nat.mul_comm]
  · show 0 * 1024 + 1 * (y 1).val = (y 1).val
    omega

theorem iblk_0 (c : Dev nD) (t : Fin (cfgT m).N) : iblk m c 0 t = rowsBlk (hs m c) (grid0.coords t 0) :=
  funext fun (y : S512x1024.Idx) => congrArg (hs m c) (place_0 (adm m 0) t y)
theorem iblk_1 (c : Dev nD) (t : Fin (cfgT m).N) : iblk m c 1 t = gainRow (gain m c) :=
  funext fun (y : S1x1024.Idx) => congrArg (gainRow (gain m c)) (place_1 (adm m 0) t y)

/-- The result array that the run is shown to leave. -/
abbrev result (c : Dev nD) : Vec F S65536x1024 .f32 := merged (hT c) (hs m c) (ys m c) (gain m c)

/-- What point `t` stores is tile `t` of the result. -/
theorem out_eq (c : Dev nD) (t : Fin (cfgT m).N) :
    out m hT c t = tileOut (hT c) (hs m c) (ys m c) (gain m c) (grid0.coords t 0) := by
  unfold out tileOut
  rw [iblk_0, iblk_1]

/-- Every point writes its tile back: the next point's is another. -/
theorem flush_2 (a : (pcfg0 (F := F)).Adm) (t : Fin grid0.N) : ((cfg0 a).win 2).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · refine .inr (decide_eq_true ⟨by show t.val + 1 < grid0.N; have := t.isLt; omega, fun e => ?_⟩)
    have e0 := congrFun e (0 : Fin 2)
    change (BitVec.ofNat 32 (grid0.coords ⟨t.val + 1, _⟩ 0).val).toNat = (BitVec.ofNat 32 (grid0.coords t 0).val).toNat at e0
    rw [word_val _ (grid0.coords _ 0).isLt, word_val _ (grid0.coords _ 0).isLt, coords_val, coords_val] at e0
    exact absurd e0 (Nat.succ_ne_self _)

theorem tile_apply (c : Dev nD) (i : Fin 128) (y : S512x1024.Idx) :
    tileOut (hT c) (hs m c) (ys m c) (gain m c) i y = result m hT c (at2 (token i (y 0)) (y 1)) := by
  have key : ∀ (i i' : Fin 128) (y y' : S512x1024.Idx), i = i' → y = y' →
      tileOut (hT c) (hs m c) (ys m c) (gain m c) i y = tileOut (hT c) (hs m c) (ys m c) (gain m c) i' y' := by
    rintro i _ y _ rfl rfl; rfl
  refine key _ _ _ _ (tileOf_token i (y 0)).symm ?_
  funext b
  fin_cases b
  · exact (inTile_token i (y 0)).symm
  · rfl

/-- The tiles cover the result. -/
theorem cover_2 (a : (pcfg0 (F := F)).Adm) (i : S65536x1024.Idx) :
    ∃ t : Fin grid0.N, ((cfg0 a).win 2).flush t = true ∧ i ∈ (((cfg0 a).win 2).blk t).view.set := by
  have hi : (tileOf (i 0)).val < grid0.N := by rw [N_0]; exact (tileOf (i 0)).isLt
  refine ⟨⟨(tileOf (i 0)).val, hi⟩, flush_2 a _, ?_⟩
  have e := place_2 a ⟨(tileOf (i 0)).val, hi⟩ (at2 (inTile (i 0)) (i 1))
  have ec : grid0.coords ⟨(tileOf (i 0)).val, hi⟩ 0 = tileOf (i 0) := Fin.ext (coords_val _)
  have e' : (at2 (token (grid0.coords ⟨(tileOf (i 0)).val, hi⟩ 0) (inTile (i 0))) (i 1) : S65536x1024.Idx) = i := by
    funext b
    fin_cases b
    · exact (congrArg (fun k : Fin 128 => token k (inTile (i 0))) ec).trans (token_tileOf (i 0))
    · rfl
  exact Finset.mem_map.mpr ⟨_, Finset.mem_univ _, e.trans e'⟩

/-- The result array ends holding the merged and normalised rows. -/
theorem final (c : Dev nD) : (dats m hT 0 c).arrAt 2 (cfgT m).N = result m hT c :=
  (dats m hT 0 c).arrAt_eq_of_emb 2 (result m hT c)
    (fun t _ (y : S512x1024.Idx) => (congrFun (out_eq m hT c t) y).trans
      ((tile_apply m hT c (grid0.coords t 0) y).trans (congrArg (result m hT c) (place_2 (adm m 0) t y).symm)))
    (cover_2 (adm m 0))

include hT in
/-- The run: the result array at the merged rows, the four arguments unchanged, every semaphore at zero. -/
theorem run : θ_run (defs (F := F)) (onTc (τ := τ) (main (F := F))) (s₀ m ρ)
      (fun r => (∀ c : Dev nD,
        r.2.mem ((c : Thread nD τ).loc main_v1) = result m hT c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.sem = fun _ => 0) :=
  (θ_run (defs (F := F)) _ _).mono (fun r (h : _ ∧ _) => ⟨fun c =>
      ⟨((Pipeline.FramePostRG.toR h.1 c).1 2).trans (final m hT c),
        (Pipeline.FramePostRG.toR h.1 c).2 main_arg0 (Finset.mem_sdiff.mpr ⟨(by decide : main_arg0 ∈ Pipeline.restRefs sig spec0), Finset.notMem_empty _⟩),
        ((Pipeline.FramePostRG.toR h.1 c).1 0).trans ((dats m hT 0 c).arrAt_in 0 rfl _),
        (Pipeline.FramePostRG.toR h.1 c).2 main_arg2 (Finset.mem_sdiff.mpr ⟨(by decide : main_arg2 ∈ Pipeline.restRefs sig spec0), Finset.notMem_empty _⟩),
        (Pipeline.FramePostRG.toR h.1 c).2 main_arg3 (Finset.mem_sdiff.mpr ⟨(by decide : main_arg3 ∈ Pipeline.restRefs sig spec0), Finset.notMem_empty _⟩)⟩, h.2⟩)
    (run_main m ρ hT)

end Cert.Merge

end
-- ==== Proof.CombineSame.lean ====
/- The combine call's two prints are one program at the machine's own floats: so one run proves both frames. -/
module

public import proofs.«01_k».proof.Proof.CombineValue
public import proofs.«01_k».proof.Proof.Gen.Combine
public import Idealize.ShloMosaic.PureOps.BitExact

@[expose] public section
set_option maxRecDepth 16384

noncomputable section

namespace Cert.Merge.Same

open Idealize.ShloMosaic Idealize.SL.Sem

/-- The body table's one label, its staging buffers named by plain indices. -/
theorem body_same (t : Fin 128) (s0 : Fin 2) (s1 : Fin 1) (s2 : Fin 2) :
    Cert.Combine.cc0_moe_combine (F := Bits) (Cert.Combine.grid0.coords t) (Memref.whole Cert.Combine.main_arg0) (Memref.isWhole_whole _)
      (Cert.Combine.stage0_0 s0) (Cert.Combine.Facts₀.hstage0_0 s0) (Memref.whole Cert.Combine.main_arg2) (Memref.isWhole_whole _)
      (Cert.Combine.stage0_1 s1) (Cert.Combine.Facts₀.hstage0_1 s1) (Cert.Combine.stage0_2 s2) (Cert.Combine.Facts₀.hstage0_2 s2)
      (Memref.whole Cert.Combine.cc0_scratch0) (Memref.isWhole_whole _) Cert.Combine.cc0_scratch1
    = Cert.CombineIdeal.cc0_moe_combine (F := Bits) (Cert.CombineIdeal.grid0.coords t) (Memref.whole Cert.CombineIdeal.main_arg0) (Memref.isWhole_whole _)
      (Cert.CombineIdeal.stage0_0 s0) (Cert.CombineIdeal.Facts₀.hstage0_0 s0) (Memref.whole Cert.CombineIdeal.main_arg2) (Memref.isWhole_whole _)
      (Cert.CombineIdeal.stage0_1 s1) (Cert.CombineIdeal.Facts₀.hstage0_1 s1) (Cert.CombineIdeal.stage0_2 s2) (Cert.CombineIdeal.Facts₀.hstage0_2 s2)
      (Memref.whole Cert.CombineIdeal.cc0_scratch0) (Memref.isWhole_whole _) Cert.CombineIdeal.cc0_scratch1 := by
  have c3 : @Cert.Combine.cc0_moe_combine Bits _ _ = @Cert.CombineIdeal.cc0_moe_combine Bits _ _ := rfl
  rw [c3]
  rfl

/-- The two body tables. -/
theorem table_same : @Cert.Combine.defs₀ Bits _ _ = @Cert.CombineIdeal.defs₀ Bits _ _ := by
  unfold Cert.Combine.defs₀ Cert.CombineIdeal.defs₀
  refine congrArg Defs.onTc (funext fun l => funext fun a => ?_)
  match l, a with
  | 0, (t, s) => exact body_same t (s 0) (s 1) (s 2)

/-- The two tables with the pipeline's own labels beside them. -/
theorem defs_same : Cert.Combine.defs (F := Bits) = Cert.CombineIdeal.defs (F := Bits) :=
  congrArg (Pipeline.defs (Cert.CombineIdeal.pcfgs (F := Bits))) table_same

/-- The two host programs. -/
theorem main_same : Cert.Combine.main (F := Bits) = Cert.CombineIdeal.main (F := Bits) := rfl

/-- A run of the one is a run of the other. -/
theorem carry (m : (ℓ : Loc Cert.CombineIdeal.nD Cert.CombineIdeal.τ Cert.CombineIdeal.sig) → Buf (Elt Bits) ℓ) (ρ : Dev Cert.CombineIdeal.nD → PrngReg)
    (D) (M) (hD : D = Cert.CombineIdeal.defs (F := Bits)) (hM : M = Cert.CombineIdeal.main (F := Bits)) (Q)
    (h : θ_run (Cert.CombineIdeal.defs (F := Bits)) (onTc (τ := Cert.CombineIdeal.τ) (Cert.CombineIdeal.main (F := Bits))) ⟨m, fun _ => 0, ρ⟩ Q) :
    θ_run D (onTc (τ := Cert.CombineIdeal.τ) M) ⟨m, fun _ => 0, ρ⟩ Q := by
  subst hD hM
  exact h

end Cert.Merge.Same

end
-- ==== Proof.CombinePre.lean ====
/- The combine call's precondition in plain words. -/
module

public import proofs.«01_k».proof.Proof.CombineRows
public import proofs.«01_k».proof.Proof.Gen.Pre_in_range

@[expose] public section

set_option maxRecDepth 16384

noncomputable section

namespace Cert.Merge

open Cert.Pre_in_range
open Idealize.ShloMosaic

theorem both_bits (a b : BitVec 1) (h : IntOp.andi a b = 1#1) : a = 1#1 ∧ b = 1#1 := by
  revert h; revert a b; decide

theorem bit_true {b : Bool} (h : BitVec.ofBool b = 1#1) : b = true := by
  cases b
  · exact absurd h (by decide)
  · rfl

/-- A word that is not negative and below 79872 as a signed number is below 79872 as a natural one. -/
theorem small_of (w : BitVec 32) (h1 : IntOp.cmpi .sge w 0#32 = 1#1) (h2 : IntOp.cmpi .slt w 79872#32 = 1#1) : w.toNat < 79872 := by
  have h1 : (0#32).toInt ≤ w.toInt := of_decide_eq_true (bit_true h1)
  have h2 : w.toInt < (79872#32).toInt := of_decide_eq_true (bit_true h2)
  rw [show (0#32).toInt = 0 from by decide] at h1
  rw [show (79872#32).toInt = 79872 from by decide] at h2
  have hw := w.isLt
  rw [BitVec.toInt_eq_toNat_cond] at h1 h2
  split at h1
  · rw [if_pos (by assumption)] at h2; omega
  · omega

/-- The precondition says that the table names rows of the outputs. -/
theorem range_of {F : FTy → Type} [FloatOps F] (T : Table) (X : FVec F S65536x1024 .f32) (Y : FVec F S79872x1024 .f32) (g : FVec F S1024 .f32)
    (h : Cert.Pre_in_range.fn (F := F) T X Y g = fun _ => 1#1) : InRange T := fun t => by
  obtain ⟨h1, h2⟩ := both_bits _ _ (congrFun h (at1 t))
  exact small_of _ h1 h2

end Cert.Merge

end
-- ==== Proof.CombineRef.lean ====
/- The combine call and its reference over the extended reals, element by element: they agree. -/
module

public import proofs.«01_k».proof.Proof.CombineValue
public import proofs.«01_k».proof.Proof.Gen.CombineReferenceIdeal.Run
public import Idealize.ShloMosaic.Lib.Pointwise
public import Idealize.ShloMosaic.Lib.Routing.Ops

@[expose] public section

set_option maxRecDepth 16384

noncomputable section

namespace Cert.Merge

open Idealize.ShloMosaic Idealize.SL.Sem

/-- Lane `b` of the row `s`, divided by the row's root mean square and multiplied by the gain `g`. -/
def normAt (s : Fin 1024 → EReal) (g : EReal) (b : Fin 1024) : EReal :=
  (s b * Ideal.rsqrt (Ideal.div (∑ k : Fin 1024, s k * s k) (Scalar.ofBits (F := Ideal) .f32 0x44800000#32) + Scalar.ofBits (F := Ideal) .f32 0x358637BD#32)) * g

section Kernel
open Cert.CombineIdeal Cert.CombineIdeal.Gen

theorem pay1_apply (x y : Vec Ideal S512x1024 .f32) (g : Vec Ideal S1x1024 .f32) (a : Fin 512) (b : Fin 1024) :
    k0_pay1 (F := Ideal) x y g (ix2 a b) = normAt (fun k => (x (ix2 a k) : EReal) + y (ix2 a k)) (g (ix2 0 b)) b := by
  pointwise [k0_pay1, normAt]

theorem gainRow_apply (g : Vec Ideal S1024 .f32) (b : Fin 1024) : gainRow g (ix2 0 b) = g (ix1 b) := by
  pointwise [gainRow]

end Kernel

namespace Ref
open Cert.CombineReferenceIdeal Cert.CombineReferenceIdeal.Gen

/-- The rows that the reference takes. -/
def taken (T : IVec S65536 32) (Y : FVec Ideal S79872x1024 .f32) : FVec Ideal S65536x1024 .f32 :=
  Host.gather gather_S79872x1024_S65536x1_S65536x1024_1_0_n_n_0_1_11024 Y (broadcastInDim S65536x1 ![0] bcast_S65536_S65536x1_0
    (select (cmpi .slt T (broadcastInDim S65536 ![] bcast_S_S65536 (constantI S_ 32 0#32)))
      (addi T (broadcastInDim S65536 ![] bcast_S_S65536 (constantI S_ 32 79872#32))) T))

/-- The sum's rows, each divided by its root mean square, times the gain. -/
def normed (S : FVec Ideal S65536x1024 .f32) (g : FVec Ideal S1024 .f32) : FVec Ideal S65536x1024 .f32 :=
  mulf (mulf S (broadcastInDim S65536x1024 ![0, 1] bcast_S65536x1_S65536x1024_0_1
      (Host.rsqrt (addf (Host.divf (broadcastInDim S65536x1 ![0] bcast_S65536_S65536x1_0
          (Host.reduceAdd (mulf S S) (constant S_ .f32 0x00000000#32) reducesTo_S65536x1024_S65536_d1 h_S_))
          (broadcastInDim S65536x1 ![] bcast_S_S65536x1 (constant S_ .f32 0x44800000#32)))
        (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- What the reference computes. -/
def outcome (T : IVec S65536 32) (X : FVec Ideal S65536x1024 .f32) (Y : FVec Ideal S79872x1024 .f32) (g : FVec Ideal S1024 .f32) :
    FVec Ideal S65536x1024 .f32 := normed (addf X (taken T Y)) g

theorem normed_apply (S : FVec Ideal S65536x1024 .f32) (g : FVec Ideal S1024 .f32) (r : Fin 65536) (b : Fin 1024) :
    normed S g (ix2 r b) = normAt (fun k => S (ix2 r k)) (g (ix1 b)) b := by
  pointwise [normed, normAt]

theorem at1_ix (r : Fin 65536) : (ix1 r : Cert.CombineIdeal.S65536.Idx) = at1 r := by
  funext a
  fin_cases a
  rfl

/-- A word that names a row is not negative: it is taken as it is. -/
theorem kept (w : BitVec 32) (h : w.toNat < 79872) (a : BitVec 32) : Scalar.select (IntOp.cmpi CmpIPredicate.slt w 0#32) a w = w := by
  show (if BitVec.ofBool (w.slt 0#32) = 1#1 then a else w) = w
  have hn : ¬ w.toInt < (0#32).toInt := by
    rw [show (0#32).toInt = 0 from by decide, BitVec.toInt_eq_toNat_cond, if_pos (by omega)]; omega
  rw [show w.slt 0#32 = false from decide_eq_false hn]; rfl

/-- The reference takes the row that the table names. -/
theorem taken_apply (T : IVec S65536 32) (hT : InRange T) (Y : FVec Ideal S79872x1024 .f32) (r : Fin 65536) (b : Fin 1024) :
    taken T Y (ix2 r b) = Y (ix2 (rowOf hT r) b) := by
  unfold taken
  refine Routing.gather_row _ rfl rfl rfl rfl rfl Y _ r b (rowOf hT r) ?_ (by decide)
  have h : pos T r < 79872 := hT r
  have hw : T (ix1 r) = BitVec.ofNat 32 (rowOf hT r).val := by
    rw [at1_ix]
    apply BitVec.eq_of_toNat_eq
    rw [BitVec.toNat_ofNat]
    exact (Nat.mod_eq_of_lt (T (at1 r)).isLt).symm
  refine Eq.trans ?_ hw
  pointwise []
  exact kept (T (ix1 r)) (by rw [at1_ix]; exact h) _

/-- The reference's result is the call's. -/
theorem outcome_eq (T : IVec S65536 32) (hT : InRange T) (X : FVec Ideal S65536x1024 .f32) (Y : FVec Ideal S79872x1024 .f32) (g : FVec Ideal S1024 .f32) :
    merged (F := Ideal) hT X Y g = outcome T X Y g := by
  funext j
  have hj : ∀ (r : Fin 65536) (b : Fin 1024), merged (F := Ideal) hT X Y g (ix2 r b) = outcome T X Y g (ix2 r b) := by
    intro r b
    have e1 : merged (F := Ideal) hT X Y g (ix2 r b)
        = normAt (fun k => (rowsBlk (F := Ideal) X (tileOf r) (ix2 (inTile r) k) : EReal) + gathered (F := Ideal) hT Y (tileOf r) (ix2 (inTile r) k)) (gainRow (F := Ideal) g (ix2 0 b)) b := by
      refine Eq.trans ?_ (pay1_apply (rowsBlk (F := Ideal) X (tileOf r)) (gathered (F := Ideal) hT Y (tileOf r)) (gainRow (F := Ideal) g) (inTile r) b)
      refine congrArg (tileOut (F := Ideal) hT X Y g (tileOf r)) ?_
      funext a
      fin_cases a <;> rfl
    refine e1.trans ?_
    unfold outcome
    rw [normed_apply, gainRow_apply]
    refine congrArg (fun s => normAt s (g (ix1 b)) b) ?_
    funext k
    have ex : (rowsBlk (F := Ideal) X (tileOf r) (ix2 (inTile r) k) : EReal) = X (ix2 r k) := by
      refine congrArg X ?_
      funext a
      fin_cases a
      · exact token_tileOf r
      · rfl
    have ey : (gathered (F := Ideal) hT Y (tileOf r) (ix2 (inTile r) k) : EReal) = taken T Y (ix2 r k) := by
      rw [taken_apply T hT]
      refine congrArg Y ?_
      funext a
      fin_cases a
      · exact congrArg (fun t => rowOf hT t) (token_tileOf r)
      · rfl
    exact congrArg₂ (fun p q : EReal => p + q) ex ey
  have e : (ix2 (⟨(j 0).val, (j 0).isLt⟩ : Fin 65536) (⟨(j 1).val, (j 1).isLt⟩ : Fin 1024) : S65536x1024.Idx) = j := by
    funext a
    fin_cases a <;> rfl
  exact (congrArg (merged (F := Ideal) hT X Y g) e.symm).trans ((hj _ _).trans (congrArg (outcome T X Y g) e))

/-- The reference's run, over the extended reals. -/
theorem run (m : (ℓ : Loc nD τ sig) → Buf (Elt Ideal) ℓ) (ρ : Dev nD → PrngReg) :
    θ_run (Cert.CombineReferenceIdeal.defs (F := Ideal)) (onTc (τ := τ) (main (F := Ideal))) ⟨m, fun _ => 0, ρ⟩ fun r => ∀ c : Dev nD,
      r.2.mem ((c.tc : Thread nD τ).loc main_v20)
          = outcome (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  Cert.CombineReferenceIdeal.Value.run m ρ

end Ref

end Cert.Merge

end
-- ==== Proof.ProjectTile.lean ====
/- One tile of the projection over the extended reals, element by element. -/
module

public import proofs.«01_k».proof.Proof.Gen.ProjectIdeal.Frame
public import Idealize.ShloMosaic.Lib.Pointwise

@[expose] public section

set_option maxRecDepth 16384

noncomputable section

namespace Cert.Projection

open Idealize.ShloMosaic

/-- Lane `k` of the row `s`, divided by the row's root mean square and multiplied by the gain `g`. -/
def unitAt (s g : Fin 1024 → EReal) (k : Fin 1024) : EReal :=
  (s k * Ideal.rsqrt (Ideal.div (∑ l : Fin 1024, s l * s l) (Scalar.ofBits (F := Ideal) .f32 0x44800000#32) + Scalar.ofBits (F := Ideal) .f32 0x358637BD#32)) * g k

/-- The normalised row against a column of weights. -/
def against (s g w : Fin 1024 → EReal) : EReal := ∑ k : Fin 1024, unitAt s g k * w k

/-- The logistic function. -/
def logistic (a : EReal) : EReal := Ideal.div 1 (1 + Ideal.exp (-a))

/-- The soft cap: `15 · tanh(z / 15)`. -/
def cap (z : EReal) : EReal := Scalar.ofBits (F := Ideal) .f32 0x41700000#32 * Ideal.tanh (Ideal.div z (Scalar.ofBits (F := Ideal) .f32 0x41700000#32))

/-- The logarithm of the logistic function: `min(z, 0) − log(1 + e^(−|z|))`. -/
def logLogistic (z : EReal) : EReal := min z 0 - Ideal.log1p (Ideal.exp (-(max z (-z))))

/-- Gate row `j` of a capped value: the first four rows keep it, the last four take its log-logistic. -/
def gateAt (j : Fin 8) (z : EReal) : EReal := if j.val < 4 then z else logLogistic z

theorem exp_nonneg (a : EReal) : 0 ≤ Ideal.exp a := by
  induction a using EReal.rec with
  | bot => exact le_refl _
  | top => exact le_top
  | coe r => exact EReal.coe_nonneg.mpr (Real.exp_pos r).le

theorem log1p_ne_bot (a : EReal) (h : 0 ≤ a) : Ideal.log1p a ≠ ⊥ := by
  induction a using EReal.rec with
  | bot => exact absurd h (by decide)
  | top => unfold Ideal.log1p; rw [EReal.add_top_of_ne_bot (by decide)]; exact top_ne_bot
  | coe r =>
    have hr : 0 ≤ r := EReal.coe_nonneg.mp h
    unfold Ideal.log1p
    rw [show (1 : EReal) + (r : EReal) = ((1 + r : ℝ) : EReal) from rfl]
    show (if 1 + r ≤ 0 then (⊥ : EReal) else (Real.log (1 + r) : EReal)) ≠ ⊥
    rw [if_neg (by linarith)]
    exact EReal.coe_ne_bot _

/-- The same logarithm written with a maximum: minus the logarithm of `1 + e^(−z)`. -/
theorem logLogistic_eq (z : EReal) : -(max (-z) 0 + Ideal.log1p (Ideal.exp (-(max (-z) (- -z))))) = logLogistic z := by
  have hL := log1p_ne_bot _ (exp_nonneg (-(max (-z) (- -z))))
  have hM : max (-z) 0 ≠ ⊥ := ne_of_gt (lt_of_lt_of_le EReal.bot_lt_zero (le_max_right _ _))
  rw [EReal.neg_add (.inl hM) (.inr hL)]
  unfold logLogistic
  rw [neg_neg, max_comm (-z) z]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

open Cert.ProjectIdeal Cert.ProjectIdeal.Gen

theorem pay1_apply (x : Vec Ideal S512x1024 .f32) (g : Vec Ideal S1x1024 .f32) (a : Fin 512) (k : Fin 1024) :
    k0_pay1 (F := Ideal) x g (ix2 a k) = unitAt (fun k => x (ix2 a k)) (fun k => g (ix2 0 k)) k := by
  pointwise [k0_pay1, unitAt]

theorem pay2_apply (x : Vec Ideal S512x1024 .f32) (g : Vec Ideal S1x1024 .f32) (a : Fin 512) (k : Fin 1024) :
    k0_pay2 (F := Ideal) x g (ix2 a k) = unitAt (fun k => x (ix2 a k)) (fun k => g (ix2 0 k)) k := by
  pointwise [k0_pay2]
  exact pay1_apply x g a k

theorem pay3_apply (x : Vec Ideal S512x1024 .f32) (g : Vec Ideal S1x1024 .f32) (w : Vec Ideal S1024x512 .bf16) (a : Fin 512) (b : Fin 512) :
    k0_pay3 (F := Ideal) x g w (ix2 a b) = against (fun k => x (ix2 a k)) (fun k => g (ix2 0 k)) (fun k => w (ix2 k b)) := by
  pointwise [k0_pay3, against]
  exact Finset.sum_congr rfl fun k _ => congrArg (· * _) (pay2_apply x g a k)

theorem pay4_apply (x : Vec Ideal S512x1024 .f32) (g : Vec Ideal S1x1024 .f32) (w : Vec Ideal S1024x512 .bf16) (a : Fin 512) (b : Fin 512) :
    k0_pay4 (F := Ideal) x g w (ix2 a b) = against (fun k => x (ix2 a k)) (fun k => g (ix2 0 k)) (fun k => w (ix2 k b)) * Scalar.ofBits (F := Ideal) .f32 0x3DB504F3#32 := by
  pointwise [k0_pay4, against]
  exact congrArg (· * _) (Finset.sum_congr rfl fun k _ => congrArg (· * _) (pay2_apply x g a k))

theorem pay5_apply (x : Vec Ideal S512x1024 .f32) (g : Vec Ideal S1x1024 .f32) (w : Vec Ideal S1024x1024 .bf16) (a : Fin 512) (b : Fin 1024) :
    k0_pay5 (F := Ideal) x g w (ix2 a b) = against (fun k => x (ix2 a k)) (fun k => g (ix2 0 k)) (fun k => w (ix2 k b)) := by
  pointwise [k0_pay5, against]
  exact Finset.sum_congr rfl fun k _ => congrArg (· * _) (pay2_apply x g a k)

theorem pay6_apply (x : Vec Ideal S512x1024 .f32) (g : Vec Ideal S1x1024 .f32) (w : Vec Ideal S1024x1024 .bf16) (a : Fin 512) (b : Fin 1024) :
    k0_pay6 (F := Ideal) (k0_pay2 x g) w (ix2 a b) = logistic (against (fun k => x (ix2 a k)) (fun k => g (ix2 0 k)) (fun k => w (ix2 k b))) := by
  pointwise [k0_pay6, against, logistic]
  simp only [zero_sub]
  exact congrArg (fun z : EReal => Ideal.div 1 (1 + Ideal.exp (-z))) (Finset.sum_congr rfl fun k _ => congrArg (· * _) (pay2_apply x g a k))

theorem lane_word : ∀ j : Fin 8, IntOp.cmpi CmpIPredicate.slt (BitVec.ofNat 32 j.val) 4#32 = if j.val < 4 then 1#1 else 0#1 := by decide

theorem pay7_apply (x : Vec Ideal S512x1024 .f32) (g : Vec Ideal S1x1024 .f32) (w : Vec Ideal S1024x128 .f32) (b : Vec Ideal S1x128 .f32) (j : Fin 8) (a : Fin 512) :
    k0_pay7 (F := Ideal) (k0_pay1 x g) w b (ix2 j a)
      = gateAt j (cap (against (fun k => x (ix2 a k)) (fun k => g (ix2 0 k)) (fun k => w (ix2 k ⟨j.val, by have := j.isLt; omega⟩)) + b (ix2 0 ⟨j.val, by have := j.isLt; omega⟩))) := by
  pointwise [k0_pay7]
  have e : (∑ k : Fin 1024, (k0_pay1 (F := Ideal) x g (ix2 a k) : EReal) * w (ix2 k ⟨j.val, by have := j.isLt; omega⟩))
      = against (fun k => x (ix2 a k)) (fun k => g (ix2 0 k)) (fun k => w (ix2 k ⟨j.val, by have := j.isLt; omega⟩)) :=
    Finset.sum_congr rfl fun k _ => congrArg (· * _) (pay1_apply x g a k)
  rw [lane_word, e]
  simp only [zero_sub]
  unfold gateAt
  by_cases h : j.val < 4
  · rw [if_pos h, if_pos h]
    rfl
  · rw [if_neg h, if_neg h]
    rfl

end Cert.Projection

end
-- ==== Proof.ProjectHost.lean ====
/- What the projection's host code hands its call: the tokens flattened, the gain as a row, the weights' first 3072
   columns, and the gates' weights and biases in the first eight of 128 lanes. -/
module

public import proofs.«01_k».proof.Proof.ProjectTile
public import Idealize.ShloMosaic.Lib.Routing.OpsSet
public import Idealize.ShloMosaic.Lib.Routing.OpsPair
public import Idealize.ShloMosaic.Lib.StableHlo.Run

@[expose] public section

set_option maxRecDepth 16384

noncomputable section

namespace Cert.Projection

open Cert.ProjectIdeal Cert.ProjectIdeal.Gen
open Idealize.ShloMosaic Idealize.ShloMosaic.TcCoe Idealize.ShloMosaic.StableHlo Idealize.SL Idealize.SL.Sem

local notation "𝔚" => scatter_S1024x128_S1_S1024x8_01_n_1_0
local notation "𝔅" => scatter_S1x128_S2_S8_0_0_01_0

variable {F : FTy → Type} [FloatOps F]

/-- The arguments, flattened. -/
def tokens (x : FVec F S32x2048x1024 .f32) : FVec F S65536x1024 .f32 := shapeCast S65536x1024 x shapeCasts_S32x2048x1024_S65536x1024
def gains (g : FVec F S1x1024 .f32) : FVec F S1024 .f32 := shapeCast S1024 g shapeCasts_S1x1024_S1024
def weights (w : FVec F S1x1024x3080 .f32) : FVec F S1024x3080 .f32 := shapeCast S1024x3080 w shapeCasts_S1x1024x3080_S1024x3080
def biases (b : FVec F S1x8 .f32) : FVec F S8 .f32 := shapeCast S8 b shapeCasts_S1x8_S8

/-- What the windows are over. -/
def gainRow (g : FVec F S1024 .f32) : FVec F S1x1024 .f32 := shapeCast S1x1024 g shapeCasts_S1024_S1x1024
def mains (w : FVec F S1024x3080 .f32) : FVec F S1024x3072 .bf16 :=
  truncf .bf16 (extractStridedSlice S1024x3072 ![0, 0] w slices_S1024x3080_S1024x3072_0_0) bitsLt_bf16_f32
def zero1 : IVec S1 32 := broadcastInDim S1 ![] bcast_S_S1 (constantI S_ 32 0#32)
def zero2 : IVec S2 32 := concatenate S2 0 [⟨S1, zero1⟩, ⟨S1, zero1⟩] concatenates_S1_S1_S2_d0
def gateCols (w : FVec F S1024x3080 .f32) : FVec F S1024x8 .f32 := extractStridedSlice S1024x8 ![0, 3072] w slices_S1024x3080_S1024x8_0_3072
def gateWeights (w : FVec F S1024x3080 .f32) : FVec F S1024x128 .f32 :=
  Host.scatter 𝔚 (fun _ b => b) (broadcastInDim S1024x128 ![] bcast_S_S1024x128 (constant S_ .f32 0x00000000#32)) zero1 (gateCols w)
def gateBias (b : FVec F S8 .f32) : FVec F S1x128 .f32 :=
  Host.scatter 𝔅 (fun _ b => b) (broadcastInDim S1x128 ![] bcast_S_S1x128 (constant S_ .f32 0x00000000#32)) zero2 b

variable (m : (ℓ : Loc nD τ sig) → Buf (Elt F) ℓ)

theorem V_tokens (c : Dev nD) : V m c main_v0 = tokens (m ((c : Thread nD τ).loc main_arg0)) := by rfl
theorem V_gain (c : Dev nD) : V m c main_v13 = gainRow (gains (m ((c : Thread nD τ).loc main_arg1))) := by rfl
theorem V_mains (c : Dev nD) : V m c main_v15 = mains (weights (m ((c : Thread nD τ).loc main_arg2))) := by rfl
theorem V_gateWeights (c : Dev nD) : V m c main_v5 = gateWeights (weights (m ((c : Thread nD τ).loc main_arg2))) := by
  unfold V hostOps0
  after_results
  rfl
theorem V_gateBias (c : Dev nD) : V m c main_v11 = gateBias (biases (m ((c : Thread nD τ).loc main_arg3))) := by
  unfold V hostOps0
  after_results
  rfl

theorem zero1_at (i : S1.Idx) : zero1 i = 0#32 := rfl
theorem zero2_at (i : S2.Idx) : zero2 i = 0#32 := by
  have h : ∀ k : Fin 2, zero2 (ix1 k) = 0#32 := by
    intro k
    fin_cases k <;> rfl
  refine Eq.trans (congrArg zero2 ?_) (h (i 0))
  funext a
  obtain rfl : a = 0 := Subsingleton.elim (α := Fin 1) _ _
  rfl

/-- Update entry `(k, j)` lands at row `k`, lane `j`. -/
theorem lands_w (u : S1024x8.Idx) (y : S1024x128.Idx) :
    (𝔚).resultIdx? u zero1 = some y ↔ (u 0).val = (y 0).val ∧ (u 1).val = (y 1).val := by
  have s0 : (𝔚).start u zero1 0 = 0 := by
    unfold ScatterDims.start
    rw [dif_neg (show ¬ (0 : Fin 2) ∈ (𝔚).scatterDimsToOperandDims from by decide)]
  have s1 : (𝔚).start u zero1 1 = 0 := by
    unfold ScatterDims.start
    rw [dif_pos (show (1 : Fin 2) ∈ (𝔚).scatterDimsToOperandDims from List.mem_singleton.mpr rfl), zero1_at]
    rfl
  have w0 : (𝔚).window u 0 = (u 0).val := by
    unfold ScatterDims.window
    rw [dif_pos (show (0 : Fin 2) ∈ (𝔚).sKept from by decide)]
    rfl
  have w1 : (𝔚).window u 1 = (u 1).val := by
    unfold ScatterDims.window
    rw [dif_pos (show (1 : Fin 2) ∈ (𝔚).sKept from by decide)]
    rfl
  rw [Routing.resultIdx?_eq_some]
  constructor
  · intro h
    have h0 := h 0
    have h1 := h 1
    rw [s0, w0] at h0
    rw [s1, w1] at h1
    omega
  · rintro ⟨h0, h1⟩ a
    match a with
    | ⟨0, _⟩ => exact (congrArg₂ (fun (p : ℤ) (q : ℕ) => p + (q : ℤ)) s0 w0).trans (show _ = ((y 0).val : ℤ) by omega)
    | ⟨1, _⟩ => exact (congrArg₂ (fun (p : ℤ) (q : ℕ) => p + (q : ℤ)) s1 w1).trans (show _ = ((y 1).val : ℤ) by omega)

/-- Bias `j` lands at lane `j` of the one row. -/
theorem lands_b (u : S8.Idx) (y : S1x128.Idx) : (𝔅).resultIdx? u zero2 = some y ↔ (u 0).val = (y 1).val := by
  have s0 : (𝔅).start u zero2 0 = 0 := by
    unfold ScatterDims.start
    rw [dif_pos (show (0 : Fin 2) ∈ (𝔅).scatterDimsToOperandDims from by decide), zero2_at]
    rfl
  have s1 : (𝔅).start u zero2 1 = 0 := by
    unfold ScatterDims.start
    rw [dif_pos (show (1 : Fin 2) ∈ (𝔅).scatterDimsToOperandDims from by decide), zero2_at]
    rfl
  have w0 : (𝔅).window u 0 = 0 := by
    unfold ScatterDims.window
    rw [dif_neg (show ¬ (0 : Fin 2) ∈ (𝔅).sKept from by decide)]
  have w1 : (𝔅).window u 1 = (u 0).val := by
    unfold ScatterDims.window
    rw [dif_pos (show (1 : Fin 2) ∈ (𝔅).sKept from by decide)]
    rfl
  have hy : (y 0).val = 0 := by have : (y 0).val < 1 := (y 0).isLt; omega
  rw [Routing.resultIdx?_eq_some]
  constructor
  · intro h
    have h1 := h 1
    rw [s1, w1] at h1
    omega
  · intro h1 a
    match a with
    | ⟨0, _⟩ => exact (congrArg₂ (fun (p : ℤ) (q : ℕ) => p + (q : ℤ)) s0 w0).trans (show _ = ((y 0).val : ℤ) by omega)
    | ⟨1, _⟩ => exact (congrArg₂ (fun (p : ℤ) (q : ℕ) => p + (q : ℤ)) s1 w1).trans (show _ = ((y 1).val : ℤ) by omega)

/-- Lane `j` of the gates' weights is column `3072 + j` of the weights. -/
theorem gateWeights_apply (w : FVec F S1024x3080 .f32) (k : Fin 1024) (j : Fin 8) :
    gateWeights w (ix2 k ⟨j.val, by have := j.isLt; omega⟩) = w (ix2 k ⟨3072 + j.val, by have := j.isLt; omega⟩) := by
  have e : gateCols w (ix2 k j) = w (ix2 k ⟨3072 + j.val, by have := j.isLt; omega⟩) := by
    unfold gateCols
    pointwise []
  refine Routing.scatter_set_hit _ _ _ _ _ _ (fun u hu => ?_) (ix2 k j) ((lands_w _ _).2 ⟨rfl, rfl⟩)
  obtain ⟨h0, h1⟩ := (lands_w _ _).1 hu
  refine Eq.trans (congrArg (gateCols w) ?_) e
  funext a
  refine Fin.ext ?_
  match a with
  | ⟨0, _⟩ => exact h0
  | ⟨1, _⟩ => exact h1

/-- Lane `j` of the gates' bias row is bias `j`. -/
theorem gateBias_apply (b : FVec F S8 .f32) (j : Fin 8) : gateBias b (ix2 0 ⟨j.val, by have := j.isLt; omega⟩) = b (ix1 j) := by
  refine Routing.scatter_set_hit _ _ _ _ _ _ (fun u hu => ?_) (ix1 j) ((lands_b _ _).2 rfl)
  have h1 := (lands_b _ _).1 hu
  refine congrArg b ?_
  funext a
  refine Fin.ext ?_
  match a with
  | ⟨0, _⟩ => exact h1

theorem gainRow_apply (g : FVec F S1024 .f32) (k : Fin 1024) : gainRow g (ix2 0 k) = g (ix1 k) := by
  pointwise [gainRow]

theorem mains_apply (w : FVec Ideal S1024x3080 .f32) (k : Fin 1024) (b : Fin 3072) :
    (mains w (ix2 k b) : EReal) = w (ix2 k ⟨b.val, by have := b.isLt; omega⟩) := by
  pointwise [mains]

end Cert.Projection

end
-- ==== Proof.ProjectValue.lean ====
/- The projection call's five results as functions of its four arguments: tile by tile, what the grid's points store. -/
module

public import proofs.«01_k».proof.Proof.ProjectHost
public import proofs.«01_k».proof.Proof.Gen.ProjectIdeal.Value
public import Idealize.ShloMosaic.Lib.Pipeline.ValueKit.Geometry

@[expose] public section

set_option maxRecDepth 16384

noncomputable section

namespace Cert.Projection

open Cert.ProjectIdeal Cert.ProjectIdeal.Gen
open Idealize.ShloMosaic Idealize.ShloMosaic.TcCoe Idealize.SL Idealize.SL.Sem
open Idealize.ShloMosaic.Pipeline (Dat Cfg Window)

/-- Row `a` of tile `i` is token `512 · i + a`; a token's tile, and its place there. -/
def token (i : Fin 128) (a : Fin 512) : Fin 65536 := ⟨512 * i.val + a.val, by have := i.isLt; have := a.isLt; omega⟩
def tileOf (r : Fin 65536) : Fin 128 := ⟨r.val / 512, by have := r.isLt; omega⟩
def inTile (r : Fin 65536) : Fin 512 := ⟨r.val % 512, by omega⟩
theorem token_tileOf (r : Fin 65536) : token (tileOf r) (inTile r) = r :=
  Fin.ext (by show 512 * (r.val / 512) + r.val % 512 = r.val; omega)

/-- An index of two axes is the pair of its coordinates. -/
theorem pair {n k : ℕ} (j : (⟨2, ![n, k]⟩ : Shape).Idx) : (ix2 (j 0) (j 1) : (⟨2, ![n, k]⟩ : Shape).Idx) = j := by
  funext a
  fin_cases a <;> rfl

/-- Token `r`'s normalised row against column `b` of the weights. -/
def dotAt (X : FVec Ideal S65536x1024 .f32) (g : FVec Ideal S1024 .f32) (W : FVec Ideal S1024x3080 .f32) (r : Fin 65536) (b : Fin 3080) : EReal :=
  against (fun k => X (ix2 r k)) (fun k => g (ix1 k)) (fun k => W (ix2 k b))

/-- The five results: queries, keys, values, the output gate, and the eight gate rows. -/
def queries (X : FVec Ideal S65536x1024 .f32) (g : FVec Ideal S1024 .f32) (W : FVec Ideal S1024x3080 .f32) : Vec Ideal S65536x512 .bf16 :=
  fun j => dotAt X g W (j 0) ⟨(j 1).val, by have : (j 1).val < 512 := (j 1).isLt; omega⟩
def keys (X : FVec Ideal S65536x1024 .f32) (g : FVec Ideal S1024 .f32) (W : FVec Ideal S1024x3080 .f32) : Vec Ideal S65536x512 .bf16 :=
  fun j => (dotAt X g W (j 0) ⟨512 + (j 1).val, by have : (j 1).val < 512 := (j 1).isLt; omega⟩ * Scalar.ofBits (F := Ideal) .f32 0x3DB504F3#32 : EReal)
def values (X : FVec Ideal S65536x1024 .f32) (g : FVec Ideal S1024 .f32) (W : FVec Ideal S1024x3080 .f32) : Vec Ideal S65536x1024 .bf16 :=
  fun j => dotAt X g W (j 0) ⟨1024 + (j 1).val, by have : (j 1).val < 1024 := (j 1).isLt; omega⟩
def outGate (X : FVec Ideal S65536x1024 .f32) (g : FVec Ideal S1024 .f32) (W : FVec Ideal S1024x3080 .f32) : Vec Ideal S65536x1024 .f32 :=
  fun j => logistic (dotAt X g W (j 0) ⟨2048 + (j 1).val, by have : (j 1).val < 1024 := (j 1).isLt; omega⟩)
def gateRows (X : FVec Ideal S65536x1024 .f32) (g : FVec Ideal S1024 .f32) (W : FVec Ideal S1024x3080 .f32) (b : FVec Ideal S8 .f32) : Vec Ideal S8x65536 .f32 :=
  fun j => gateAt (j 0) (cap (dotAt X g W (j 1) ⟨3072 + (j 0).val, by have : (j 0).val < 8 := (j 0).isLt; omega⟩ + b (ix1 (j 0))))

theorem zeros2 : (![0, 0] : Fin 2 → ℕ) = fun _ => 0 := by
  funext a
  fin_cases a <;> rfl

/-- A load of some columns of the weights, read at an entry. -/
theorem cols_0 (w : Vec Ideal S1024x3072 .bf16) (k : Fin 1024) (b : Fin 512) :
    (View.ld w r0_2 (ix2 k b) : EReal) = w (ix2 k ⟨b.val, by have := b.isLt; omega⟩) := by
  refine congrArg w (funext fun a => Fin.ext ?_)
  fin_cases a
  · show 0 + 1 * k.val = k.val; omega
  · show 0 + 1 * b.val = b.val; omega
theorem cols_512 (w : Vec Ideal S1024x3072 .bf16) (k : Fin 1024) (b : Fin 512) :
    (View.ld w r0_4 (ix2 k b) : EReal) = w (ix2 k ⟨512 + b.val, by have := b.isLt; omega⟩) := by
  refine congrArg w (funext fun a => Fin.ext ?_)
  fin_cases a
  · show 0 + 1 * k.val = k.val; omega
  · show 512 + 1 * b.val = 512 + b.val; omega
theorem cols_1024 (w : Vec Ideal S1024x3072 .bf16) (k : Fin 1024) (b : Fin 1024) :
    (View.ld w r0_5 (ix2 k b) : EReal) = w (ix2 k ⟨1024 + b.val, by have := b.isLt; omega⟩) := by
  refine congrArg w (funext fun a => Fin.ext ?_)
  fin_cases a
  · show 0 + 1 * k.val = k.val; omega
  · show 1024 + 1 * b.val = 1024 + b.val; omega
theorem cols_2048 (w : Vec Ideal S1024x3072 .bf16) (k : Fin 1024) (b : Fin 1024) :
    (View.ld w r0_6 (ix2 k b) : EReal) = w (ix2 k ⟨2048 + b.val, by have := b.isLt; omega⟩) := by
  refine congrArg w (funext fun a => Fin.ext ?_)
  fin_cases a
  · show 0 + 1 * k.val = k.val; omega
  · show 2048 + 1 * b.val = 2048 + b.val; omega

section Stores
variable (x0 : Vec Ideal S512x1024 .f32) (x1 : Vec Ideal S1x1024 .f32) (x2 : Vec Ideal S1024x3072 .bf16) (x3 : Vec Ideal S1024x128 .f32) (x4 : Vec Ideal S1x128 .f32)

/-- What a point stores in each result's block, entry by entry, of the blocks it reads. -/
theorem out_5 (a : Fin 512) (b : Fin 512) : (out0_5 x0 x1 x2 x3 x4 (ix2 a b) : EReal)
    = against (fun k => x0 (ix2 a k)) (fun k => x1 (ix2 0 k)) (fun k => x2 (ix2 k ⟨b.val, by have := b.isLt; omega⟩)) := by
  unfold out0_5
  rw [View.canon_cons_unit_zero zeros2, View.ld_unit_zero zeros2, View.ld_unit_zero zeros2, pay3_apply]
  exact congrArg _ (funext fun k => cols_0 x2 k b)
theorem out_6 (a : Fin 512) (b : Fin 512) : (out0_6 x0 x1 x2 x3 x4 (ix2 a b) : EReal)
    = against (fun k => x0 (ix2 a k)) (fun k => x1 (ix2 0 k)) (fun k => x2 (ix2 k ⟨512 + b.val, by have := b.isLt; omega⟩)) * Scalar.ofBits (F := Ideal) .f32 0x3DB504F3#32 := by
  unfold out0_6
  rw [View.canon_cons_unit_zero zeros2, View.ld_unit_zero zeros2, View.ld_unit_zero zeros2, pay4_apply]
  exact congrArg (· * _) (congrArg _ (funext fun k => cols_512 x2 k b))
theorem out_7 (a : Fin 512) (b : Fin 1024) : (out0_7 x0 x1 x2 x3 x4 (ix2 a b) : EReal)
    = against (fun k => x0 (ix2 a k)) (fun k => x1 (ix2 0 k)) (fun k => x2 (ix2 k ⟨1024 + b.val, by have := b.isLt; omega⟩)) := by
  unfold out0_7
  rw [View.canon_cons_unit_zero zeros2, View.ld_unit_zero zeros2, View.ld_unit_zero zeros2, pay5_apply]
  exact congrArg _ (funext fun k => cols_1024 x2 k b)
theorem out_8 (a : Fin 512) (b : Fin 1024) : (out0_8 x0 x1 x2 x3 x4 (ix2 a b) : EReal)
    = logistic (against (fun k => x0 (ix2 a k)) (fun k => x1 (ix2 0 k)) (fun k => x2 (ix2 k ⟨2048 + b.val, by have := b.isLt; omega⟩))) := by
  unfold out0_8
  rw [View.canon_cons_unit_zero zeros2, View.ld_unit_zero zeros2, View.ld_unit_zero zeros2, pay6_apply]
  exact congrArg logistic (congrArg _ (funext fun k => cols_2048 x2 k b))
theorem out_9 (j : Fin 8) (a : Fin 512) : (out0_9 x0 x1 x2 x3 x4 (ix2 j a) : EReal)
    = gateAt j (cap (against (fun k => x0 (ix2 a k)) (fun k => x1 (ix2 0 k)) (fun k => x3 (ix2 k ⟨j.val, by have := j.isLt; omega⟩)) + x4 (ix2 0 ⟨j.val, by have := j.isLt; omega⟩))) := by
  unfold out0_9
  rw [View.canon_cons_unit_zero zeros2, View.ld_unit_zero zeros2, View.ld_unit_zero zeros2, View.ld_unit_zero zeros2, View.ld_unit_zero zeros2, pay7_apply]

end Stores

/-- Point `t` is tile `t`. -/
theorem coords_val : ∀ t : Fin grid0.N, (grid0.coords t 0).val = t.val := by decide +kernel

theorem word_val (n : ℕ) (h : n < 128) : (BitVec.ofNat 32 n).toNat = n := by
  rw [BitVec.toNat_ofNat]; exact Nat.mod_eq_of_lt (by omega)

/-- Where each window's block lies in its array. -/
theorem place_0 (t : Fin grid0.N) (y : S512x1024.Idx) :
    ((cfg0.win 0).blk t).view.emb y = (ix2 (token (grid0.coords t 0) (y 0)) (y 1) : S65536x1024.Idx) := by
  funext b
  apply Fin.ext
  have h : (grid0.coords t 0).val < 128 := (grid0.coords t 0).isLt
  fin_cases b
  · show (BitVec.ofNat 32 (grid0.coords t 0).val).toNat * 512 + 1 * (y 0).val = 512 * (grid0.coords t 0).val + (y 0).val
    rw [word_val _ h, Nat.one_mul, Nat.mul_comm]
  · show 0 * 1024 + 1 * (y 1).val = (y 1).val
    omega
theorem place_5 (t : Fin grid0.N) (y : S512x512.Idx) :
    ((cfg0.win 5).blk t).view.emb y = (ix2 (token (grid0.coords t 0) (y 0)) (y 1) : S65536x512.Idx) := by
  funext b
  apply Fin.ext
  have h : (grid0.coords t 0).val < 128 := (grid0.coords t 0).isLt
  fin_cases b
  · show (BitVec.ofNat 32 (grid0.coords t 0).val).toNat * 512 + 1 * (y 0).val = 512 * (grid0.coords t 0).val + (y 0).val
    rw [word_val _ h, Nat.one_mul, Nat.mul_comm]
  · show 0 * 512 + 1 * (y 1).val = (y 1).val
    omega
theorem place_6 (t : Fin grid0.N) (y : S512x512.Idx) :
    ((cfg0.win 6).blk t).view.emb y = (ix2 (token (grid0.coords t 0) (y 0)) (y 1) : S65536x512.Idx) := by
  funext b
  apply Fin.ext
  have h : (grid0.coords t 0).val < 128 := (grid0.coords t 0).isLt
  fin_cases b
  · show (BitVec.ofNat 32 (grid0.coords t 0).val).toNat * 512 + 1 * (y 0).val = 512 * (grid0.coords t 0).val + (y 0).val
    rw [word_val _ h, Nat.one_mul, Nat.mul_comm]
  · show 0 * 512 + 1 * (y 1).val = (y 1).val
    omega
theorem place_7 (t : Fin grid0.N) (y : S512x1024.Idx) :
    ((cfg0.win 7).blk t).view.emb y = (ix2 (token (grid0.coords t 0) (y 0)) (y 1) : S65536x1024.Idx) := by
  funext b
  apply Fin.ext
  have h : (grid0.coords t 0).val < 128 := (grid0.coords t 0).isLt
  fin_cases b
  · show (BitVec.ofNat 32 (grid0.coords t 0).val).toNat * 512 + 1 * (y 0).val = 512 * (grid0.coords t 0).val + (y 0).val
    rw [word_val _ h, Nat.one_mul, Nat.mul_comm]
  · show 0 * 1024 + 1 * (y 1).val = (y 1).val
    omega
theorem place_8 (t : Fin grid0.N) (y : S512x1024.Idx) :
    ((cfg0.win 8).blk t).view.emb y = (ix2 (token (grid0.coords t 0) (y 0)) (y 1) : S65536x1024.Idx) := by
  funext b
  apply Fin.ext
  have h : (grid0.coords t 0).val < 128 := (grid0.coords t 0).isLt
  fin_cases b
  · show (BitVec.ofNat 32 (grid0.coords t 0).val).toNat * 512 + 1 * (y 0).val = 512 * (grid0.coords t 0).val + (y 0).val
    rw [word_val _ h, Nat.one_mul, Nat.mul_comm]
  · show 0 * 1024 + 1 * (y 1).val = (y 1).val
    omega
theorem place_1 (t : Fin grid0.N) (y : S1x1024.Idx) : ((cfg0.win 1).blk t).view.emb y = y := by
  funext b
  apply Fin.ext
  fin_cases b
  · show 0 * 1 + 1 * (y 0).val = (y 0).val
    omega
  · show 0 * 1024 + 1 * (y 1).val = (y 1).val
    omega
theorem place_2 (t : Fin grid0.N) (y : S1024x3072.Idx) : ((cfg0.win 2).blk t).view.emb y = y := by
  funext b
  apply Fin.ext
  fin_cases b
  · show 0 * 1024 + 1 * (y 0).val = (y 0).val
    omega
  · show 0 * 3072 + 1 * (y 1).val = (y 1).val
    omega
theorem place_3 (t : Fin grid0.N) (y : S1024x128.Idx) : ((cfg0.win 3).blk t).view.emb y = y := by
  funext b
  apply Fin.ext
  fin_cases b
  · show 0 * 1024 + 1 * (y 0).val = (y 0).val
    omega
  · show 0 * 128 + 1 * (y 1).val = (y 1).val
    omega
theorem place_4 (t : Fin grid0.N) (y : S1x128.Idx) : ((cfg0.win 4).blk t).view.emb y = y := by
  funext b
  apply Fin.ext
  fin_cases b
  · show 0 * 1 + 1 * (y 0).val = (y 0).val
    omega
  · show 0 * 128 + 1 * (y 1).val = (y 1).val
    omega
theorem place_9 (t : Fin grid0.N) (y : S8x512.Idx) :
    ((cfg0.win 9).blk t).view.emb y = (ix2 (y 0) (token (grid0.coords t 0) (y 1)) : S8x65536.Idx) := by
  funext b
  apply Fin.ext
  have h : (grid0.coords t 0).val < 128 := (grid0.coords t 0).isLt
  fin_cases b
  · show 0 * 8 + 1 * (y 0).val = (y 0).val
    omega
  · show (BitVec.ofNat 32 (grid0.coords t 0).val).toNat * 512 + 1 * (y 1).val = 512 * (grid0.coords t 0).val + (y 1).val
    rw [word_val _ h, Nat.one_mul, Nat.mul_comm]

variable (m : (ℓ : Loc nD τ sig) → Buf (Elt Ideal) ℓ) (ρ : Dev nD → PrngReg)

/-- A core's four arguments, flattened. -/
abbrev X (c : Dev nD) : FVec Ideal S65536x1024 .f32 := tokens (F := Ideal) (m ((c : Thread nD τ).loc main_arg0))
abbrev G (c : Dev nD) : FVec Ideal S1024 .f32 := gains (F := Ideal) (m ((c : Thread nD τ).loc main_arg1))
abbrev W (c : Dev nD) : FVec Ideal S1024x3080 .f32 := weights (F := Ideal) (m ((c : Thread nD τ).loc main_arg2))
abbrev B (c : Dev nD) : FVec Ideal S8 .f32 := biases (F := Ideal) (m ((c : Thread nD τ).loc main_arg3))

/-- The blocks that a point reads, entry by entry. -/
theorem blk_0 (c : Dev nD) (t : Fin cfg0.N) (a : Fin 512) (k : Fin 1024) :
    (iblk m c 0 t (ix2 a k : S512x1024.Idx) : EReal) = X m c (ix2 (token (grid0.coords t 0) a) k) :=
  (congrArg (V m c main_v0) (place_0 t (ix2 a k))).trans (congrFun (V_tokens m c) _)
theorem blk_1 (c : Dev nD) (t : Fin cfg0.N) (k : Fin 1024) : (iblk m c 1 t (ix2 0 k : S1x1024.Idx) : EReal) = G m c (ix1 k) :=
  (congrArg (V m c main_v13) (place_1 t (ix2 0 k))).trans ((congrFun (V_gain m c) _).trans (gainRow_apply _ k))
theorem blk_2 (c : Dev nD) (t : Fin cfg0.N) (k : Fin 1024) (b : Fin 3072) :
    (iblk m c 2 t (ix2 k b : S1024x3072.Idx) : EReal) = W m c (ix2 k ⟨b.val, by have := b.isLt; omega⟩) :=
  (congrArg (V m c main_v15) (place_2 t (ix2 k b))).trans ((congrFun (V_mains m c) _).trans (mains_apply _ k b))
theorem blk_3 (c : Dev nD) (t : Fin cfg0.N) (k : Fin 1024) (j : Fin 8) :
    (iblk m c 3 t (ix2 k ⟨j.val, by have := j.isLt; omega⟩ : S1024x128.Idx) : EReal) = W m c (ix2 k ⟨3072 + j.val, by have := j.isLt; omega⟩) :=
  (congrArg (V m c main_v5) (place_3 t (ix2 k ⟨j.val, by have := j.isLt; omega⟩))).trans ((congrFun (V_gateWeights m c) _).trans (gateWeights_apply _ k j))
theorem blk_4 (c : Dev nD) (t : Fin cfg0.N) (j : Fin 8) :
    (iblk m c 4 t (ix2 0 ⟨j.val, by have := j.isLt; omega⟩ : S1x128.Idx) : EReal) = B m c (ix1 j) :=
  (congrArg (V m c main_v11) (place_4 t (ix2 0 ⟨j.val, by have := j.isLt; omega⟩))).trans ((congrFun (V_gateBias m c) _).trans (gateBias_apply _ j))

/-- A tile's row against a column is the token's. -/
theorem tile_dot (c : Dev nD) (t : Fin cfg0.N) (a : Fin 512) (b : Fin 3072) :
    against (fun k => iblk m c 0 t (ix2 a k : S512x1024.Idx)) (fun k => iblk m c 1 t (ix2 0 k : S1x1024.Idx)) (fun k => iblk m c 2 t (ix2 k b : S1024x3072.Idx))
      = dotAt (X m c) (G m c) (W m c) (token (grid0.coords t 0) a) ⟨b.val, by have := b.isLt; omega⟩ := by
  unfold dotAt
  rw [funext fun k => blk_0 m c t a k, funext fun k => blk_1 m c t k, funext fun k => blk_2 m c t k b]
theorem tile_gate (c : Dev nD) (t : Fin cfg0.N) (a : Fin 512) (j : Fin 8) :
    against (fun k => iblk m c 0 t (ix2 a k : S512x1024.Idx)) (fun k => iblk m c 1 t (ix2 0 k : S1x1024.Idx))
        (fun k => iblk m c 3 t (ix2 k ⟨j.val, by have := j.isLt; omega⟩ : S1024x128.Idx))
      = dotAt (X m c) (G m c) (W m c) (token (grid0.coords t 0) a) ⟨3072 + j.val, by have := j.isLt; omega⟩ := by
  unfold dotAt
  rw [funext fun k => blk_0 m c t a k, funext fun k => blk_1 m c t k, funext fun k => blk_3 m c t k j]

/-- The five result arrays that the run is shown to leave. -/
abbrev result_5 (c : Dev nD) : Vec Ideal S65536x512 .bf16 := queries (X m c) (G m c) (W m c)
abbrev result_6 (c : Dev nD) : Vec Ideal S65536x512 .bf16 := keys (X m c) (G m c) (W m c)
abbrev result_7 (c : Dev nD) : Vec Ideal S65536x1024 .bf16 := values (X m c) (G m c) (W m c)
abbrev result_8 (c : Dev nD) : Vec Ideal S65536x1024 .f32 := outGate (X m c) (G m c) (W m c)
abbrev result_9 (c : Dev nD) : Vec Ideal S8x65536 .f32 := gateRows (X m c) (G m c) (W m c) (B m c)

/-- What point `t` stores in each block is the result there. -/
theorem store_5 (c : Dev nD) (t : Fin cfg0.N) (y : S512x512.Idx) :
    (out0_5 (iblk m c 0 t) (iblk m c 1 t) (iblk m c 2 t) (iblk m c 3 t) (iblk m c 4 t) y : EReal) = result_5 m c (ix2 (token (grid0.coords t 0) (y 0)) (y 1)) := by
  have h : ∀ (a : Fin 512) (b : Fin 512), (out0_5 (iblk m c 0 t) (iblk m c 1 t) (iblk m c 2 t) (iblk m c 3 t) (iblk m c 4 t) (ix2 a b) : EReal)
      = result_5 m c (ix2 (token (grid0.coords t 0) a) b) := fun a b =>
    (out_5 _ _ _ _ _ a b).trans (tile_dot m c t a ⟨b.val, by have := b.isLt; omega⟩)
  exact (congrArg (out0_5 (iblk m c 0 t) (iblk m c 1 t) (iblk m c 2 t) (iblk m c 3 t) (iblk m c 4 t)) (pair y).symm).trans (h (y 0) (y 1))
theorem store_6 (c : Dev nD) (t : Fin cfg0.N) (y : S512x512.Idx) :
    (out0_6 (iblk m c 0 t) (iblk m c 1 t) (iblk m c 2 t) (iblk m c 3 t) (iblk m c 4 t) y : EReal) = result_6 m c (ix2 (token (grid0.coords t 0) (y 0)) (y 1)) := by
  have h : ∀ (a : Fin 512) (b : Fin 512), (out0_6 (iblk m c 0 t) (iblk m c 1 t) (iblk m c 2 t) (iblk m c 3 t) (iblk m c 4 t) (ix2 a b) : EReal)
      = result_6 m c (ix2 (token (grid0.coords t 0) a) b) := fun a b =>
    (out_6 _ _ _ _ _ a b).trans (congrArg (· * _) (tile_dot m c t a ⟨512 + b.val, by have := b.isLt; omega⟩))
  exact (congrArg (out0_6 (iblk m c 0 t) (iblk m c 1 t) (iblk m c 2 t) (iblk m c 3 t) (iblk m c 4 t)) (pair y).symm).trans (h (y 0) (y 1))
theorem store_7 (c : Dev nD) (t : Fin cfg0.N) (y : S512x1024.Idx) :
    (out0_7 (iblk m c 0 t) (iblk m c 1 t) (iblk m c 2 t) (iblk m c 3 t) (iblk m c 4 t) y : EReal) = result_7 m c (ix2 (token (grid0.coords t 0) (y 0)) (y 1)) := by
  have h : ∀ (a : Fin 512) (b : Fin 1024), (out0_7 (iblk m c 0 t) (iblk m c 1 t) (iblk m c 2 t) (iblk m c 3 t) (iblk m c 4 t) (ix2 a b) : EReal)
      = result_7 m c (ix2 (token (grid0.coords t 0) a) b) := fun a b =>
    (out_7 _ _ _ _ _ a b).trans (tile_dot m c t a ⟨1024 + b.val, by have := b.isLt; omega⟩)
  exact (congrArg (out0_7 (iblk m c 0 t) (iblk m c 1 t) (iblk m c 2 t) (iblk m c 3 t) (iblk m c 4 t)) (pair y).symm).trans (h (y 0) (y 1))
theorem store_8 (c : Dev nD) (t : Fin cfg0.N) (y : S512x1024.Idx) :
    (out0_8 (iblk m c 0 t) (iblk m c 1 t) (iblk m c 2 t) (iblk m c 3 t) (iblk m c 4 t) y : EReal) = result_8 m c (ix2 (token (grid0.coords t 0) (y 0)) (y 1)) := by
  have h : ∀ (a : Fin 512) (b : Fin 1024), (out0_8 (iblk m c 0 t) (iblk m c 1 t) (iblk m c 2 t) (iblk m c 3 t) (iblk m c 4 t) (ix2 a b) : EReal)
      = result_8 m c (ix2 (token (grid0.coords t 0) a) b) := fun a b =>
    (out_8 _ _ _ _ _ a b).trans (congrArg logistic (tile_dot m c t a ⟨2048 + b.val, by have := b.isLt; omega⟩))
  exact (congrArg (out0_8 (iblk m c 0 t) (iblk m c 1 t) (iblk m c 2 t) (iblk m c 3 t) (iblk m c 4 t)) (pair y).symm).trans (h (y 0) (y 1))
theorem store_9 (c : Dev nD) (t : Fin cfg0.N) (y : S8x512.Idx) :
    (out0_9 (iblk m c 0 t) (iblk m c 1 t) (iblk m c 2 t) (iblk m c 3 t) (iblk m c 4 t) y : EReal) = result_9 m c (ix2 (y 0) (token (grid0.coords t 0) (y 1))) := by
  have h : ∀ (j : Fin 8) (a : Fin 512), (out0_9 (iblk m c 0 t) (iblk m c 1 t) (iblk m c 2 t) (iblk m c 3 t) (iblk m c 4 t) (ix2 j a) : EReal)
      = result_9 m c (ix2 j (token (grid0.coords t 0) a)) := fun j a =>
    (out_9 _ _ _ _ _ j a).trans (congrArg (gateAt j) (congrArg cap (congrArg₂ (fun p q : EReal => p + q) (tile_gate m c t a j) (blk_4 m c t j))))
  exact (congrArg (out0_9 (iblk m c 0 t) (iblk m c 1 t) (iblk m c 2 t) (iblk m c 3 t) (iblk m c 4 t)) (pair y).symm).trans (h (y 0) (y 1))

/-- Every point writes its blocks back: the next point's are others. -/
theorem flush_5 (t : Fin grid0.N) : (cfg0.win 5).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · refine .inr (decide_eq_true ⟨by show t.val + 1 < grid0.N; have := t.isLt; omega, fun e => ?_⟩)
    have e0 := congrFun e (0 : Fin 2)
    change (BitVec.ofNat 32 (grid0.coords ⟨t.val + 1, _⟩ 0).val).toNat = (BitVec.ofNat 32 (grid0.coords t 0).val).toNat at e0
    rw [word_val _ (grid0.coords _ 0).isLt, word_val _ (grid0.coords _ 0).isLt, coords_val, coords_val] at e0
    exact absurd e0 (Nat.succ_ne_self _)
theorem flush_6 (t : Fin grid0.N) : (cfg0.win 6).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · refine .inr (decide_eq_true ⟨by show t.val + 1 < grid0.N; have := t.isLt; omega, fun e => ?_⟩)
    have e0 := congrFun e (0 : Fin 2)
    change (BitVec.ofNat 32 (grid0.coords ⟨t.val + 1, _⟩ 0).val).toNat = (BitVec.ofNat 32 (grid0.coords t 0).val).toNat at e0
    rw [word_val _ (grid0.coords _ 0).isLt, word_val _ (grid0.coords _ 0).isLt, coords_val, coords_val] at e0
    exact absurd e0 (Nat.succ_ne_self _)
theorem flush_7 (t : Fin grid0.N) : (cfg0.win 7).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · refine .inr (decide_eq_true ⟨by show t.val + 1 < grid0.N; have := t.isLt; omega, fun e => ?_⟩)
    have e0 := congrFun e (0 : Fin 2)
    change (BitVec.ofNat 32 (grid0.coords ⟨t.val + 1, _⟩ 0).val).toNat = (BitVec.ofNat 32 (grid0.coords t 0).val).toNat at e0
    rw [word_val _ (grid0.coords _ 0).isLt, word_val _ (grid0.coords _ 0).isLt, coords_val, coords_val] at e0
    exact absurd e0 (Nat.succ_ne_self _)
theorem flush_8 (t : Fin grid0.N) : (cfg0.win 8).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · refine .inr (decide_eq_true ⟨by show t.val + 1 < grid0.N; have := t.isLt; omega, fun e => ?_⟩)
    have e0 := congrFun e (0 : Fin 2)
    change (BitVec.ofNat 32 (grid0.coords ⟨t.val + 1, _⟩ 0).val).toNat = (BitVec.ofNat 32 (grid0.coords t 0).val).toNat at e0
    rw [word_val _ (grid0.coords _ 0).isLt, word_val _ (grid0.coords _ 0).isLt, coords_val, coords_val] at e0
    exact absurd e0 (Nat.succ_ne_self _)
theorem flush_9 (t : Fin grid0.N) : (cfg0.win 9).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · refine .inr (decide_eq_true ⟨by show t.val + 1 < grid0.N; have := t.isLt; omega, fun e => ?_⟩)
    have e0 := congrFun e (1 : Fin 2)
    change (BitVec.ofNat 32 (grid0.coords ⟨t.val + 1, _⟩ 0).val).toNat = (BitVec.ofNat 32 (grid0.coords t 0).val).toNat at e0
    rw [word_val _ (grid0.coords _ 0).isLt, word_val _ (grid0.coords _ 0).isLt, coords_val, coords_val] at e0
    exact absurd e0 (Nat.succ_ne_self _)

/-- The tiles cover the results. -/
theorem point_of (r : Fin 65536) : ∃ t : Fin grid0.N, grid0.coords t 0 = tileOf r :=
  ⟨⟨(tileOf r).val, by rw [N_0]; exact (tileOf r).isLt⟩, Fin.ext (coords_val _)⟩
theorem cover_5 (i : S65536x512.Idx) : ∃ t : Fin grid0.N, (cfg0.win 5).flush t = true ∧ i ∈ ((cfg0.win 5).blk t).view.set := by
  obtain ⟨t, ht⟩ := point_of (i 0)
  refine ⟨t, flush_5 t, Finset.mem_map.mpr ⟨ix2 (inTile (i 0)) (i 1), Finset.mem_univ _, (place_5 t _).trans ?_⟩⟩
  funext b
  fin_cases b
  · exact (congrArg (fun k : Fin 128 => token k (inTile (i 0))) ht).trans (token_tileOf (i 0))
  · rfl
theorem cover_6 (i : S65536x512.Idx) : ∃ t : Fin grid0.N, (cfg0.win 6).flush t = true ∧ i ∈ ((cfg0.win 6).blk t).view.set := by
  obtain ⟨t, ht⟩ := point_of (i 0)
  refine ⟨t, flush_6 t, Finset.mem_map.mpr ⟨ix2 (inTile (i 0)) (i 1), Finset.mem_univ _, (place_6 t _).trans ?_⟩⟩
  funext b
  fin_cases b
  · exact (congrArg (fun k : Fin 128 => token k (inTile (i 0))) ht).trans (token_tileOf (i 0))
  · rfl
theorem cover_7 (i : S65536x1024.Idx) : ∃ t : Fin grid0.N, (cfg0.win 7).flush t = true ∧ i ∈ ((cfg0.win 7).blk t).view.set := by
  obtain ⟨t, ht⟩ := point_of (i 0)
  refine ⟨t, flush_7 t, Finset.mem_map.mpr ⟨ix2 (inTile (i 0)) (i 1), Finset.mem_univ _, (place_7 t _).trans ?_⟩⟩
  funext b
  fin_cases b
  · exact (congrArg (fun k : Fin 128 => token k (inTile (i 0))) ht).trans (token_tileOf (i 0))
  · rfl
theorem cover_8 (i : S65536x1024.Idx) : ∃ t : Fin grid0.N, (cfg0.win 8).flush t = true ∧ i ∈ ((cfg0.win 8).blk t).view.set := by
  obtain ⟨t, ht⟩ := point_of (i 0)
  refine ⟨t, flush_8 t, Finset.mem_map.mpr ⟨ix2 (inTile (i 0)) (i 1), Finset.mem_univ _, (place_8 t _).trans ?_⟩⟩
  funext b
  fin_cases b
  · exact (congrArg (fun k : Fin 128 => token k (inTile (i 0))) ht).trans (token_tileOf (i 0))
  · rfl
theorem cover_9 (i : S8x65536.Idx) : ∃ t : Fin grid0.N, (cfg0.win 9).flush t = true ∧ i ∈ ((cfg0.win 9).blk t).view.set := by
  obtain ⟨t, ht⟩ := point_of (i 1)
  refine ⟨t, flush_9 t, Finset.mem_map.mpr ⟨ix2 (i 0) (inTile (i 1)), Finset.mem_univ _, (place_9 t _).trans ?_⟩⟩
  funext b
  fin_cases b
  · rfl
  · exact (congrArg (fun k : Fin 128 => token k (inTile (i 1))) ht).trans (token_tileOf (i 1))

/-- The result arrays' final contents. -/
theorem final_5 (c : Dev nD) : (dats m 0 c).arrAt 5 cfg0.N = result_5 m c :=
  (dats m 0 c).arrAt_eq_of_emb 5 (result_5 m c)
    (fun t _ (y : S512x512.Idx) => (congrFun (Cert.ProjectIdeal.Value.flushed5 m c t) y).trans
      ((store_5 m c t y).trans (congrArg (result_5 m c) (place_5 t y).symm)))
    cover_5
theorem final_6 (c : Dev nD) : (dats m 0 c).arrAt 6 cfg0.N = result_6 m c :=
  (dats m 0 c).arrAt_eq_of_emb 6 (result_6 m c)
    (fun t _ (y : S512x512.Idx) => (congrFun (Cert.ProjectIdeal.Value.flushed6 m c t) y).trans
      ((store_6 m c t y).trans (congrArg (result_6 m c) (place_6 t y).symm)))
    cover_6
theorem final_7 (c : Dev nD) : (dats m 0 c).arrAt 7 cfg0.N = result_7 m c :=
  (dats m 0 c).arrAt_eq_of_emb 7 (result_7 m c)
    (fun t _ (y : S512x1024.Idx) => (congrFun (Cert.ProjectIdeal.Value.flushed7 m c t) y).trans
      ((store_7 m c t y).trans (congrArg (result_7 m c) (place_7 t y).symm)))
    cover_7
theorem final_8 (c : Dev nD) : (dats m 0 c).arrAt 8 cfg0.N = result_8 m c :=
  (dats m 0 c).arrAt_eq_of_emb 8 (result_8 m c)
    (fun t _ (y : S512x1024.Idx) => (congrFun (Cert.ProjectIdeal.Value.flushed8 m c t) y).trans
      ((store_8 m c t y).trans (congrArg (result_8 m c) (place_8 t y).symm)))
    cover_8
theorem final_9 (c : Dev nD) : (dats m 0 c).arrAt 9 cfg0.N = result_9 m c :=
  (dats m 0 c).arrAt_eq_of_emb 9 (result_9 m c)
    (fun t _ (y : S8x512.Idx) => (congrFun (Cert.ProjectIdeal.Value.flushed9 m c t) y).trans
      ((store_9 m c t y).trans (congrArg (result_9 m c) (place_9 t y).symm)))
    cover_9

/-- The run: the five result arrays, and the four arguments unchanged. -/
theorem run : θ_run (defs (F := Ideal)) (onTc (τ := τ) (main (F := Ideal))) ⟨m, fun _ => 0, ρ⟩ fun r => ∀ c : Dev nD,
      r.2.mem ((c : Thread nD τ).loc main_v16_0) = result_5 m c
      ∧ r.2.mem ((c : Thread nD τ).loc main_v16_1) = result_6 m c
      ∧ r.2.mem ((c : Thread nD τ).loc main_v16_2) = result_7 m c
      ∧ r.2.mem ((c : Thread nD τ).loc main_v16_3) = result_8 m c
      ∧ r.2.mem ((c : Thread nD τ).loc main_v16_4) = result_9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run (defs (F := Ideal)) _ _).mono (fun r h c => ⟨(h c).1.trans (final_5 m c), (h c).2.1.trans (final_6 m c), (h c).2.2.1.trans (final_7 m c),
      (h c).2.2.2.1.trans (final_8 m c), (h c).2.2.2.2.1.trans (final_9 m c), (h c).2.2.2.2.2⟩)
    (Cert.ProjectIdeal.Value.run_blocks m ρ)

end Cert.Projection

end
-- ==== Proof.ProjectRef.lean ====
/- The projection's reference over the extended reals, element by element: its five results are the call's. -/
module

public import proofs.«01_k».proof.Proof.ProjectValue
public import proofs.«01_k».proof.Proof.Gen.ProjectReferenceIdeal.Run
public import Idealize.ShloMosaic.Lib.Pointwise

@[expose] public section

set_option maxRecDepth 16384

noncomputable section

namespace Cert.Projection.Ref

open Idealize.ShloMosaic Idealize.SL.Sem
open Cert.ProjectReferenceIdeal Cert.ProjectReferenceIdeal.Gen

/-- The normalised rows against the weights, all 3080 columns. -/
def proj (X : FVec Ideal S65536x1024 .f32) (g : FVec Ideal S1024 .f32) (W : FVec Ideal S1024x3080 .f32) : FVec Ideal S65536x3080 .f32 :=
  Host.dotGeneral dot_S65536x1024_S1024x3080_S65536x3080_1_0_0_1_n_n none
    (mulf (mulf X (broadcastInDim S65536x1024 ![0, 1] bcast_S65536x1_S65536x1024_0_1
      (Host.rsqrt (addf (Host.divf (broadcastInDim S65536x1 ![0] bcast_S65536_S65536x1_0
          (Host.reduceAdd (mulf X X) (constant S_ .f32 0x00000000#32) reducesTo_S65536x1024_S65536_d1 h_S_))
          (broadcastInDim S65536x1 ![] bcast_S_S65536x1 (constant S_ .f32 0x44800000#32)))
        (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))) W

theorem proj_apply (X : FVec Ideal S65536x1024 .f32) (g : FVec Ideal S1024 .f32) (W : FVec Ideal S1024x3080 .f32) (r : Fin 65536) (b : Fin 3080) :
    proj X g W (ix2 r b) = against (fun k => X (ix2 r k)) (fun k => g (ix1 k)) (fun k => W (ix2 k b)) := by
  pointwise [proj, against, unitAt]

/-- The four results that are cut from the projection. -/
def qs (P : FVec Ideal S65536x3080 .f32) : FVec Ideal S65536x512 .bf16 :=
  truncf .bf16 (extractStridedSlice S65536x512 ![0, 0] P slices_S65536x3080_S65536x512_0_0) bitsLt_bf16_f32
def ks (P : FVec Ideal S65536x3080 .f32) : FVec Ideal S65536x512 .bf16 :=
  truncf .bf16 (mulf (extractStridedSlice S65536x512 ![0, 512] P slices_S65536x3080_S65536x512_0_512)
    (broadcastInDim S65536x512 ![] bcast_S_S65536x512 (constant S_ .f32 0x3DB504F3#32))) bitsLt_bf16_f32
def vs (P : FVec Ideal S65536x3080 .f32) : FVec Ideal S65536x1024 .bf16 :=
  truncf .bf16 (extractStridedSlice S65536x1024 ![0, 1024] P slices_S65536x3080_S65536x1024_0_1024) bitsLt_bf16_f32
def os (P : FVec Ideal S65536x3080 .f32) : FVec Ideal S65536x1024 .f32 :=
  Host.divf (broadcastInDim S65536x1024 ![] bcast_S_S65536x1024 (constant S_ .f32 0x3F800000#32))
    (addf (broadcastInDim S65536x1024 ![] bcast_S_S65536x1024 (constant S_ .f32 0x3F800000#32))
      (Host.exp (Host.negf (extractStridedSlice S65536x1024 ![0, 2048] P slices_S65536x3080_S65536x1024_0_2048))))

/-- The capped gates, and the logarithm of the logistic function as the reference spells it. -/
def caps (P : FVec Ideal S65536x3080 .f32) (b : FVec Ideal S8 .f32) : FVec Ideal S65536x8 .f32 :=
  mulf (broadcastInDim S65536x8 ![] bcast_S_S65536x8 (constant S_ .f32 0x41700000#32))
    (Host.tanh (Host.divf (addf (extractStridedSlice S65536x8 ![0, 3072] P slices_S65536x3080_S65536x8_0_3072)
      (broadcastInDim S65536x8 ![0, 1] bcast_S1x8_S65536x8_0_1 (broadcastInDim S1x8 ![1] bcast_S8_S1x8_1 b)))
      (broadcastInDim S65536x8 ![] bcast_S_S65536x8 (constant S_ .f32 0x41700000#32))))
def zs : FVec Ideal S65536x4 .f32 := broadcastInDim S65536x4 ![] bcast_S_S65536x4 (constant S_ .f32 0x00000000#32)
def logs (G : FVec Ideal S65536x4 .f32) : FVec Ideal S65536x4 .f32 :=
  Host.negf (select (cmpf .une (subf (Host.negf G) zs) (subf (Host.negf G) zs)) (addf (Host.negf G) zs)
    (addf (maximumf (Host.negf G) zs) (Host.log1p (Host.exp (Host.negf (Host.absf (subf (Host.negf G) zs)))))))
def gs (C : FVec Ideal S65536x8 .f32) : FVec Ideal S8x65536 .f32 :=
  transpose S8x65536 [1, 0] (concatenate S65536x8 1 [⟨S65536x4, extractStridedSlice S65536x4 ![0, 0] C slices_S65536x8_S65536x4_0_0⟩,
    ⟨S65536x4, logs (extractStridedSlice S65536x4 ![0, 4] C slices_S65536x8_S65536x4_0_4)⟩] concatenates_S65536x4_S65536x4_S65536x8_d1) transposes_S65536x8_S8x65536_1_0

theorem qs_apply (P : FVec Ideal S65536x3080 .f32) (r : Fin 65536) (b : Fin 512) : qs P (ix2 r b) = P (ix2 r ⟨b.val, by have := b.isLt; omega⟩) := by
  pointwise [qs]
theorem ks_apply (P : FVec Ideal S65536x3080 .f32) (r : Fin 65536) (b : Fin 512) :
    ks P (ix2 r b) = P (ix2 r ⟨512 + b.val, by have := b.isLt; omega⟩) * Scalar.ofBits (F := Ideal) .f32 0x3DB504F3#32 := by
  pointwise [ks]
theorem vs_apply (P : FVec Ideal S65536x3080 .f32) (r : Fin 65536) (b : Fin 1024) : vs P (ix2 r b) = P (ix2 r ⟨1024 + b.val, by have := b.isLt; omega⟩) := by
  pointwise [vs]
theorem os_apply (P : FVec Ideal S65536x3080 .f32) (r : Fin 65536) (b : Fin 1024) :
    os P (ix2 r b) = logistic (P (ix2 r ⟨2048 + b.val, by have := b.isLt; omega⟩)) := by
  pointwise [os, logistic]

theorem logs_apply (G : FVec Ideal S65536x4 .f32) (r : Fin 65536) (j : Fin 4) : logs G (ix2 r j) = logLogistic (G (ix2 r j)) := by
  pointwise [logs, zs]
  rw [if_neg (fun h => h rfl)]
  exact logLogistic_eq _

theorem caps_apply (P : FVec Ideal S65536x3080 .f32) (b : FVec Ideal S8 .f32) (r : Fin 65536) (j : Fin 8) :
    caps P b (ix2 r j) = cap (P (ix2 r ⟨3072 + j.val, by have := j.isLt; omega⟩) + b (ix1 j)) := by
  pointwise [caps, cap]

theorem gs_apply (C : FVec Ideal S65536x8 .f32) (r : Fin 65536) (j : Fin 8) : gs C (ix2 j r) = gateAt j (C (ix2 r j)) := by
  pointwise [gs]
  unfold gateAt
  by_cases h : j.val < 4
  · rw [dif_pos h, if_pos h]
  · rw [dif_neg h, if_neg h, logs_apply]
    refine congrArg logLogistic ?_
    pointwise []
    refine congrArg C ?_
    funext a
    apply Fin.ext
    fin_cases a
    · rfl
    · show 4 + (j.val - 4) = j.val
      omega

/-- The reference's five results are the call's. -/
theorem queries_eq (X : FVec Ideal S65536x1024 .f32) (g : FVec Ideal S1024 .f32) (W : FVec Ideal S1024x3080 .f32) : qs (proj X g W) = queries X g W := by
  funext j
  exact (congrArg (qs (proj X g W)) (pair j).symm).trans ((qs_apply _ (j 0) (j 1)).trans (proj_apply X g W (j 0) _))
theorem keys_eq (X : FVec Ideal S65536x1024 .f32) (g : FVec Ideal S1024 .f32) (W : FVec Ideal S1024x3080 .f32) : ks (proj X g W) = keys X g W := by
  funext j
  exact (congrArg (ks (proj X g W)) (pair j).symm).trans ((ks_apply _ (j 0) (j 1)).trans (congrArg (· * _) (proj_apply X g W (j 0) _)))
theorem values_eq (X : FVec Ideal S65536x1024 .f32) (g : FVec Ideal S1024 .f32) (W : FVec Ideal S1024x3080 .f32) : vs (proj X g W) = values X g W := by
  funext j
  exact (congrArg (vs (proj X g W)) (pair j).symm).trans ((vs_apply _ (j 0) (j 1)).trans (proj_apply X g W (j 0) _))
theorem outGate_eq (X : FVec Ideal S65536x1024 .f32) (g : FVec Ideal S1024 .f32) (W : FVec Ideal S1024x3080 .f32) : os (proj X g W) = outGate X g W := by
  funext j
  exact (congrArg (os (proj X g W)) (pair j).symm).trans ((os_apply _ (j 0) (j 1)).trans (congrArg logistic (proj_apply X g W (j 0) _)))
theorem gateRows_eq (X : FVec Ideal S65536x1024 .f32) (g : FVec Ideal S1024 .f32) (W : FVec Ideal S1024x3080 .f32) (b : FVec Ideal S8 .f32) :
    gs (caps (proj X g W) b) = gateRows X g W b := by
  funext j
  exact (congrArg (gs (caps (proj X g W) b)) (pair j).symm).trans ((gs_apply _ (j 1) (j 0)).trans (congrArg (gateAt (j 0))
    ((caps_apply _ b (j 1) (j 0)).trans (congrArg (fun p : EReal => cap (p + b (ix1 (j 0)))) (proj_apply X g W (j 1) _)))))

variable (m : (ℓ : Loc nD τ sig) → Buf (Elt Ideal) ℓ) (ρ : Dev nD → PrngReg)

abbrev rX (c : Dev nD) : FVec Ideal S65536x1024 .f32 := shapeCast S65536x1024 (m ((c.tc : Thread nD τ).loc main_arg0)) shapeCasts_S32x2048x1024_S65536x1024
abbrev rG (c : Dev nD) : FVec Ideal S1024 .f32 := shapeCast S1024 (m ((c.tc : Thread nD τ).loc main_arg1)) shapeCasts_S1x1024_S1024
abbrev rW (c : Dev nD) : FVec Ideal S1024x3080 .f32 := shapeCast S1024x3080 (m ((c.tc : Thread nD τ).loc main_arg2)) shapeCasts_S1x1024x3080_S1024x3080
abbrev rB (c : Dev nD) : FVec Ideal S8 .f32 := shapeCast S8 (m ((c.tc : Thread nD τ).loc main_arg3)) shapeCasts_S1x8_S8

theorem gates_def (c : Dev nD) : Cert.ProjectReferenceIdeal.Value.res_main_v46 m c = gs (caps (proj (rX m c) (rG m c) (rW m c)) (rB m c)) := by
  rfl

/-- The reference's run: its five results are those functions of its arguments, which end unchanged. -/
theorem run : θ_run (Cert.ProjectReferenceIdeal.defs (F := Ideal)) (onTc (τ := τ) (main (F := Ideal))) ⟨m, fun _ => 0, ρ⟩ fun r => ∀ c : Dev nD,
      r.2.mem ((c.tc : Thread nD τ).loc main_v18) = queries (rX m c) (rG m c) (rW m c)
      ∧ r.2.mem ((c.tc : Thread nD τ).loc main_v22) = keys (rX m c) (rG m c) (rW m c)
      ∧ r.2.mem ((c.tc : Thread nD τ).loc main_v24) = values (rX m c) (rG m c) (rW m c)
      ∧ r.2.mem ((c.tc : Thread nD τ).loc main_v31) = outGate (rX m c) (rG m c) (rW m c)
      ∧ r.2.mem ((c.tc : Thread nD τ).loc main_v46) = gateRows (rX m c) (rG m c) (rW m c) (rB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (Cert.ProjectReferenceIdeal.defs (F := Ideal)) _ _).mono (fun r h c =>
      ⟨(h c).1.trans (queries_eq (rX m c) (rG m c) (rW m c)), (h c).2.1.trans (keys_eq (rX m c) (rG m c) (rW m c)),
        (h c).2.2.1.trans (values_eq (rX m c) (rG m c) (rW m c)), (h c).2.2.2.1.trans (outGate_eq (rX m c) (rG m c) (rW m c)),
        ((h c).2.2.2.2.1.trans (gates_def m c)).trans (gateRows_eq (rX m c) (rG m c) (rW m c) (rB m c)), (h c).2.2.2.2.2⟩)
    (Cert.ProjectReferenceIdeal.Value.run m ρ)

end Cert.Projection.Ref

end
-- ==== Proof.AttendRows.lean ====
/- The rotation of the heads' first lanes by position-dependent angles, and the sum of three products by which a tile
   computes it. -/
module

public import proofs.«01_k».proof.Proof.ProjectTile

@[expose] public section

set_option maxRecDepth 16384

noncomputable section

namespace Cert.Attention

open Idealize.ShloMosaic
open Cert.Projection (unitAt against logistic)

/-- Column `b` of a matrix of 1024 rows. -/
def col {n : ℕ} (w : (⟨2, ![1024, n]⟩ : Shape).Idx → EReal) (b : ℕ) (k : Fin 1024) : EReal :=
  if h : b < n then w (ix2 k ⟨b, h⟩) else 0

theorem col_of {n : ℕ} (w : (⟨2, ![1024, n]⟩ : Shape).Idx → EReal) (b : ℕ) (h : b < n) : col w b = fun k => w (ix2 k ⟨b, h⟩) :=
  funext fun k => dif_pos h

/-- The rotation of the heads' first 16 lanes by the angles with cosines `cs` and sines `sn`; a head is 64 lanes. -/
def rot (y : ℕ → EReal) (cs sn : Fin 8 → EReal) (l : ℕ) : EReal :=
  if h : l % 64 < 8 then y l * cs ⟨l % 64, h⟩ - y (l + 8) * sn ⟨l % 64, h⟩
  else if h' : l % 64 < 16 then y l * cs ⟨l % 64 - 8, by omega⟩ + y (l - 8) * sn ⟨l % 64 - 8, by omega⟩
  else y l

/-- The three tables of the call at a lane: what multiplies the lane, the lane eight further, and the lane eight before. -/
def tabC (cs : Fin 8 → EReal) (l : ℕ) : EReal :=
  if h : l % 64 < 8 then cs ⟨l % 64, h⟩ else if h' : l % 64 < 16 then cs ⟨l % 64 - 8, by omega⟩ else 1
def tabA (sn : Fin 8 → EReal) (l : ℕ) : EReal := if h : l % 64 < 8 then -(sn ⟨l % 64, h⟩) else 0
def tabB (sn : Fin 8 → EReal) (l : ℕ) : EReal :=
  if h : l % 64 < 8 then 0 else if h' : l % 64 < 16 then sn ⟨l % 64 - 8, by omega⟩ else 0

/-- The sum that the call forms at lane `l` of the 128 lanes from `o`. -/
def mix (y : ℕ → EReal) (C A B : EReal) (o l : ℕ) : EReal :=
  y (o + l) * C + y (o + (l + 8) % 128) * A + y (o + (l + 120) % 128) * B

/-- With the tables it is the rotation. -/
theorem mix_eq_rot (y : ℕ → EReal) (cs sn : Fin 8 → EReal) (o l : ℕ) (hl : l < 128) (ho : o % 128 = 0) :
    mix y (tabC cs l) (tabA sn l) (tabB sn l) o l = rot y cs sn (o + l) := by
  have e : (o + l) % 64 = l % 64 := by omega
  unfold mix rot tabC tabA tabB
  simp only [e]
  by_cases h : l % 64 < 8
  · rw [dif_pos h, dif_pos h, dif_pos h, dif_pos h, show o + (l + 8) % 128 = o + l + 8 by omega, mul_zero, add_zero, mul_neg, sub_eq_add_neg]
  · by_cases h' : l % 64 < 16
    · rw [dif_neg h, dif_pos h', dif_neg h, dif_neg h, dif_pos h', dif_neg h, dif_pos h', show o + (l + 120) % 128 = o + l - 8 by omega,
        mul_zero, add_zero]
    · rw [dif_neg h, dif_neg h', dif_neg h, dif_neg h, dif_neg h', dif_neg h, dif_neg h', mul_zero, mul_zero, add_zero, add_zero, mul_one]

/-- The sum at lane `l` of the 128 lanes from `o`, of a row given by its lanes. -/
theorem mix_of {N : ℕ} (y : ℕ → EReal) (v : Fin N → EReal) (h : ∀ b : Fin N, v b = y b.val) (C A B : EReal) (o l : ℕ)
    (h0 : o + l < N) (h1 : o + (l + 128 - 120) % 128 < N) (h2 : o + (l + 128 - 8) % 128 < N) :
    v ⟨o + l, h0⟩ * C + v ⟨o + (l + 128 - 120) % 128, h1⟩ * A + v ⟨o + (l + 128 - 8) % 128, h2⟩ * B = mix y C A B o l := by
  rw [h, h, h]
  show y (o + l) * C + y (o + (l + 128 - 120) % 128) * A + y (o + (l + 128 - 8) % 128) * B = mix y C A B o l
  unfold mix
  rw [show l + 128 - 120 = l + 8 by omega, show l + 128 - 8 = l + 120 by omega]

/-- The sum of the lanes from `c` on, read as a longer row's. -/
theorem mix_shift (y y' : ℕ → EReal) (c N : ℕ) (h : ∀ n, n < N → y n = y' (c + n)) (C A B : EReal) (o l : ℕ) (hl : l < 128) (ho : o + 128 ≤ N) :
    mix y C A B o l = mix y' C A B (c + o) l := by
  unfold mix
  rw [h _ (by omega), h _ (by omega), h _ (by omega), ← Nat.add_assoc, ← Nat.add_assoc, ← Nat.add_assoc]

/-- Against a column of zeros a row gives 0. -/
theorem against_zero (s g : Fin 1024 → EReal) : against s g (fun _ => 0) = 0 := by
  unfold against
  exact Finset.sum_eq_zero fun k _ => mul_zero _

end Cert.Attention

end
-- ==== Proof.AttendTile.lean ====
/- One tile of the attention's input projection over the extended reals, element by element: the rotated queries and keys,
   the plain values, and the branch gates. -/
module

public import proofs.«01_k».proof.Proof.AttendRows
public import proofs.«01_k».proof.Proof.Gen.Attend.Frame
public import proofs.«01_k».proof.Proof.Gen.AttendIdeal.Frame
public import proofs.«01_k».proof.Proof.Gen.AttendIdeal.Value
public import Idealize.ShloMosaic.Lib.Pointwise

@[expose] public section

set_option maxRecDepth 16384

noncomputable section

namespace Cert.Attention

open Idealize.ShloMosaic
open Cert.Projection (unitAt against logistic)

open Cert.AttendIdeal Cert.AttendIdeal.Gen

theorem pay3_apply (x : Vec Ideal S512x1024 .f32) (g : Vec Ideal S1x1024 .f32) (a : Fin 512) (k : Fin 1024) :
    k0_pay3 (F := Ideal) x g (ix2 a k) = unitAt (fun k => x (ix2 a k)) (fun k => g (ix2 0 k)) k := by
  pointwise [k0_pay3, k0_pay2, unitAt]

theorem pay4_apply (x : Vec Ideal S512x1024 .f32) (g : Vec Ideal S1x1024 .f32) (a : Fin 512) (k : Fin 1024) :
    k0_pay4 (F := Ideal) x g (ix2 a k) = unitAt (fun k => x (ix2 a k)) (fun k => g (ix2 0 k)) k := pay3_apply x g a k

/-- Row `a` of the tile against the columns of `w`. -/
def rowDot {n : ℕ} (x : Vec Ideal S512x1024 .f32) (g : Vec Ideal S1x1024 .f32) (w : (⟨2, ![1024, n]⟩ : Shape).Idx → EReal) (a : Fin 512) (b : ℕ) : EReal :=
  against (fun k => x (ix2 a k)) (fun k => g (ix2 0 k)) (col w b)

theorem pay8_apply (x : Vec Ideal S512x1024 .f32) (g : Vec Ideal S1x1024 .f32) (w : Vec Ideal S1024x1024 .bf16) (a : Fin 512) (b : Fin 1024) :
    k0_pay8 (F := Ideal) x g w (ix2 a b) = rowDot x g w a b.val := by
  unfold rowDot
  rw [col_of w b.val b.isLt]
  pointwise [k0_pay8, against]
  exact Finset.sum_congr rfl fun k _ => congrArg (· * _) (pay3_apply x g a k)

theorem pay19_apply (x : Vec Ideal S512x1024 .f32) (g : Vec Ideal S1x1024 .f32) (w : Vec Ideal S1024x128 .bf16) (a : Fin 512) (b : Fin 128) :
    k0_pay19 (F := Ideal) (k0_pay3 x g) w (ix2 a b) = logistic (rowDot x g w a b.val) := by
  unfold rowDot
  rw [col_of w b.val b.isLt]
  pointwise [k0_pay19, against, Cert.Projection.logistic]
  simp only [zero_sub]
  exact congrArg (fun z : EReal => Ideal.div 1 (1 + Ideal.exp (-z))) (Finset.sum_congr rfl fun k _ => congrArg (· * _) (pay3_apply x g a k))

theorem pay20_apply (x : Vec Ideal S512x1024 .f32) (g : Vec Ideal S1x1024 .f32) (w : Vec Ideal S1024x128 .bf16) (a : Fin 512) (b : Fin 128) :
    k0_pay20 (F := Ideal) (k0_pay4 x g) w (ix2 a b) = rowDot x g w a b.val := by
  unfold rowDot
  rw [col_of w b.val b.isLt]
  pointwise [k0_pay20, against]
  exact Finset.sum_congr rfl fun k _ => congrArg (· * _) (pay3_apply x g a k)

theorem pay30_apply (x : Vec Ideal S512x1024 .f32) (g : Vec Ideal S1x1024 .f32) (w : Vec Ideal S1024x256 .bf16) (a : Fin 512) (b : Fin 256) :
    k0_pay30 (F := Ideal) (k0_pay4 x g) w (ix2 a b) = rowDot x g w a b.val := by
  unfold rowDot
  rw [col_of w b.val b.isLt]
  pointwise [k0_pay30, against]
  exact Finset.sum_congr rfl fun k _ => congrArg (· * _) (pay3_apply x g a k)

/-- The keys of 256 lanes: two chunks of 128. -/
theorem pay24_apply (x : Vec Ideal S512x1024 .f32) (g : Vec Ideal S1x1024 .f32) (C A B : Vec Ideal S512x128 .f32) (w : Vec Ideal S1024x256 .bf16) (a : Fin 512) (b : Fin 256) :
    k0_pay24 (F := Ideal) (k0_pay4 x g) (k0_pay5 C) (k0_pay6 A) (k0_pay7 B) w (ix2 a b)
      = mix (rowDot x g w a) (C (ix2 a ⟨b.val % 128, by omega⟩)) (A (ix2 a ⟨b.val % 128, by omega⟩)) (B (ix2 a ⟨b.val % 128, by omega⟩)) (b.val / 128 * 128) (b.val % 128) := by
  have hv : ∀ b : Fin 256, (∑ k : Fin 1024, (k0_pay4 (F := Ideal) x g (ix2 a k) : EReal) * w (ix2 k b)) = rowDot x g w a b.val := by
    intro b
    unfold rowDot
    rw [col_of w b.val b.isLt]
    exact Finset.sum_congr rfl fun k _ => congrArg (· * _) (pay3_apply x g a k)
  pointwise [k0_pay24, k0_pay5, k0_pay6, k0_pay7]
  by_cases h : b.val < 128
  · rw [dif_pos h]
    have e : (⟨b.val % 128, by omega⟩ : Fin 128) = ⟨b.val, h⟩ := Fin.ext (by show b.val % 128 = b.val; omega)
    rw [e, show b.val / 128 * 128 = 0 by omega, show b.val % 128 = b.val by omega]
    refine Eq.trans ?_ (mix_of (rowDot x g w a) _ hv _ _ _ 0 b.val (by omega) (by omega) (by omega))
    simp only [Nat.zero_add]
  · rw [dif_neg h]
    have hb := b.isLt
    have e : (⟨b.val % 128, by omega⟩ : Fin 128) = ⟨b.val - 128, by omega⟩ := Fin.ext (by show b.val % 128 = b.val - 128; omega)
    rw [e, show b.val / 128 * 128 = 128 by omega, show b.val % 128 = b.val - 128 by omega]
    exact mix_of (rowDot x g w a) _ hv _ _ _ 128 (b.val - 128) (by omega) (by omega) (by omega)

theorem pay41_apply (x : Vec Ideal S512x1024 .f32) (g : Vec Ideal S1x1024 .f32) (w : Vec Ideal S1024x256 .bf16) (a : Fin 512) (b : Fin 256) :
    k0_pay41 (F := Ideal) (k0_pay4 x g) w (ix2 a b) = rowDot x g w a b.val := pay30_apply x g w a b

section Queries
variable (x : Vec Ideal S512x1024 .f32) (g : Vec Ideal S1x1024 .f32) (C A B : Vec Ideal S512x128 .f32) (w : Vec Ideal S1024x1024 .bf16) (a : Fin 512)

/-- The queries, 128 lanes at a time. -/
theorem pay9_apply (l : Fin 128) : k0_pay9 (F := Ideal) x g C A B w (ix2 a l)
    = mix (rowDot x g w a) (C (ix2 a l)) (A (ix2 a l)) (B (ix2 a l)) 0 l.val := by
  have hv := pay8_apply x g w a
  refine Eq.trans ?_ (mix_of (rowDot x g w a) _ hv _ _ _ 0 l.val (by omega) (by omega) (by omega))
  pointwise [k0_pay9, k0_pay5, k0_pay6, k0_pay7]
  all_goals simp only [Nat.zero_add]
theorem pay11_apply (l : Fin 128) : k0_pay11 (F := Ideal) (k0_pay5 C) (k0_pay6 A) (k0_pay7 B) (k0_pay10 x g w) (ix2 a l)
    = mix (rowDot x g w a) (C (ix2 a l)) (A (ix2 a l)) (B (ix2 a l)) 128 l.val := by
  have hv := pay8_apply x g w a
  refine Eq.trans ?_ (mix_of (rowDot x g w a) _ hv _ _ _ 128 l.val (by omega) (by omega) (by omega))
  pointwise [k0_pay11, k0_pay10, k0_pay5, k0_pay6, k0_pay7]
theorem pay12_apply (l : Fin 128) : k0_pay12 (F := Ideal) (k0_pay5 C) (k0_pay6 A) (k0_pay7 B) (k0_pay8 x g w) (ix2 a l)
    = mix (rowDot x g w a) (C (ix2 a l)) (A (ix2 a l)) (B (ix2 a l)) 256 l.val := by
  have hv := pay8_apply x g w a
  refine Eq.trans ?_ (mix_of (rowDot x g w a) _ hv _ _ _ 256 l.val (by omega) (by omega) (by omega))
  pointwise [k0_pay12, k0_pay5, k0_pay6, k0_pay7]
theorem pay13_apply (l : Fin 128) : k0_pay13 (F := Ideal) (k0_pay5 C) (k0_pay6 A) (k0_pay7 B) (k0_pay8 x g w) (ix2 a l)
    = mix (rowDot x g w a) (C (ix2 a l)) (A (ix2 a l)) (B (ix2 a l)) 384 l.val := by
  have hv := pay8_apply x g w a
  refine Eq.trans ?_ (mix_of (rowDot x g w a) _ hv _ _ _ 384 l.val (by omega) (by omega) (by omega))
  pointwise [k0_pay13, k0_pay5, k0_pay6, k0_pay7]
theorem pay14_apply (l : Fin 128) : k0_pay14 (F := Ideal) (k0_pay5 C) (k0_pay6 A) (k0_pay7 B) (k0_pay8 x g w) (ix2 a l)
    = mix (rowDot x g w a) (C (ix2 a l)) (A (ix2 a l)) (B (ix2 a l)) 512 l.val := by
  have hv := pay8_apply x g w a
  refine Eq.trans ?_ (mix_of (rowDot x g w a) _ hv _ _ _ 512 l.val (by omega) (by omega) (by omega))
  pointwise [k0_pay14, k0_pay5, k0_pay6, k0_pay7]
theorem pay15_apply (l : Fin 128) : k0_pay15 (F := Ideal) (k0_pay5 C) (k0_pay6 A) (k0_pay7 B) (k0_pay8 x g w) (ix2 a l)
    = mix (rowDot x g w a) (C (ix2 a l)) (A (ix2 a l)) (B (ix2 a l)) 640 l.val := by
  have hv := pay8_apply x g w a
  refine Eq.trans ?_ (mix_of (rowDot x g w a) _ hv _ _ _ 640 l.val (by omega) (by omega) (by omega))
  pointwise [k0_pay15, k0_pay5, k0_pay6, k0_pay7]
theorem pay16_apply (l : Fin 128) : k0_pay16 (F := Ideal) (k0_pay5 C) (k0_pay6 A) (k0_pay7 B) (k0_pay8 x g w) (ix2 a l)
    = mix (rowDot x g w a) (C (ix2 a l)) (A (ix2 a l)) (B (ix2 a l)) 768 l.val := by
  have hv := pay8_apply x g w a
  refine Eq.trans ?_ (mix_of (rowDot x g w a) _ hv _ _ _ 768 l.val (by omega) (by omega) (by omega))
  pointwise [k0_pay16, k0_pay5, k0_pay6, k0_pay7]

/-- The last 128 lanes. -/
def lastChunk : FVec Ideal S512x128 .f32 :=
  addf (addf (mulf (k0_pay17 (k0_pay8 x g w)) (k0_pay5 C)) (mulf (dynamicRotate 1 120#32 none (k0_pay17 (k0_pay8 x g w)) rotates_S512x128_d1) (k0_pay6 A)))
    (mulf (dynamicRotate 1 8#32 none (k0_pay17 (k0_pay8 x g w)) rotates_S512x128_d1) (k0_pay7 B))

theorem lastChunk_apply (l : Fin 128) : lastChunk x g C A B w (ix2 a l)
    = mix (rowDot x g w a) (C (ix2 a l)) (A (ix2 a l)) (B (ix2 a l)) 896 l.val := by
  have hv := pay8_apply x g w a
  refine Eq.trans ?_ (mix_of (rowDot x g w a) _ hv _ _ _ 896 l.val (by omega) (by omega) (by omega))
  pointwise [lastChunk, k0_pay17, k0_pay5, k0_pay6, k0_pay7]

end Queries

/-- Eight chunks of 128 lanes side by side, each lane times 1/8. -/
def scaled (v0 v1 v2 v3 v4 v5 v6 v7 : FVec Ideal S512x128 .f32) : FVec Ideal S512x1024 .bf16 :=
  truncf .bf16 (mulf (concatenate S512x1024 1 [⟨S512x128, v0⟩, ⟨S512x128, v1⟩, ⟨S512x128, v2⟩, ⟨S512x128, v3⟩, ⟨S512x128, v4⟩, ⟨S512x128, v5⟩, ⟨S512x128, v6⟩, ⟨S512x128, v7⟩]
    concatenates_S512x128_S512x128_S512x128_S512x128_S512x128_S512x128_S512x128_S512x128_S512x1024_d1)
    (broadcast S512x1024 (Scalar.ofBits (F := Ideal) .f32 0x3E000000#32))) bitsLt_bf16_f32

theorem scaled_apply (v0 v1 v2 v3 v4 v5 v6 v7 : FVec Ideal S512x128 .f32) (a : Fin 512) (Y : ℕ → EReal)
    (h0 : ∀ l, v0 (ix2 a l) = Y (0 + l.val)) (h1 : ∀ l, v1 (ix2 a l) = Y (128 + l.val)) (h2 : ∀ l, v2 (ix2 a l) = Y (256 + l.val)) (h3 : ∀ l, v3 (ix2 a l) = Y (384 + l.val))
    (h4 : ∀ l, v4 (ix2 a l) = Y (512 + l.val)) (h5 : ∀ l, v5 (ix2 a l) = Y (640 + l.val)) (h6 : ∀ l, v6 (ix2 a l) = Y (768 + l.val)) (h7 : ∀ l, v7 (ix2 a l) = Y (896 + l.val))
    (b : Fin 1024) : (scaled v0 v1 v2 v3 v4 v5 v6 v7 (ix2 a b) : EReal) = Y b.val * Scalar.ofBits (F := Ideal) .f32 0x3E000000#32 := by
  have hb := b.isLt
  pointwise [scaled]
  simp only [h0, h1, h2, h3, h4, h5, h6, h7]
  refine congrArg (· * _) ?_
  split_ifs <;> exact congrArg Y (by omega)

/-- The tile's queries. -/
theorem queries_apply (x : Vec Ideal S512x1024 .f32) (g : Vec Ideal S1x1024 .f32) (C A B : Vec Ideal S512x128 .f32) (w : Vec Ideal S1024x1024 .bf16) (a : Fin 512) (b : Fin 1024) :
    (k0_pay18 (F := Ideal) (k0_pay5 C) (k0_pay6 A) (k0_pay7 B) (k0_pay9 x g C A B w) (k0_pay11 (k0_pay5 C) (k0_pay6 A) (k0_pay7 B) (k0_pay10 x g w))
        (k0_pay12 (k0_pay5 C) (k0_pay6 A) (k0_pay7 B) (k0_pay8 x g w)) (k0_pay13 (k0_pay5 C) (k0_pay6 A) (k0_pay7 B) (k0_pay8 x g w))
        (k0_pay14 (k0_pay5 C) (k0_pay6 A) (k0_pay7 B) (k0_pay8 x g w)) (k0_pay15 (k0_pay5 C) (k0_pay6 A) (k0_pay7 B) (k0_pay8 x g w))
        (k0_pay16 (k0_pay5 C) (k0_pay6 A) (k0_pay7 B) (k0_pay8 x g w)) (k0_pay17 (k0_pay8 x g w)) (ix2 a b) : EReal)
      = mix (rowDot x g w a) (C (ix2 a ⟨b.val % 128, by omega⟩)) (A (ix2 a ⟨b.val % 128, by omega⟩)) (B (ix2 a ⟨b.val % 128, by omega⟩)) (b.val / 128 * 128) (b.val % 128)
        * Scalar.ofBits (F := Ideal) .f32 0x3E000000#32 := by
  have hY : ∀ (o : ℕ) (l : Fin 128), o % 128 = 0 → mix (rowDot x g w a) (C (ix2 a l)) (A (ix2 a l)) (B (ix2 a l)) o l.val
      = (fun n : ℕ => mix (rowDot x g w a) (C (ix2 a ⟨n % 128, by omega⟩)) (A (ix2 a ⟨n % 128, by omega⟩)) (B (ix2 a ⟨n % 128, by omega⟩)) (n / 128 * 128) (n % 128)) (o + l.val) := by
    intro o l ho
    have hl := l.isLt
    have e : (⟨(o + l.val) % 128, by omega⟩ : Fin 128) = l := Fin.ext (by show (o + l.val) % 128 = l.val; omega)
    show _ = mix _ _ _ _ _ _
    rw [e, show (o + l.val) / 128 * 128 = o by omega, show (o + l.val) % 128 = l.val by omega]
  exact scaled_apply _ _ _ _ _ _ _ (lastChunk x g C A B w) a
    (fun n : ℕ => mix (rowDot x g w a) (C (ix2 a ⟨n % 128, by omega⟩)) (A (ix2 a ⟨n % 128, by omega⟩)) (B (ix2 a ⟨n % 128, by omega⟩)) (n / 128 * 128) (n % 128))
    (fun l => (pay9_apply x g C A B w a l).trans (hY 0 l (by omega)))
    (fun l => (pay11_apply x g C A B w a l).trans (hY 128 l (by omega)))
    (fun l => (pay12_apply x g C A B w a l).trans (hY 256 l (by omega)))
    (fun l => (pay13_apply x g C A B w a l).trans (hY 384 l (by omega)))
    (fun l => (pay14_apply x g C A B w a l).trans (hY 512 l (by omega)))
    (fun l => (pay15_apply x g C A B w a l).trans (hY 640 l (by omega)))
    (fun l => (pay16_apply x g C A B w a l).trans (hY 768 l (by omega)))
    (fun l => (lastChunk_apply x g C A B w a l).trans (hY 896 l (by omega))) b

/-- A load of some columns of a matrix, read at an entry. -/
theorem rowDot_cols {n n' : ℕ} (x : Vec Ideal S512x1024 .f32) (g : Vec Ideal S1x1024 .f32) (w : (⟨2, ![1024, n]⟩ : Shape).Idx → EReal)
    (w' : (⟨2, ![1024, n']⟩ : Shape).Idx → EReal) (o : ℕ) (ho : o + n' ≤ n) (h : ∀ (k : Fin 1024) (b : Fin n'), w' (ix2 k b) = w (ix2 k ⟨o + b.val, by omega⟩))
    (a : Fin 512) (b : ℕ) (hb : b < n') : rowDot x g w' a b = rowDot x g w a (o + b) := by
  unfold rowDot
  rw [col_of w' b hb, col_of w (o + b) (by omega)]
  exact congrArg _ (funext fun k => h k ⟨b, hb⟩)

theorem cols_q (w : Vec Ideal S1024x1152 .bf16) (k : Fin 1024) (b : Fin 1024) :
    (View.ld w r0_3 (ix2 k b) : EReal) = w (ix2 k ⟨0 + b.val, by have := b.isLt; omega⟩) := by
  refine congrArg w (funext fun a => Fin.ext ?_)
  fin_cases a
  · show 0 + 1 * k.val = k.val; omega
  · show 0 + 1 * b.val = 0 + b.val; omega
theorem cols_g (w : Vec Ideal S1024x1152 .bf16) (k : Fin 1024) (b : Fin 128) :
    (View.ld w r0_4 (ix2 k b) : EReal) = w (ix2 k ⟨1024 + b.val, by have := b.isLt; omega⟩) := by
  refine congrArg w (funext fun a => Fin.ext ?_)
  fin_cases a
  · show 0 + 1 * k.val = k.val; omega
  · show 1024 + 1 * b.val = 1024 + b.val; omega
theorem cols_k0 (w : Vec Ideal S1024x1536 .bf16) (k : Fin 1024) (b : Fin 128) :
    (View.ld w r0_5 (ix2 k b) : EReal) = w (ix2 k ⟨0 + b.val, by have := b.isLt; omega⟩) := by
  refine congrArg w (funext fun a => Fin.ext ?_)
  fin_cases a
  · show 0 + 1 * k.val = k.val; omega
  · show 0 + 1 * b.val = 0 + b.val; omega
theorem cols_k1 (w : Vec Ideal S1024x1536 .bf16) (k : Fin 1024) (b : Fin 128) :
    (View.ld w r0_6 (ix2 k b) : EReal) = w (ix2 k ⟨128 + b.val, by have := b.isLt; omega⟩) := by
  refine congrArg w (funext fun a => Fin.ext ?_)
  fin_cases a
  · show 0 + 1 * k.val = k.val; omega
  · show 128 + 1 * b.val = 128 + b.val; omega
theorem cols_v0 (w : Vec Ideal S1024x1536 .bf16) (k : Fin 1024) (b : Fin 128) :
    (View.ld w r0_7 (ix2 k b) : EReal) = w (ix2 k ⟨256 + b.val, by have := b.isLt; omega⟩) := by
  refine congrArg w (funext fun a => Fin.ext ?_)
  fin_cases a
  · show 0 + 1 * k.val = k.val; omega
  · show 256 + 1 * b.val = 256 + b.val; omega
theorem cols_v1 (w : Vec Ideal S1024x1536 .bf16) (k : Fin 1024) (b : Fin 128) :
    (View.ld w r0_8 (ix2 k b) : EReal) = w (ix2 k ⟨384 + b.val, by have := b.isLt; omega⟩) := by
  refine congrArg w (funext fun a => Fin.ext ?_)
  fin_cases a
  · show 0 + 1 * k.val = k.val; omega
  · show 384 + 1 * b.val = 384 + b.val; omega
theorem cols_ks (w : Vec Ideal S1024x1536 .bf16) (k : Fin 1024) (b : Fin 256) :
    (View.ld w r0_9 (ix2 k b) : EReal) = w (ix2 k ⟨512 + b.val, by have := b.isLt; omega⟩) := by
  refine congrArg w (funext fun a => Fin.ext ?_)
  fin_cases a
  · show 0 + 1 * k.val = k.val; omega
  · show 512 + 1 * b.val = 512 + b.val; omega
theorem cols_vs (w : Vec Ideal S1024x1536 .bf16) (k : Fin 1024) (b : Fin 256) :
    (View.ld w r0_14 (ix2 k b) : EReal) = w (ix2 k ⟨768 + b.val, by have := b.isLt; omega⟩) := by
  refine congrArg w (funext fun a => Fin.ext ?_)
  fin_cases a
  · show 0 + 1 * k.val = k.val; omega
  · show 768 + 1 * b.val = 768 + b.val; omega
theorem cols_kw (w : Vec Ideal S1024x1536 .bf16) (k : Fin 1024) (b : Fin 256) :
    (View.ld w r0_15 (ix2 k b) : EReal) = w (ix2 k ⟨1024 + b.val, by have := b.isLt; omega⟩) := by
  refine congrArg w (funext fun a => Fin.ext ?_)
  fin_cases a
  · show 0 + 1 * k.val = k.val; omega
  · show 1024 + 1 * b.val = 1024 + b.val; omega
theorem cols_vw (w : Vec Ideal S1024x1536 .bf16) (k : Fin 1024) (b : Fin 256) :
    (View.ld w r0_16 (ix2 k b) : EReal) = w (ix2 k ⟨1280 + b.val, by have := b.isLt; omega⟩) := by
  refine congrArg w (funext fun a => Fin.ext ?_)
  fin_cases a
  · show 0 + 1 * k.val = k.val; omega
  · show 1280 + 1 * b.val = 1280 + b.val; omega

theorem zeros2 : (![0, 0] : Fin 2 → ℕ) = fun _ => 0 := by
  funext a
  fin_cases a <;> rfl

section Stores
variable (x0 : Vec Ideal S512x1024 .f32) (x1 x2 : Vec Ideal S1x1024 .f32) (x3 : Vec Ideal S1024x1152 .bf16) (x4 : Vec Ideal S1024x1536 .bf16) (x5 x6 x7 : Vec Ideal S512x128 .f32)

/-- What a point stores in each result's block, entry by entry, of the blocks it reads. -/
theorem out_8 (a : Fin 512) (b : Fin 1024) : (out0_8 x0 x1 x2 x3 x4 x5 x6 x7 (ix2 a b) : EReal)
    = mix (rowDot x0 x1 x3 a) (x5 (ix2 a ⟨b.val % 128, by omega⟩)) (x6 (ix2 a ⟨b.val % 128, by omega⟩)) (x7 (ix2 a ⟨b.val % 128, by omega⟩)) (0 + b.val / 128 * 128) (b.val % 128)
      * Scalar.ofBits (F := Ideal) .f32 0x3E000000#32 := by
  have hb := b.isLt
  unfold out0_8 k0_pay50 k0_pay49 k0_pay48 k0_pay47
  rw [View.canon_cons_unit_zero zeros2, View.ld_unit_zero zeros2, View.ld_unit_zero zeros2, View.ld_unit_zero zeros2, View.ld_unit_zero zeros2, View.ld_unit_zero zeros2]
  exact (queries_apply _ _ _ _ _ _ a b).trans (congrArg (· * _) (mix_shift _ _ 0 1024 (rowDot_cols _ _ _ _ 0 (by omega) (cols_q x3) a) _ _ _ _ _ (by omega) (by omega)))
theorem out_9 (a : Fin 512) (b : Fin 128) : (out0_9 x0 x1 x2 x3 x4 x5 x6 x7 (ix2 a b) : EReal) = logistic (rowDot x0 x1 x3 a (1024 + b.val)) := by
  unfold out0_9
  rw [View.canon_cons_unit_zero zeros2, View.ld_unit_zero zeros2, View.ld_unit_zero zeros2, pay19_apply]
  exact congrArg logistic (rowDot_cols _ _ _ _ 1024 (by omega) (cols_g x3) a b.val b.isLt)
theorem out_10 (a : Fin 512) (b : Fin 128) : (out0_10 x0 x1 x2 x3 x4 x5 x6 x7 (ix2 a b) : EReal) = rowDot x0 x2 x4 a (0 + b.val) := by
  unfold out0_10 k0_pay46
  rw [View.canon_cons_unit_zero zeros2, View.ld_unit_zero zeros2, View.ld_unit_zero zeros2]
  exact (pay20_apply _ _ _ a b).trans (rowDot_cols _ _ _ _ 0 (by omega) (cols_k0 x4) a b.val b.isLt)
theorem out_11 (a : Fin 512) (b : Fin 128) : (out0_11 x0 x1 x2 x3 x4 x5 x6 x7 (ix2 a b) : EReal) = rowDot x0 x2 x4 a (128 + b.val) := by
  unfold out0_11 k0_pay46
  rw [View.canon_cons_unit_zero zeros2, View.ld_unit_zero zeros2, View.ld_unit_zero zeros2]
  exact (pay20_apply _ _ _ a b).trans (rowDot_cols _ _ _ _ 128 (by omega) (cols_k1 x4) a b.val b.isLt)
theorem out_12 (a : Fin 512) (b : Fin 128) : (out0_12 x0 x1 x2 x3 x4 x5 x6 x7 (ix2 a b) : EReal) = rowDot x0 x2 x4 a (256 + b.val) := by
  unfold out0_12 k0_pay46
  rw [View.canon_cons_unit_zero zeros2, View.ld_unit_zero zeros2, View.ld_unit_zero zeros2]
  exact (pay20_apply _ _ _ a b).trans (rowDot_cols _ _ _ _ 256 (by omega) (cols_v0 x4) a b.val b.isLt)
theorem out_13 (a : Fin 512) (b : Fin 128) : (out0_13 x0 x1 x2 x3 x4 x5 x6 x7 (ix2 a b) : EReal) = rowDot x0 x2 x4 a (384 + b.val) := by
  unfold out0_13 k0_pay46
  rw [View.canon_cons_unit_zero zeros2, View.ld_unit_zero zeros2, View.ld_unit_zero zeros2]
  exact (pay20_apply _ _ _ a b).trans (rowDot_cols _ _ _ _ 384 (by omega) (cols_v1 x4) a b.val b.isLt)
theorem out_14 (j : Fin 4) (a : Fin 512) (d : Fin 64) : (out0_14 x0 x1 x2 x3 x4 x5 x6 x7 (ix4 0 j a d) : EReal)
    = mix (rowDot x0 x2 x4 a) (x5 (ix2 a ⟨(j.val * 64 + d.val) % 128, by omega⟩)) (x6 (ix2 a ⟨(j.val * 64 + d.val) % 128, by omega⟩)) (x7 (ix2 a ⟨(j.val * 64 + d.val) % 128, by omega⟩))
        (512 + (j.val * 64 + d.val) / 128 * 128) ((j.val * 64 + d.val) % 128) := by
  have hj := j.isLt
  have hd := d.isLt
  unfold out0_14 k0_pay51 k0_pay46 k0_pay47 k0_pay48 k0_pay49
  rw [View.ld_unit_zero zeros2, View.ld_unit_zero zeros2, View.ld_unit_zero zeros2, View.ld_unit_zero zeros2, View.ld_unit_zero zeros2]
  refine (Cert.AttendIdeal.Value.canon14_eq _ _ _ _ _ _ _).trans ?_
  refine Eq.trans (b := (k0_pay24 (F := Ideal) (k0_pay4 x0 x2) (k0_pay5 x5) (k0_pay6 x6) (k0_pay7 x7) (View.ld x4 r0_9) (ix2 a ⟨j.val * 64 + d.val, by omega⟩) : EReal)) ?_ ?_
  · refine congrArg (k0_pay24 (F := Ideal) (k0_pay4 x0 x2) (k0_pay5 x5) (k0_pay6 x6) (k0_pay7 x7) (View.ld x4 r0_9)) ?_
    funext i
    fin_cases i <;> rfl
  · exact (pay24_apply _ _ _ _ _ _ a _).trans (mix_shift _ _ 512 256 (rowDot_cols _ _ _ _ 512 (by omega) (cols_ks x4) a) _ _ _ _ _ (by omega) (by dsimp only; omega))
theorem out_16 (j : Fin 4) (a : Fin 512) (d : Fin 64) : (out0_16 x0 x1 x2 x3 x4 x5 x6 x7 (ix4 0 j a d) : EReal)
    = mix (rowDot x0 x2 x4 a) (x5 (ix2 a ⟨(j.val * 64 + d.val) % 128, by omega⟩)) (x6 (ix2 a ⟨(j.val * 64 + d.val) % 128, by omega⟩)) (x7 (ix2 a ⟨(j.val * 64 + d.val) % 128, by omega⟩))
        (1024 + (j.val * 64 + d.val) / 128 * 128) ((j.val * 64 + d.val) % 128) := by
  have hj := j.isLt
  have hd := d.isLt
  unfold out0_16 k0_pay46 k0_pay47 k0_pay48 k0_pay49
  rw [View.ld_unit_zero zeros2, View.ld_unit_zero zeros2, View.ld_unit_zero zeros2, View.ld_unit_zero zeros2, View.ld_unit_zero zeros2]
  refine (Cert.AttendIdeal.Value.canon16_eq _ _ _ _ _ _ _).trans ?_
  refine Eq.trans (b := (k0_pay24 (F := Ideal) (k0_pay4 x0 x2) (k0_pay5 x5) (k0_pay6 x6) (k0_pay7 x7) (View.ld x4 r0_15) (ix2 a ⟨j.val * 64 + d.val, by omega⟩) : EReal)) ?_ ?_
  · refine congrArg (k0_pay24 (F := Ideal) (k0_pay4 x0 x2) (k0_pay5 x5) (k0_pay6 x6) (k0_pay7 x7) (View.ld x4 r0_15)) ?_
    funext i
    fin_cases i <;> rfl
  · exact (pay24_apply _ _ _ _ _ _ a _).trans (mix_shift _ _ 1024 256 (rowDot_cols _ _ _ _ 1024 (by omega) (cols_kw x4) a) _ _ _ _ _ (by omega) (by dsimp only; omega))
theorem out_15 (j : Fin 4) (a : Fin 512) (d : Fin 64) : (out0_15 x0 x1 x2 x3 x4 x5 x6 x7 (ix4 0 j a d) : EReal)
    = rowDot x0 x2 x4 a (768 + (j.val * 64 + d.val)) := by
  have hj := j.isLt
  have hd := d.isLt
  unfold out0_15 k0_pay46
  rw [View.ld_unit_zero zeros2, View.ld_unit_zero zeros2]
  refine (Cert.AttendIdeal.Value.canon15_eq _ _ _ _).trans ?_
  refine Eq.trans (b := (k0_pay30 (F := Ideal) (k0_pay4 x0 x2) (View.ld x4 r0_14) (ix2 a ⟨j.val * 64 + d.val, by omega⟩) : EReal)) ?_ ?_
  · refine congrArg (k0_pay30 (F := Ideal) (k0_pay4 x0 x2) (View.ld x4 r0_14)) ?_
    funext i
    fin_cases i <;> rfl
  · exact (pay30_apply _ _ _ a _).trans (rowDot_cols _ _ _ _ 768 (by omega) (cols_vs x4) a _ (by omega))
theorem out_17 (j : Fin 4) (a : Fin 512) (d : Fin 64) : (out0_17 x0 x1 x2 x3 x4 x5 x6 x7 (ix4 0 j a d) : EReal)
    = rowDot x0 x2 x4 a (1280 + (j.val * 64 + d.val)) := by
  have hj := j.isLt
  have hd := d.isLt
  unfold out0_17 k0_pay46
  rw [View.ld_unit_zero zeros2, View.ld_unit_zero zeros2]
  refine (Cert.AttendIdeal.Value.canon17_eq _ _ _ _).trans ?_
  refine Eq.trans (b := (k0_pay30 (F := Ideal) (k0_pay4 x0 x2) (View.ld x4 r0_16) (ix2 a ⟨j.val * 64 + d.val, by omega⟩) : EReal)) ?_ ?_
  · refine congrArg (k0_pay30 (F := Ideal) (k0_pay4 x0 x2) (View.ld x4 r0_16)) ?_
    funext i
    fin_cases i <;> rfl
  · exact (pay30_apply _ _ _ a _).trans (rowDot_cols _ _ _ _ 1280 (by omega) (cols_vw x4) a _ (by omega))

end Stores

end Cert.Attention

end
-- ==== Proof.AttendHost.lean ====
/- What the attention projection's host code hands its call: the gains as rows, the query weights padded to 1152 columns, and
   the three rotation tables of 128 lanes. -/
module

public import proofs.«01_k».proof.Proof.AttendRows
public import proofs.«01_k».proof.Proof.Gen.AttendIdeal.Frame
public import Idealize.ShloMosaic.Lib.Pointwise
public import Idealize.ShloMosaic.Lib.Routing.OpsSet
public import Idealize.ShloMosaic.Lib.Routing.OpsPair
public import Idealize.ShloMosaic.Lib.StableHlo.Run

@[expose] public section

set_option maxRecDepth 16384

noncomputable section

namespace Cert.Attention

open Cert.AttendIdeal Cert.AttendIdeal.Gen
open Idealize.ShloMosaic Idealize.ShloMosaic.TcCoe Idealize.ShloMosaic.StableHlo Idealize.SL Idealize.SL.Sem

local notation "𝔚" => scatter_S1024x1152_S1_S1024x1072_01_n_1_0

variable {F : FTy → Type} [FloatOps F]

/-- The arguments without their leading axis of one. -/
def gains (g : FVec F S1x1024 .f32) : FVec F S1024 .f32 := shapeCast S1024 g shapeCasts_S1x1024_S1024
def weights (w : FVec F S1x1024x1072 .f32) : FVec F S1024x1072 .f32 := shapeCast S1024x1072 w shapeCasts_S1x1024x1072_S1024x1072

/-- The angle of position `p` and frequency `e`, its cosine and its sine. -/
def angles : FVec F S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (mulf (Host.negf (sitofp .f32 (iotaInDim S8 32 0))) (broadcastInDim S8 ![] bcast_S_S8 (constant S_ .f32 0x3E000000#32))))))
def cosT : FVec F S2048x8 .f32 := Host.cos angles
def sinT : FVec F S2048x8 .f32 := Host.sin angles

/-- What the windows are over. -/
def gainRow (g : FVec F S1024 .f32) : FVec F S1x1024 .f32 := shapeCast S1x1024 g shapeCasts_S1024_S1x1024
def narrow (w : FVec F S1024x1536 .f32) : FVec F S1024x1536 .bf16 := truncf .bf16 w bitsLt_bf16_f32
def zero1 : IVec S1 32 := broadcastInDim S1 ![] bcast_S_S1 (constantI S_ 32 0#32)
def padded (w : FVec F S1024x1072 .f32) : FVec F S1024x1152 .f32 :=
  Host.scatter 𝔚 (fun _ b => b) (broadcastInDim S1024x1152 ![] bcast_S_S1024x1152 (constant S_ .f32 0x00000000#32)) zero1 w
def wide (w : FVec F S1024x1072 .f32) : FVec F S1024x1152 .bf16 := truncf .bf16 (padded w) bitsLt_bf16_f32
def twice (t : FVec F S2048x64 .f32) : FVec F S2048x128 .f32 :=
  shapeCast S2048x128 (broadcastInDim S1x2048x2x64 ![0, 1, 2, 3] bcast_S1x2048x1x64_S1x2048x2x64_0_1_2_3
    (shapeCast S1x2048x1x64 t shapeCasts_S2048x64_S1x2048x1x64)) shapeCasts_S1x2048x2x64_S2048x128
def headC (c : FVec F S2048x8 .f32) : FVec F S2048x64 .f32 :=
  concatenate S2048x64 1 [⟨S2048x8, c⟩, ⟨S2048x8, c⟩, ⟨S2048x48, broadcastInDim S2048x48 ![] bcast_S_S2048x48 (constant S_ .f32 0x3F800000#32)⟩]
    concatenates_S2048x8_S2048x8_S2048x48_S2048x64_d1
def headA (s : FVec F S2048x8 .f32) : FVec F S2048x64 .f32 :=
  concatenate S2048x64 1 [⟨S2048x8, Host.negf s⟩, ⟨S2048x56, broadcastInDim S2048x56 ![] bcast_S_S2048x56 (constant S_ .f32 0x00000000#32)⟩]
    concatenates_S2048x8_S2048x56_S2048x64_d1
def headB (s : FVec F S2048x8 .f32) : FVec F S2048x64 .f32 :=
  concatenate S2048x64 1 [⟨S2048x8, broadcastInDim S2048x8 ![] bcast_S_S2048x8 (constant S_ .f32 0x00000000#32)⟩, ⟨S2048x8, s⟩,
    ⟨S2048x48, broadcastInDim S2048x48 ![] bcast_S_S2048x48 (constant S_ .f32 0x00000000#32)⟩]
    concatenates_S2048x8_S2048x8_S2048x48_S2048x64_d1

variable (m : (ℓ : Loc nD τ sig) → Buf (Elt F) ℓ)

theorem V_tokens (c : Dev nD) : V m c main_arg0 = m ((c : Thread nD τ).loc main_arg0) := by rfl
theorem V_gain (c : Dev nD) : V m c main_v38 = gainRow (gains (m ((c : Thread nD τ).loc main_arg1))) := by rfl
theorem V_kvGain (c : Dev nD) : V m c main_v39 = gainRow (m ((c : Thread nD τ).loc main_arg2)) := by rfl
theorem V_kv (c : Dev nD) : V m c main_v40 = narrow (m ((c : Thread nD τ).loc main_arg4)) := by rfl
theorem V_wide (c : Dev nD) : V m c main_v4 = wide (weights (m ((c : Thread nD τ).loc main_arg3))) := by
  unfold V hostOps0
  after_results
  rfl
theorem V_tabC (c : Dev nD) : V m c main_v30 = twice (headC cosT) := by rfl
theorem V_tabA (c : Dev nD) : V m c main_v33 = twice (headA sinT) := by rfl
theorem V_tabB (c : Dev nD) : V m c main_v36 = twice (headB sinT) := by rfl

theorem zero1_at (i : S1.Idx) : zero1 i = 0#32 := rfl

/-- Update entry `(k, j)` lands at row `k`, column `j`. -/
theorem lands (u : S1024x1072.Idx) (y : S1024x1152.Idx) :
    (𝔚).resultIdx? u zero1 = some y ↔ (u 0).val = (y 0).val ∧ (u 1).val = (y 1).val := by
  have s0 : (𝔚).start u zero1 0 = 0 := by
    unfold ScatterDims.start
    rw [dif_neg (show ¬ (0 : Fin 2) ∈ (𝔚).scatterDimsToOperandDims from by decide)]
  have s1 : (𝔚).start u zero1 1 = 0 := by
    unfold ScatterDims.start
    rw [dif_pos (show (1 : Fin 2) ∈ (𝔚).scatterDimsToOperandDims from List.mem_singleton.mpr rfl), zero1_at]
    rfl
  have w0 : (𝔚).window u 0 = (u 0).val := by
    unfold ScatterDims.window
    rw [dif_pos (show (0 : Fin 2) ∈ (𝔚).sKept from by decide)]
    rfl
  have w1 : (𝔚).window u 1 = (u 1).val := by
    unfold ScatterDims.window
    rw [dif_pos (show (1 : Fin 2) ∈ (𝔚).sKept from by decide)]
    rfl
  rw [Routing.resultIdx?_eq_some]
  constructor
  · intro h
    have h0 := h 0
    have h1 := h 1
    rw [s0, w0] at h0
    rw [s1, w1] at h1
    omega
  · rintro ⟨h0, h1⟩ a
    match a with
    | ⟨0, _⟩ => exact (congrArg₂ (fun (p : ℤ) (q : ℕ) => p + (q : ℤ)) s0 w0).trans (show _ = ((y 0).val : ℤ) by omega)
    | ⟨1, _⟩ => exact (congrArg₂ (fun (p : ℤ) (q : ℕ) => p + (q : ℤ)) s1 w1).trans (show _ = ((y 1).val : ℤ) by omega)

theorem wide_eq (w : FVec Ideal S1024x1072 .f32) (j : S1024x1152.Idx) : (wide w j : EReal) = padded w j := by
  unfold wide
  generalize padded w = q
  rfl

/-- The padded weights' columns: the weights' 1072, then zeros. -/
theorem wide_apply (w : FVec Ideal S1024x1072 .f32) (k : Fin 1024) (b : Fin 1152) : (wide w (ix2 k b) : EReal) = col w b.val k := by
  refine (wide_eq w (ix2 k b)).trans ?_
  unfold padded
  by_cases h : b.val < 1072
  · rw [col_of w b.val h]
    refine Routing.scatter_set_hit _ _ _ _ _ _ (fun u hu => ?_) (ix2 k ⟨b.val, h⟩) ((lands _ _).2 ⟨rfl, rfl⟩)
    obtain ⟨h0, h1⟩ := (lands _ _).1 hu
    refine congrArg w ?_
    funext a
    refine Fin.ext ?_
    match a with
    | ⟨0, _⟩ => exact h0
    | ⟨1, _⟩ => exact h1
  · unfold col
    rw [dif_neg h]
    refine (Routing.scatter_set_miss _ _ _ _ _ (fun u hu => h ?_)).trans ?_
    · have h1 := ((lands _ _).1 hu).2
      have h2 : (u 1).val < 1072 := (u 1).isLt
      exact h1 ▸ h2
    · pointwise []

theorem gainRow_apply (g : FVec F S1024 .f32) (k : Fin 1024) : gainRow g (ix2 0 k) = g (ix1 k) := by
  pointwise [gainRow]

/-- A table's lane is the head's lane. -/
theorem twice_apply (t : FVec Ideal S2048x64 .f32) (p : Fin 2048) (l : Fin 128) : twice t (ix2 p l) = t (ix2 p ⟨l.val % 64, by omega⟩) := by
  pointwise [twice]

theorem headC_apply (c : FVec Ideal S2048x8 .f32) (p : Fin 2048) (l : Fin 64) : (headC c (ix2 p l) : EReal) = tabC (fun e => c (ix2 p e)) l.val := by
  have hl := l.isLt
  pointwise [headC, tabC]
  simp only [Nat.mod_eq_of_lt hl]
  by_cases h : l.val < 8
  · rw [dif_pos h, dif_pos h]
  · rw [dif_neg h, dif_neg h]
    by_cases h' : l.val < 16
    · rw [dif_pos (show l.val - 8 < 8 by omega), dif_pos h']
    · rw [dif_neg (show ¬ l.val - 8 < 8 by omega), dif_neg h']
theorem headA_apply (s : FVec Ideal S2048x8 .f32) (p : Fin 2048) (l : Fin 64) : (headA s (ix2 p l) : EReal) = tabA (fun e => s (ix2 p e)) l.val := by
  have hl := l.isLt
  pointwise [headA, tabA]
  simp only [Nat.mod_eq_of_lt hl]
theorem headB_apply (s : FVec Ideal S2048x8 .f32) (p : Fin 2048) (l : Fin 64) : (headB s (ix2 p l) : EReal) = tabB (fun e => s (ix2 p e)) l.val := by
  have hl := l.isLt
  pointwise [headB, tabB]
  simp only [Nat.mod_eq_of_lt hl]
  by_cases h : l.val < 8
  · rw [dif_pos h, dif_pos h]
  · rw [dif_neg h, dif_neg h]
    by_cases h' : l.val < 16
    · rw [dif_pos (show l.val - 8 < 8 by omega), dif_pos h']
    · rw [dif_neg (show ¬ l.val - 8 < 8 by omega), dif_neg h']

end Cert.Attention

end
-- ==== Proof.AttendResults.lean ====
/- The attention projection's ten results as functions of its five arguments. -/
module

public import proofs.«01_k».proof.Proof.AttendHost

@[expose] public section

set_option maxRecDepth 16384

noncomputable section

namespace Cert.Attention

open Cert.AttendIdeal Cert.AttendIdeal.Gen
open Idealize.ShloMosaic
open Cert.Projection (against logistic)

/-- Token `r`'s normalised row against column `b` of `w`; past the last column the column is 0. -/
def rowAt {n : ℕ} (X : FVec Ideal S65536x1024 .f32) (g : FVec Ideal S1024 .f32) (w : (⟨2, ![1024, n]⟩ : Shape).Idx → EReal) (r : Fin 65536) (b : ℕ) : EReal :=
  against (fun k => X (ix2 r k)) (fun k => g (ix1 k)) (col w b)

/-- A token's position in its sequence, and the token at a position of a sequence. -/
def position (r : Fin 65536) : Fin 2048 := ⟨r.val % 2048, by omega⟩
def tokenAt (s : Fin 32) (p : Fin 2048) : Fin 65536 := ⟨2048 * s.val + p.val, by have := s.isLt; have := p.isLt; omega⟩

/-- The cosines and sines of a position. -/
def cosAt (p : Fin 2048) (e : Fin 8) : EReal := cosT (F := Ideal) (ix2 p e)
def sinAt (p : Fin 2048) (e : Fin 8) : EReal := sinT (F := Ideal) (ix2 p e)

/-- The rotated and scaled queries, and the branch gates. -/
def queries (X : FVec Ideal S65536x1024 .f32) (g : FVec Ideal S1024 .f32) (W : FVec Ideal S1024x1072 .f32) : Vec Ideal S65536x1024 .bf16 :=
  fun j => (rot (rowAt X g W (j 0)) (cosAt (position (j 0))) (sinAt (position (j 0))) (j 1).val * Scalar.ofBits (F := Ideal) .f32 0x3E000000#32 : EReal)
def gates (X : FVec Ideal S65536x1024 .f32) (g : FVec Ideal S1024 .f32) (W : FVec Ideal S1024x1072 .f32) : Vec Ideal S65536x128 .f32 :=
  fun j => logistic (rowAt X g W (j 0) (1024 + (j 1).val))

/-- The plain keys and values: 128 columns from `o`. -/
def plain (o : ℕ) (X : FVec Ideal S65536x1024 .f32) (g : FVec Ideal S1024 .f32) (W : FVec Ideal S1024x1536 .f32) : Vec Ideal S65536x128 .f32 :=
  fun j => rowAt X g W (j 0) (o + (j 1).val)

/-- The keys and the values of four heads, by sequence and head: 256 columns from `o`; the keys are rotated. -/
def headKeys (o : ℕ) (X : FVec Ideal S65536x1024 .f32) (g : FVec Ideal S1024 .f32) (W : FVec Ideal S1024x1536 .f32) : Vec Ideal S32x4x2048x64 .bf16 :=
  fun j => rot (rowAt X g W (tokenAt (j 0) (j 2))) (cosAt (j 2)) (sinAt (j 2)) (o + ((j 1).val * 64 + (j 3).val))
def headValues (o : ℕ) (X : FVec Ideal S65536x1024 .f32) (g : FVec Ideal S1024 .f32) (W : FVec Ideal S1024x1536 .f32) : Vec Ideal S32x4x2048x64 .bf16 :=
  fun j => rowAt X g W (tokenAt (j 0) (j 2)) (o + ((j 1).val * 64 + (j 3).val))

/-- An index of two, or of four, axes is made of its coordinates. -/
theorem pair {n k : ℕ} (j : (⟨2, ![n, k]⟩ : Shape).Idx) : (ix2 (j 0) (j 1) : (⟨2, ![n, k]⟩ : Shape).Idx) = j := by
  funext a
  fin_cases a <;> rfl
theorem four {n0 n1 n2 n3 : ℕ} (j : (⟨4, ![n0, n1, n2, n3]⟩ : Shape).Idx) : (ix4 (j 0) (j 1) (j 2) (j 3) : (⟨4, ![n0, n1, n2, n3]⟩ : Shape).Idx) = j := by
  funext a
  fin_cases a <;> rfl

end Cert.Attention

end
-- ==== Proof.AttendValue.lean ====
/- The attention projection call's ten results as functions of its five arguments: tile by tile, what the grid's points
   store. -/
module

public import proofs.«01_k».proof.Proof.AttendTile
public import proofs.«01_k».proof.Proof.AttendResults
public import Idealize.ShloMosaic.Lib.Pipeline.ValueKit.Geometry

@[expose] public section

set_option maxRecDepth 16384

noncomputable section

namespace Cert.Attention

open Cert.AttendIdeal Cert.AttendIdeal.Gen
open Idealize.ShloMosaic Idealize.ShloMosaic.TcCoe Idealize.SL Idealize.SL.Sem
open Idealize.ShloMosaic.Pipeline (Dat Cfg Window)
open Cert.Projection (against logistic)

/-- Row `a` of tile `t` is token `512 · t + a`: position `512 · (t mod 4) + a` of sequence `t / 4`. -/
def tok (t : Fin grid0.N) (a : Fin 512) : Fin 65536 := ⟨512 * t.val + a.val, by have h : t.val < 128 := N_0 ▸ t.isLt; have := a.isLt; omega⟩
def sequence (t : Fin grid0.N) : Fin 32 := ⟨t.val / 4, by have h : t.val < 128 := N_0 ▸ t.isLt; omega⟩
def place (t : Fin grid0.N) (a : Fin 512) : Fin 2048 := ⟨t.val % 4 * 512 + a.val, by have := a.isLt; omega⟩
theorem tokenAt_place (t : Fin grid0.N) (a : Fin 512) : tokenAt (sequence t) (place t a) = tok t a :=
  Fin.ext (by show 2048 * (t.val / 4) + (t.val % 4 * 512 + a.val) = 512 * t.val + a.val; omega)
theorem position_tok (t : Fin grid0.N) (a : Fin 512) : position (tok t a) = place t a :=
  Fin.ext (by have := a.isLt; show (512 * t.val + a.val) % 2048 = t.val % 4 * 512 + a.val; omega)

/-- Where each window's block lies in its array. -/
theorem index_0 : ∀ t : Fin grid0.N, cc0_transform_0 (grid0.coords t) 0 = t.val := by decide +kernel
theorem place_0 (t : Fin grid0.N) (y : S512x1024.Idx) : ((cfg0.win 0).blk t).view.emb y = (ix2 (tok t (y 0)) (y 1) : S65536x1024.Idx) := by
  funext b
  apply Fin.ext
  fin_cases b
  · show cc0_transform_0 (grid0.coords t) 0 * 512 + 1 * (y 0).val = 512 * t.val + (y 0).val
    rw [index_0, Nat.one_mul, Nat.mul_comm]
  · show 0 * 1024 + 1 * (y 1).val = (y 1).val
    omega
theorem index_8 : ∀ t : Fin grid0.N, cc0_transform_8 (grid0.coords t) 0 = t.val := by decide +kernel
theorem place_8 (t : Fin grid0.N) (y : S512x1024.Idx) : ((cfg0.win 8).blk t).view.emb y = (ix2 (tok t (y 0)) (y 1) : S65536x1024.Idx) := by
  funext b
  apply Fin.ext
  fin_cases b
  · show cc0_transform_8 (grid0.coords t) 0 * 512 + 1 * (y 0).val = 512 * t.val + (y 0).val
    rw [index_8, Nat.one_mul, Nat.mul_comm]
  · show 0 * 1024 + 1 * (y 1).val = (y 1).val
    omega
theorem index_9 : ∀ t : Fin grid0.N, cc0_transform_9 (grid0.coords t) 0 = t.val := by decide +kernel
theorem place_9 (t : Fin grid0.N) (y : S512x128.Idx) : ((cfg0.win 9).blk t).view.emb y = (ix2 (tok t (y 0)) (y 1) : S65536x128.Idx) := by
  funext b
  apply Fin.ext
  fin_cases b
  · show cc0_transform_9 (grid0.coords t) 0 * 512 + 1 * (y 0).val = 512 * t.val + (y 0).val
    rw [index_9, Nat.one_mul, Nat.mul_comm]
  · show 0 * 128 + 1 * (y 1).val = (y 1).val
    omega
theorem index_10 : ∀ t : Fin grid0.N, cc0_transform_10 (grid0.coords t) 0 = t.val := by decide +kernel
theorem place_10 (t : Fin grid0.N) (y : S512x128.Idx) : ((cfg0.win 10).blk t).view.emb y = (ix2 (tok t (y 0)) (y 1) : S65536x128.Idx) := by
  funext b
  apply Fin.ext
  fin_cases b
  · show cc0_transform_10 (grid0.coords t) 0 * 512 + 1 * (y 0).val = 512 * t.val + (y 0).val
    rw [index_10, Nat.one_mul, Nat.mul_comm]
  · show 0 * 128 + 1 * (y 1).val = (y 1).val
    omega
theorem index_11 : ∀ t : Fin grid0.N, cc0_transform_11 (grid0.coords t) 0 = t.val := by decide +kernel
theorem place_11 (t : Fin grid0.N) (y : S512x128.Idx) : ((cfg0.win 11).blk t).view.emb y = (ix2 (tok t (y 0)) (y 1) : S65536x128.Idx) := by
  funext b
  apply Fin.ext
  fin_cases b
  · show cc0_transform_11 (grid0.coords t) 0 * 512 + 1 * (y 0).val = 512 * t.val + (y 0).val
    rw [index_11, Nat.one_mul, Nat.mul_comm]
  · show 0 * 128 + 1 * (y 1).val = (y 1).val
    omega
theorem index_12 : ∀ t : Fin grid0.N, cc0_transform_12 (grid0.coords t) 0 = t.val := by decide +kernel
theorem place_12 (t : Fin grid0.N) (y : S512x128.Idx) : ((cfg0.win 12).blk t).view.emb y = (ix2 (tok t (y 0)) (y 1) : S65536x128.Idx) := by
  funext b
  apply Fin.ext
  fin_cases b
  · show cc0_transform_12 (grid0.coords t) 0 * 512 + 1 * (y 0).val = 512 * t.val + (y 0).val
    rw [index_12, Nat.one_mul, Nat.mul_comm]
  · show 0 * 128 + 1 * (y 1).val = (y 1).val
    omega
theorem index_13 : ∀ t : Fin grid0.N, cc0_transform_13 (grid0.coords t) 0 = t.val := by decide +kernel
theorem place_13 (t : Fin grid0.N) (y : S512x128.Idx) : ((cfg0.win 13).blk t).view.emb y = (ix2 (tok t (y 0)) (y 1) : S65536x128.Idx) := by
  funext b
  apply Fin.ext
  fin_cases b
  · show cc0_transform_13 (grid0.coords t) 0 * 512 + 1 * (y 0).val = 512 * t.val + (y 0).val
    rw [index_13, Nat.one_mul, Nat.mul_comm]
  · show 0 * 128 + 1 * (y 1).val = (y 1).val
    omega
theorem place_1 (t : Fin grid0.N) (y : S1x1024.Idx) : ((cfg0.win 1).blk t).view.emb y = y := by
  funext b
  apply Fin.ext
  fin_cases b
  · show 0 * 1 + 1 * (y 0).val = (y 0).val
    omega
  · show 0 * 1024 + 1 * (y 1).val = (y 1).val
    omega
theorem place_2 (t : Fin grid0.N) (y : S1x1024.Idx) : ((cfg0.win 2).blk t).view.emb y = y := by
  funext b
  apply Fin.ext
  fin_cases b
  · show 0 * 1 + 1 * (y 0).val = (y 0).val
    omega
  · show 0 * 1024 + 1 * (y 1).val = (y 1).val
    omega
theorem place_3 (t : Fin grid0.N) (y : S1024x1152.Idx) : ((cfg0.win 3).blk t).view.emb y = y := by
  funext b
  apply Fin.ext
  fin_cases b
  · show 0 * 1024 + 1 * (y 0).val = (y 0).val
    omega
  · show 0 * 1152 + 1 * (y 1).val = (y 1).val
    omega
theorem place_4 (t : Fin grid0.N) (y : S1024x1536.Idx) : ((cfg0.win 4).blk t).view.emb y = y := by
  funext b
  apply Fin.ext
  fin_cases b
  · show 0 * 1024 + 1 * (y 0).val = (y 0).val
    omega
  · show 0 * 1536 + 1 * (y 1).val = (y 1).val
    omega
theorem index_5 : ∀ t : Fin grid0.N, cc0_transform_5 (grid0.coords t) 0 = t.val % 4 := by decide +kernel
theorem place_5 (t : Fin grid0.N) (y : S512x128.Idx) : ((cfg0.win 5).blk t).view.emb y = (ix2 (place t (y 0)) (y 1) : S2048x128.Idx) := by
  funext b
  apply Fin.ext
  fin_cases b
  · show cc0_transform_5 (grid0.coords t) 0 * 512 + 1 * (y 0).val = t.val % 4 * 512 + (y 0).val
    rw [index_5, Nat.one_mul]
  · show 0 * 128 + 1 * (y 1).val = (y 1).val
    omega
theorem index_6 : ∀ t : Fin grid0.N, cc0_transform_6 (grid0.coords t) 0 = t.val % 4 := by decide +kernel
theorem place_6 (t : Fin grid0.N) (y : S512x128.Idx) : ((cfg0.win 6).blk t).view.emb y = (ix2 (place t (y 0)) (y 1) : S2048x128.Idx) := by
  funext b
  apply Fin.ext
  fin_cases b
  · show cc0_transform_6 (grid0.coords t) 0 * 512 + 1 * (y 0).val = t.val % 4 * 512 + (y 0).val
    rw [index_6, Nat.one_mul]
  · show 0 * 128 + 1 * (y 1).val = (y 1).val
    omega
theorem index_7 : ∀ t : Fin grid0.N, cc0_transform_7 (grid0.coords t) 0 = t.val % 4 := by decide +kernel
theorem place_7 (t : Fin grid0.N) (y : S512x128.Idx) : ((cfg0.win 7).blk t).view.emb y = (ix2 (place t (y 0)) (y 1) : S2048x128.Idx) := by
  funext b
  apply Fin.ext
  fin_cases b
  · show cc0_transform_7 (grid0.coords t) 0 * 512 + 1 * (y 0).val = t.val % 4 * 512 + (y 0).val
    rw [index_7, Nat.one_mul]
  · show 0 * 128 + 1 * (y 1).val = (y 1).val
    omega
theorem index_14 : ∀ t : Fin grid0.N, cc0_transform_14 (grid0.coords t) 0 = t.val / 4 ∧ cc0_transform_14 (grid0.coords t) 2 = t.val % 4 := by decide +kernel
theorem place_14 (t : Fin grid0.N) (y : S1x4x512x64.Idx) : ((cfg0.win 14).blk t).view.emb y = (ix4 (sequence t) (y 1) (place t (y 2)) (y 3) : S32x4x2048x64.Idx) := by
  funext b
  apply Fin.ext
  fin_cases b
  · show cc0_transform_14 (grid0.coords t) 0 * 1 + 1 * (y 0).val = t.val / 4
    have h : (y 0).val < 1 := (y 0).isLt
    rw [(index_14 t).1]
    omega
  · show 0 * 4 + 1 * (y 1).val = (y 1).val
    omega
  · show cc0_transform_14 (grid0.coords t) 2 * 512 + 1 * (y 2).val = t.val % 4 * 512 + (y 2).val
    rw [(index_14 t).2, Nat.one_mul]
  · show 0 * 64 + 1 * (y 3).val = (y 3).val
    omega
theorem index_15 : ∀ t : Fin grid0.N, cc0_transform_15 (grid0.coords t) 0 = t.val / 4 ∧ cc0_transform_15 (grid0.coords t) 2 = t.val % 4 := by decide +kernel
theorem place_15 (t : Fin grid0.N) (y : S1x4x512x64.Idx) : ((cfg0.win 15).blk t).view.emb y = (ix4 (sequence t) (y 1) (place t (y 2)) (y 3) : S32x4x2048x64.Idx) := by
  funext b
  apply Fin.ext
  fin_cases b
  · show cc0_transform_15 (grid0.coords t) 0 * 1 + 1 * (y 0).val = t.val / 4
    have h : (y 0).val < 1 := (y 0).isLt
    rw [(index_15 t).1]
    omega
  · show 0 * 4 + 1 * (y 1).val = (y 1).val
    omega
  · show cc0_transform_15 (grid0.coords t) 2 * 512 + 1 * (y 2).val = t.val % 4 * 512 + (y 2).val
    rw [(index_15 t).2, Nat.one_mul]
  · show 0 * 64 + 1 * (y 3).val = (y 3).val
    omega
theorem index_16 : ∀ t : Fin grid0.N, cc0_transform_16 (grid0.coords t) 0 = t.val / 4 ∧ cc0_transform_16 (grid0.coords t) 2 = t.val % 4 := by decide +kernel
theorem place_16 (t : Fin grid0.N) (y : S1x4x512x64.Idx) : ((cfg0.win 16).blk t).view.emb y = (ix4 (sequence t) (y 1) (place t (y 2)) (y 3) : S32x4x2048x64.Idx) := by
  funext b
  apply Fin.ext
  fin_cases b
  · show cc0_transform_16 (grid0.coords t) 0 * 1 + 1 * (y 0).val = t.val / 4
    have h : (y 0).val < 1 := (y 0).isLt
    rw [(index_16 t).1]
    omega
  · show 0 * 4 + 1 * (y 1).val = (y 1).val
    omega
  · show cc0_transform_16 (grid0.coords t) 2 * 512 + 1 * (y 2).val = t.val % 4 * 512 + (y 2).val
    rw [(index_16 t).2, Nat.one_mul]
  · show 0 * 64 + 1 * (y 3).val = (y 3).val
    omega
theorem index_17 : ∀ t : Fin grid0.N, cc0_transform_17 (grid0.coords t) 0 = t.val / 4 ∧ cc0_transform_17 (grid0.coords t) 2 = t.val % 4 := by decide +kernel
theorem place_17 (t : Fin grid0.N) (y : S1x4x512x64.Idx) : ((cfg0.win 17).blk t).view.emb y = (ix4 (sequence t) (y 1) (place t (y 2)) (y 3) : S32x4x2048x64.Idx) := by
  funext b
  apply Fin.ext
  fin_cases b
  · show cc0_transform_17 (grid0.coords t) 0 * 1 + 1 * (y 0).val = t.val / 4
    have h : (y 0).val < 1 := (y 0).isLt
    rw [(index_17 t).1]
    omega
  · show 0 * 4 + 1 * (y 1).val = (y 1).val
    omega
  · show cc0_transform_17 (grid0.coords t) 2 * 512 + 1 * (y 2).val = t.val % 4 * 512 + (y 2).val
    rw [(index_17 t).2, Nat.one_mul]
  · show 0 * 64 + 1 * (y 3).val = (y 3).val
    omega

variable (m : (ℓ : Loc nD τ sig) → Buf (Elt Ideal) ℓ) (ρ : Dev nD → PrngReg)

/-- A core's five arguments. -/
abbrev X (c : Dev nD) : FVec Ideal S65536x1024 .f32 := m ((c : Thread nD τ).loc main_arg0)
abbrev G (c : Dev nD) : FVec Ideal S1024 .f32 := gains (F := Ideal) (m ((c : Thread nD τ).loc main_arg1))
abbrev K (c : Dev nD) : FVec Ideal S1024 .f32 := m ((c : Thread nD τ).loc main_arg2)
abbrev W (c : Dev nD) : FVec Ideal S1024x1072 .f32 := weights (F := Ideal) (m ((c : Thread nD τ).loc main_arg3))
abbrev U (c : Dev nD) : FVec Ideal S1024x1536 .f32 := m ((c : Thread nD τ).loc main_arg4)

/-- The blocks that a point reads, entry by entry. -/
theorem blk_0 (c : Dev nD) (t : Fin cfg0.N) (a : Fin 512) (k : Fin 1024) : (iblk m c 0 t (ix2 a k : S512x1024.Idx) : EReal) = X m c (ix2 (tok t a) k) :=
  (congrArg (V m c main_arg0) (place_0 t (ix2 a k))).trans (congrFun (V_tokens m c) _)
theorem blk_1 (c : Dev nD) (t : Fin cfg0.N) (k : Fin 1024) : (iblk m c 1 t (ix2 0 k : S1x1024.Idx) : EReal) = G m c (ix1 k) :=
  (congrArg (V m c main_v38) (place_1 t (ix2 0 k))).trans ((congrFun (V_gain m c) _).trans (gainRow_apply _ k))
theorem blk_2 (c : Dev nD) (t : Fin cfg0.N) (k : Fin 1024) : (iblk m c 2 t (ix2 0 k : S1x1024.Idx) : EReal) = K m c (ix1 k) :=
  (congrArg (V m c main_v39) (place_2 t (ix2 0 k))).trans ((congrFun (V_kvGain m c) _).trans (gainRow_apply _ k))
theorem blk_3 (c : Dev nD) (t : Fin cfg0.N) (k : Fin 1024) (b : Fin 1152) : (iblk m c 3 t (ix2 k b : S1024x1152.Idx) : EReal) = col (W m c) b.val k :=
  (congrArg (V m c main_v4) (place_3 t (ix2 k b))).trans ((congrFun (V_wide m c) _).trans (wide_apply _ k b))
theorem blk_4 (c : Dev nD) (t : Fin cfg0.N) (k : Fin 1024) (b : Fin 1536) : (iblk m c 4 t (ix2 k b : S1024x1536.Idx) : EReal) = U m c (ix2 k b) :=
  (congrArg (V m c main_v40) (place_4 t (ix2 k b))).trans (congrFun (V_kv m c) _)

/-- A table depends on the lane within the head alone. -/
theorem tabC_mod (cs : Fin 8 → EReal) (l : ℕ) : tabC cs (l % 64) = tabC cs l := by
  unfold tabC
  simp only [Nat.mod_mod]
theorem tabA_mod (sn : Fin 8 → EReal) (l : ℕ) : tabA sn (l % 64) = tabA sn l := by
  unfold tabA
  simp only [Nat.mod_mod]
theorem tabB_mod (sn : Fin 8 → EReal) (l : ℕ) : tabB sn (l % 64) = tabB sn l := by
  unfold tabB
  simp only [Nat.mod_mod]

theorem blk_5 (c : Dev nD) (t : Fin cfg0.N) (a : Fin 512) (l : Fin 128) : (iblk m c 5 t (ix2 a l : S512x128.Idx) : EReal) = tabC (cosAt (place t a)) l.val :=
  (congrArg (V m c main_v30) (place_5 t (ix2 a l))).trans ((congrFun (V_tabC m c) _).trans
    ((twice_apply _ (place t a) l).trans ((headC_apply _ (place t a) _).trans (tabC_mod _ l.val))))
theorem blk_6 (c : Dev nD) (t : Fin cfg0.N) (a : Fin 512) (l : Fin 128) : (iblk m c 6 t (ix2 a l : S512x128.Idx) : EReal) = tabA (sinAt (place t a)) l.val :=
  (congrArg (V m c main_v33) (place_6 t (ix2 a l))).trans ((congrFun (V_tabA m c) _).trans
    ((twice_apply _ (place t a) l).trans ((headA_apply _ (place t a) _).trans (tabA_mod _ l.val))))
theorem blk_7 (c : Dev nD) (t : Fin cfg0.N) (a : Fin 512) (l : Fin 128) : (iblk m c 7 t (ix2 a l : S512x128.Idx) : EReal) = tabB (sinAt (place t a)) l.val :=
  (congrArg (V m c main_v36) (place_7 t (ix2 a l))).trans ((congrFun (V_tabB m c) _).trans
    ((twice_apply _ (place t a) l).trans ((headB_apply _ (place t a) _).trans (tabB_mod _ l.val))))

/-- A tile's row against a column is the token's. -/
theorem tile_q (c : Dev nD) (t : Fin cfg0.N) (a : Fin 512) : rowDot (iblk m c 0 t) (iblk m c 1 t) (iblk m c 3 t : S1024x1152.Idx → EReal) a = rowAt (X m c) (G m c) (W m c) (tok t a) := by
  funext b
  unfold rowDot rowAt
  rw [funext fun k => blk_0 m c t a k, funext fun k => blk_1 m c t k]
  refine congrArg _ (funext fun k => ?_)
  by_cases h : b < 1152
  · exact (congrFun (col_of _ b h) k).trans (blk_3 m c t k ⟨b, h⟩)
  · unfold col
    rw [dif_neg h, dif_neg (by omega)]
theorem tile_kv (c : Dev nD) (t : Fin cfg0.N) (a : Fin 512) : rowDot (iblk m c 0 t) (iblk m c 2 t) (iblk m c 4 t : S1024x1536.Idx → EReal) a = rowAt (X m c) (K m c) (U m c) (tok t a) := by
  funext b
  unfold rowDot rowAt
  rw [funext fun k => blk_0 m c t a k, funext fun k => blk_2 m c t k]
  refine congrArg _ (funext fun k => ?_)
  by_cases h : b < 1536
  · exact ((congrFun (col_of _ b h) k).trans (blk_4 m c t k ⟨b, h⟩)).trans (congrFun (col_of (U m c) b h) k).symm
  · unfold col
    rw [dif_neg h, dif_neg h]

/-- A tile's sum of three products is the token's rotated lane. -/
theorem tile_rot (c : Dev nD) (t : Fin cfg0.N) (a : Fin 512) (y : ℕ → EReal) (o n : ℕ) (ho : o % 128 = 0) :
    mix y (iblk m c 5 t (ix2 a ⟨n % 128, by omega⟩ : S512x128.Idx)) (iblk m c 6 t (ix2 a ⟨n % 128, by omega⟩ : S512x128.Idx)) (iblk m c 7 t (ix2 a ⟨n % 128, by omega⟩ : S512x128.Idx)) (o + n / 128 * 128) (n % 128)
      = rot y (cosAt (place t a)) (sinAt (place t a)) (o + n) := by
  rw [blk_5, blk_6, blk_7]
  refine (mix_eq_rot y _ _ _ _ (by omega) (by omega)).trans ?_
  rw [show o + n / 128 * 128 + n % 128 = o + n by omega]

/-- The ten result arrays that the run is shown to leave. -/
abbrev result_8 (c : Dev nD) : Vec Ideal S65536x1024 .bf16 := queries (X m c) (G m c) (W m c)
abbrev result_9 (c : Dev nD) : Vec Ideal S65536x128 .f32 := gates (X m c) (G m c) (W m c)
abbrev result_10 (c : Dev nD) : Vec Ideal S65536x128 .f32 := plain 0 (X m c) (K m c) (U m c)
abbrev result_11 (c : Dev nD) : Vec Ideal S65536x128 .f32 := plain 128 (X m c) (K m c) (U m c)
abbrev result_12 (c : Dev nD) : Vec Ideal S65536x128 .f32 := plain 256 (X m c) (K m c) (U m c)
abbrev result_13 (c : Dev nD) : Vec Ideal S65536x128 .f32 := plain 384 (X m c) (K m c) (U m c)
abbrev result_14 (c : Dev nD) : Vec Ideal S32x4x2048x64 .bf16 := headKeys 512 (X m c) (K m c) (U m c)
abbrev result_15 (c : Dev nD) : Vec Ideal S32x4x2048x64 .bf16 := headValues 768 (X m c) (K m c) (U m c)
abbrev result_16 (c : Dev nD) : Vec Ideal S32x4x2048x64 .bf16 := headKeys 1024 (X m c) (K m c) (U m c)
abbrev result_17 (c : Dev nD) : Vec Ideal S32x4x2048x64 .bf16 := headValues 1280 (X m c) (K m c) (U m c)

/-- What point `t` stores in each block is the result there. -/
theorem store_8 (c : Dev nD) (t : Fin cfg0.N) (y : S512x1024.Idx) :
    (out0_8 (iblk m c 0 t) (iblk m c 1 t) (iblk m c 2 t) (iblk m c 3 t) (iblk m c 4 t) (iblk m c 5 t) (iblk m c 6 t) (iblk m c 7 t) y : EReal) = result_8 m c (ix2 (tok t (y 0)) (y 1)) := by
  have h : ∀ (a : Fin 512) (b : Fin 1024), (out0_8 (iblk m c 0 t) (iblk m c 1 t) (iblk m c 2 t) (iblk m c 3 t) (iblk m c 4 t) (iblk m c 5 t) (iblk m c 6 t) (iblk m c 7 t) (ix2 a b) : EReal) = result_8 m c (ix2 (tok t a) b) := fun a b => by
    refine (out_8 _ _ _ _ _ _ _ _ a b).trans ?_
    show _ = rot (rowAt (X m c) (G m c) (W m c) (tok t a)) (cosAt (position (tok t a))) (sinAt (position (tok t a))) b.val * _
    rw [tile_q, tile_rot m c t a _ 0 b.val rfl, position_tok, Nat.zero_add]
  exact (congrArg (out0_8 (iblk m c 0 t) (iblk m c 1 t) (iblk m c 2 t) (iblk m c 3 t) (iblk m c 4 t) (iblk m c 5 t) (iblk m c 6 t) (iblk m c 7 t)) (pair y).symm).trans (h (y 0) (y 1))
theorem store_9 (c : Dev nD) (t : Fin cfg0.N) (y : S512x128.Idx) :
    (out0_9 (iblk m c 0 t) (iblk m c 1 t) (iblk m c 2 t) (iblk m c 3 t) (iblk m c 4 t) (iblk m c 5 t) (iblk m c 6 t) (iblk m c 7 t) y : EReal) = result_9 m c (ix2 (tok t (y 0)) (y 1)) := by
  have h : ∀ (a : Fin 512) (b : Fin 128), (out0_9 (iblk m c 0 t) (iblk m c 1 t) (iblk m c 2 t) (iblk m c 3 t) (iblk m c 4 t) (iblk m c 5 t) (iblk m c 6 t) (iblk m c 7 t) (ix2 a b) : EReal) = result_9 m c (ix2 (tok t a) b) := fun a b =>
    (out_9 _ _ _ _ _ _ _ _ a b).trans (congrArg logistic (congrFun (tile_q m c t a) _))
  exact (congrArg (out0_9 (iblk m c 0 t) (iblk m c 1 t) (iblk m c 2 t) (iblk m c 3 t) (iblk m c 4 t) (iblk m c 5 t) (iblk m c 6 t) (iblk m c 7 t)) (pair y).symm).trans (h (y 0) (y 1))
theorem store_10 (c : Dev nD) (t : Fin cfg0.N) (y : S512x128.Idx) :
    (out0_10 (iblk m c 0 t) (iblk m c 1 t) (iblk m c 2 t) (iblk m c 3 t) (iblk m c 4 t) (iblk m c 5 t) (iblk m c 6 t) (iblk m c 7 t) y : EReal) = result_10 m c (ix2 (tok t (y 0)) (y 1)) := by
  have h : ∀ (a : Fin 512) (b : Fin 128), (out0_10 (iblk m c 0 t) (iblk m c 1 t) (iblk m c 2 t) (iblk m c 3 t) (iblk m c 4 t) (iblk m c 5 t) (iblk m c 6 t) (iblk m c 7 t) (ix2 a b) : EReal) = result_10 m c (ix2 (tok t a) b) := fun a b =>
    (out_10 _ _ _ _ _ _ _ _ a b).trans (congrFun (tile_kv m c t a) _)
  exact (congrArg (out0_10 (iblk m c 0 t) (iblk m c 1 t) (iblk m c 2 t) (iblk m c 3 t) (iblk m c 4 t) (iblk m c 5 t) (iblk m c 6 t) (iblk m c 7 t)) (pair y).symm).trans (h (y 0) (y 1))
theorem store_11 (c : Dev nD) (t : Fin cfg0.N) (y : S512x128.Idx) :
    (out0_11 (iblk m c 0 t) (iblk m c 1 t) (iblk m c 2 t) (iblk m c 3 t) (iblk m c 4 t) (iblk m c 5 t) (iblk m c 6 t) (iblk m c 7 t) y : EReal) = result_11 m c (ix2 (tok t (y 0)) (y 1)) := by
  have h : ∀ (a : Fin 512) (b : Fin 128), (out0_11 (iblk m c 0 t) (iblk m c 1 t) (iblk m c 2 t) (iblk m c 3 t) (iblk m c 4 t) (iblk m c 5 t) (iblk m c 6 t) (iblk m c 7 t) (ix2 a b) : EReal) = result_11 m c (ix2 (tok t a) b) := fun a b =>
    (out_11 _ _ _ _ _ _ _ _ a b).trans (congrFun (tile_kv m c t a) _)
  exact (congrArg (out0_11 (iblk m c 0 t) (iblk m c 1 t) (iblk m c 2 t) (iblk m c 3 t) (iblk m c 4 t) (iblk m c 5 t) (iblk m c 6 t) (iblk m c 7 t)) (pair y).symm).trans (h (y 0) (y 1))
theorem store_12 (c : Dev nD) (t : Fin cfg0.N) (y : S512x128.Idx) :
    (out0_12 (iblk m c 0 t) (iblk m c 1 t) (iblk m c 2 t) (iblk m c 3 t) (iblk m c 4 t) (iblk m c 5 t) (iblk m c 6 t) (iblk m c 7 t) y : EReal) = result_12 m c (ix2 (tok t (y 0)) (y 1)) := by
  have h : ∀ (a : Fin 512) (b : Fin 128), (out0_12 (iblk m c 0 t) (iblk m c 1 t) (iblk m c 2 t) (iblk m c 3 t) (iblk m c 4 t) (iblk m c 5 t) (iblk m c 6 t) (iblk m c 7 t) (ix2 a b) : EReal) = result_12 m c (ix2 (tok t a) b) := fun a b =>
    (out_12 _ _ _ _ _ _ _ _ a b).trans (congrFun (tile_kv m c t a) _)
  exact (congrArg (out0_12 (iblk m c 0 t) (iblk m c 1 t) (iblk m c 2 t) (iblk m c 3 t) (iblk m c 4 t) (iblk m c 5 t) (iblk m c 6 t) (iblk m c 7 t)) (pair y).symm).trans (h (y 0) (y 1))
theorem store_13 (c : Dev nD) (t : Fin cfg0.N) (y : S512x128.Idx) :
    (out0_13 (iblk m c 0 t) (iblk m c 1 t) (iblk m c 2 t) (iblk m c 3 t) (iblk m c 4 t) (iblk m c 5 t) (iblk m c 6 t) (iblk m c 7 t) y : EReal) = result_13 m c (ix2 (tok t (y 0)) (y 1)) := by
  have h : ∀ (a : Fin 512) (b : Fin 128), (out0_13 (iblk m c 0 t) (iblk m c 1 t) (iblk m c 2 t) (iblk m c 3 t) (iblk m c 4 t) (iblk m c 5 t) (iblk m c 6 t) (iblk m c 7 t) (ix2 a b) : EReal) = result_13 m c (ix2 (tok t a) b) := fun a b =>
    (out_13 _ _ _ _ _ _ _ _ a b).trans (congrFun (tile_kv m c t a) _)
  exact (congrArg (out0_13 (iblk m c 0 t) (iblk m c 1 t) (iblk m c 2 t) (iblk m c 3 t) (iblk m c 4 t) (iblk m c 5 t) (iblk m c 6 t) (iblk m c 7 t)) (pair y).symm).trans (h (y 0) (y 1))
theorem store_14 (c : Dev nD) (t : Fin cfg0.N) (y : S1x4x512x64.Idx) :
    (out0_14 (iblk m c 0 t) (iblk m c 1 t) (iblk m c 2 t) (iblk m c 3 t) (iblk m c 4 t) (iblk m c 5 t) (iblk m c 6 t) (iblk m c 7 t) y : EReal) = result_14 m c (ix4 (sequence t) (y 1) (place t (y 2)) (y 3)) := by
  have h : ∀ (j : Fin 4) (a : Fin 512) (d : Fin 64), (out0_14 (iblk m c 0 t) (iblk m c 1 t) (iblk m c 2 t) (iblk m c 3 t) (iblk m c 4 t) (iblk m c 5 t) (iblk m c 6 t) (iblk m c 7 t) (ix4 0 j a d) : EReal) = result_14 m c (ix4 (sequence t) j (place t a) d) := by
    intro j a d
    refine (out_14 _ _ _ _ _ _ _ _ j a d).trans ?_
    show _ = rot (rowAt (X m c) (K m c) (U m c) (tokenAt (sequence t) (place t a))) (cosAt (place t a)) (sinAt (place t a)) (512 + (j.val * 64 + d.val))
    rw [tile_kv, tile_rot m c t a _ 512 (j.val * 64 + d.val) rfl, tokenAt_place]
  have e : (ix4 0 (y 1) (y 2) (y 3) : S1x4x512x64.Idx) = y := by
    have h0 : (0 : Fin 1) = y 0 := Subsingleton.elim (α := Fin 1) _ _
    funext i
    fin_cases i
    · exact h0
    · rfl
    · rfl
    · rfl
  exact (congrArg (out0_14 (iblk m c 0 t) (iblk m c 1 t) (iblk m c 2 t) (iblk m c 3 t) (iblk m c 4 t) (iblk m c 5 t) (iblk m c 6 t) (iblk m c 7 t)) e.symm).trans (h (y 1) (y 2) (y 3))
theorem store_15 (c : Dev nD) (t : Fin cfg0.N) (y : S1x4x512x64.Idx) :
    (out0_15 (iblk m c 0 t) (iblk m c 1 t) (iblk m c 2 t) (iblk m c 3 t) (iblk m c 4 t) (iblk m c 5 t) (iblk m c 6 t) (iblk m c 7 t) y : EReal) = result_15 m c (ix4 (sequence t) (y 1) (place t (y 2)) (y 3)) := by
  have h : ∀ (j : Fin 4) (a : Fin 512) (d : Fin 64), (out0_15 (iblk m c 0 t) (iblk m c 1 t) (iblk m c 2 t) (iblk m c 3 t) (iblk m c 4 t) (iblk m c 5 t) (iblk m c 6 t) (iblk m c 7 t) (ix4 0 j a d) : EReal) = result_15 m c (ix4 (sequence t) j (place t a) d) := by
    intro j a d
    refine (out_15 _ _ _ _ _ _ _ _ j a d).trans ?_
    show _ = rowAt (X m c) (K m c) (U m c) (tokenAt (sequence t) (place t a)) (768 + (j.val * 64 + d.val))
    rw [tile_kv, tokenAt_place]
  have e : (ix4 0 (y 1) (y 2) (y 3) : S1x4x512x64.Idx) = y := by
    have h0 : (0 : Fin 1) = y 0 := Subsingleton.elim (α := Fin 1) _ _
    funext i
    fin_cases i
    · exact h0
    · rfl
    · rfl
    · rfl
  exact (congrArg (out0_15 (iblk m c 0 t) (iblk m c 1 t) (iblk m c 2 t) (iblk m c 3 t) (iblk m c 4 t) (iblk m c 5 t) (iblk m c 6 t) (iblk m c 7 t)) e.symm).trans (h (y 1) (y 2) (y 3))
theorem store_16 (c : Dev nD) (t : Fin cfg0.N) (y : S1x4x512x64.Idx) :
    (out0_16 (iblk m c 0 t) (iblk m c 1 t) (iblk m c 2 t) (iblk m c 3 t) (iblk m c 4 t) (iblk m c 5 t) (iblk m c 6 t) (iblk m c 7 t) y : EReal) = result_16 m c (ix4 (sequence t) (y 1) (place t (y 2)) (y 3)) := by
  have h : ∀ (j : Fin 4) (a : Fin 512) (d : Fin 64), (out0_16 (iblk m c 0 t) (iblk m c 1 t) (iblk m c 2 t) (iblk m c 3 t) (iblk m c 4 t) (iblk m c 5 t) (iblk m c 6 t) (iblk m c 7 t) (ix4 0 j a d) : EReal) = result_16 m c (ix4 (sequence t) j (place t a) d) := by
    intro j a d
    refine (out_16 _ _ _ _ _ _ _ _ j a d).trans ?_
    show _ = rot (rowAt (X m c) (K m c) (U m c) (tokenAt (sequence t) (place t a))) (cosAt (place t a)) (sinAt (place t a)) (1024 + (j.val * 64 + d.val))
    rw [tile_kv, tile_rot m c t a _ 1024 (j.val * 64 + d.val) rfl, tokenAt_place]
  have e : (ix4 0 (y 1) (y 2) (y 3) : S1x4x512x64.Idx) = y := by
    have h0 : (0 : Fin 1) = y 0 := Subsingleton.elim (α := Fin 1) _ _
    funext i
    fin_cases i
    · exact h0
    · rfl
    · rfl
    · rfl
  exact (congrArg (out0_16 (iblk m c 0 t) (iblk m c 1 t) (iblk m c 2 t) (iblk m c 3 t) (iblk m c 4 t) (iblk m c 5 t) (iblk m c 6 t) (iblk m c 7 t)) e.symm).trans (h (y 1) (y 2) (y 3))
theorem store_17 (c : Dev nD) (t : Fin cfg0.N) (y : S1x4x512x64.Idx) :
    (out0_17 (iblk m c 0 t) (iblk m c 1 t) (iblk m c 2 t) (iblk m c 3 t) (iblk m c 4 t) (iblk m c 5 t) (iblk m c 6 t) (iblk m c 7 t) y : EReal) = result_17 m c (ix4 (sequence t) (y 1) (place t (y 2)) (y 3)) := by
  have h : ∀ (j : Fin 4) (a : Fin 512) (d : Fin 64), (out0_17 (iblk m c 0 t) (iblk m c 1 t) (iblk m c 2 t) (iblk m c 3 t) (iblk m c 4 t) (iblk m c 5 t) (iblk m c 6 t) (iblk m c 7 t) (ix4 0 j a d) : EReal) = result_17 m c (ix4 (sequence t) j (place t a) d) := by
    intro j a d
    refine (out_17 _ _ _ _ _ _ _ _ j a d).trans ?_
    show _ = rowAt (X m c) (K m c) (U m c) (tokenAt (sequence t) (place t a)) (1280 + (j.val * 64 + d.val))
    rw [tile_kv, tokenAt_place]
  have e : (ix4 0 (y 1) (y 2) (y 3) : S1x4x512x64.Idx) = y := by
    have h0 : (0 : Fin 1) = y 0 := Subsingleton.elim (α := Fin 1) _ _
    funext i
    fin_cases i
    · exact h0
    · rfl
    · rfl
    · rfl
  exact (congrArg (out0_17 (iblk m c 0 t) (iblk m c 1 t) (iblk m c 2 t) (iblk m c 3 t) (iblk m c 4 t) (iblk m c 5 t) (iblk m c 6 t) (iblk m c 7 t)) e.symm).trans (h (y 1) (y 2) (y 3))

/-- Every point writes its blocks back: the next point's are others. -/
theorem flush_8 (t : Fin grid0.N) : (cfg0.win 8).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · exact .inr (decide_eq_true ⟨by show t.val + 1 < grid0.N; have := t.isLt; omega, fun e =>
      Nat.succ_ne_self _ (congrArg Fin.val (Cert.AttendIdeal.Value.idx_inj8 _ _ e))⟩)
theorem flush_9 (t : Fin grid0.N) : (cfg0.win 9).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · exact .inr (decide_eq_true ⟨by show t.val + 1 < grid0.N; have := t.isLt; omega, fun e =>
      Nat.succ_ne_self _ (congrArg Fin.val (Cert.AttendIdeal.Value.idx_inj9 _ _ e))⟩)
theorem flush_10 (t : Fin grid0.N) : (cfg0.win 10).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · exact .inr (decide_eq_true ⟨by show t.val + 1 < grid0.N; have := t.isLt; omega, fun e =>
      Nat.succ_ne_self _ (congrArg Fin.val (Cert.AttendIdeal.Value.idx_inj10 _ _ e))⟩)
theorem flush_11 (t : Fin grid0.N) : (cfg0.win 11).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · exact .inr (decide_eq_true ⟨by show t.val + 1 < grid0.N; have := t.isLt; omega, fun e =>
      Nat.succ_ne_self _ (congrArg Fin.val (Cert.AttendIdeal.Value.idx_inj11 _ _ e))⟩)
theorem flush_12 (t : Fin grid0.N) : (cfg0.win 12).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · exact .inr (decide_eq_true ⟨by show t.val + 1 < grid0.N; have := t.isLt; omega, fun e =>
      Nat.succ_ne_self _ (congrArg Fin.val (Cert.AttendIdeal.Value.idx_inj12 _ _ e))⟩)
theorem flush_13 (t : Fin grid0.N) : (cfg0.win 13).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · exact .inr (decide_eq_true ⟨by show t.val + 1 < grid0.N; have := t.isLt; omega, fun e =>
      Nat.succ_ne_self _ (congrArg Fin.val (Cert.AttendIdeal.Value.idx_inj13 _ _ e))⟩)
theorem flush_14 (t : Fin grid0.N) : (cfg0.win 14).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · exact .inr (decide_eq_true ⟨by show t.val + 1 < grid0.N; have := t.isLt; omega, fun e =>
      Nat.succ_ne_self _ (congrArg Fin.val (Cert.AttendIdeal.Value.idx_inj14 _ _ e))⟩)
theorem flush_15 (t : Fin grid0.N) : (cfg0.win 15).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · exact .inr (decide_eq_true ⟨by show t.val + 1 < grid0.N; have := t.isLt; omega, fun e =>
      Nat.succ_ne_self _ (congrArg Fin.val (Cert.AttendIdeal.Value.idx_inj15 _ _ e))⟩)
theorem flush_16 (t : Fin grid0.N) : (cfg0.win 16).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · exact .inr (decide_eq_true ⟨by show t.val + 1 < grid0.N; have := t.isLt; omega, fun e =>
      Nat.succ_ne_self _ (congrArg Fin.val (Cert.AttendIdeal.Value.idx_inj16 _ _ e))⟩)
theorem flush_17 (t : Fin grid0.N) : (cfg0.win 17).flush t = true := by
  have hN := N_0
  unfold Pipeline.Window.flush
  refine (Bool.and_eq_true _ _).mpr ⟨rfl, (Bool.or_eq_true _ _).mpr ?_⟩
  by_cases h : t.val + 1 = grid0.N
  · exact .inl (decide_eq_true h)
  · exact .inr (decide_eq_true ⟨by show t.val + 1 < grid0.N; have := t.isLt; omega, fun e =>
      Nat.succ_ne_self _ (congrArg Fin.val (Cert.AttendIdeal.Value.idx_inj17 _ _ e))⟩)

/-- The tiles cover the results. -/
theorem row_of (r : Fin 65536) : ∃ (t : Fin grid0.N) (a : Fin 512), tok t a = r :=
  ⟨⟨r.val / 512, by rw [N_0]; have := r.isLt; omega⟩, ⟨r.val % 512, by omega⟩, Fin.ext (by show 512 * (r.val / 512) + r.val % 512 = r.val; omega)⟩
theorem place_of (s : Fin 32) (p : Fin 2048) : ∃ (t : Fin grid0.N) (a : Fin 512), sequence t = s ∧ place t a = p :=
  ⟨⟨4 * s.val + p.val / 512, by rw [N_0]; have := s.isLt; have := p.isLt; omega⟩, ⟨p.val % 512, by omega⟩,
    Fin.ext (by have := p.isLt; show (4 * s.val + p.val / 512) / 4 = s.val; omega),
    Fin.ext (by have := p.isLt; show (4 * s.val + p.val / 512) % 4 * 512 + p.val % 512 = p.val; omega)⟩
theorem cover_8 (i : S65536x1024.Idx) : ∃ t : Fin grid0.N, (cfg0.win 8).flush t = true ∧ i ∈ ((cfg0.win 8).blk t).view.set := by
  obtain ⟨t, a, e⟩ := row_of (i 0)
  exact ⟨t, flush_8 t, Finset.mem_map.mpr ⟨ix2 a (i 1), Finset.mem_univ _, (place_8 t _).trans
    ((congrArg (fun r : Fin 65536 => (ix2 r (i 1) : S65536x1024.Idx)) e).trans (pair i))⟩⟩
theorem cover_9 (i : S65536x128.Idx) : ∃ t : Fin grid0.N, (cfg0.win 9).flush t = true ∧ i ∈ ((cfg0.win 9).blk t).view.set := by
  obtain ⟨t, a, e⟩ := row_of (i 0)
  exact ⟨t, flush_9 t, Finset.mem_map.mpr ⟨ix2 a (i 1), Finset.mem_univ _, (place_9 t _).trans
    ((congrArg (fun r : Fin 65536 => (ix2 r (i 1) : S65536x128.Idx)) e).trans (pair i))⟩⟩
theorem cover_10 (i : S65536x128.Idx) : ∃ t : Fin grid0.N, (cfg0.win 10).flush t = true ∧ i ∈ ((cfg0.win 10).blk t).view.set := by
  obtain ⟨t, a, e⟩ := row_of (i 0)
  exact ⟨t, flush_10 t, Finset.mem_map.mpr ⟨ix2 a (i 1), Finset.mem_univ _, (place_10 t _).trans
    ((congrArg (fun r : Fin 65536 => (ix2 r (i 1) : S65536x128.Idx)) e).trans (pair i))⟩⟩
theorem cover_11 (i : S65536x128.Idx) : ∃ t : Fin grid0.N, (cfg0.win 11).flush t = true ∧ i ∈ ((cfg0.win 11).blk t).view.set := by
  obtain ⟨t, a, e⟩ := row_of (i 0)
  exact ⟨t, flush_11 t, Finset.mem_map.mpr ⟨ix2 a (i 1), Finset.mem_univ _, (place_11 t _).trans
    ((congrArg (fun r : Fin 65536 => (ix2 r (i 1) : S65536x128.Idx)) e).trans (pair i))⟩⟩
theorem cover_12 (i : S65536x128.Idx) : ∃ t : Fin grid0.N, (cfg0.win 12).flush t = true ∧ i ∈ ((cfg0.win 12).blk t).view.set := by
  obtain ⟨t, a, e⟩ := row_of (i 0)
  exact ⟨t, flush_12 t, Finset.mem_map.mpr ⟨ix2 a (i 1), Finset.mem_univ _, (place_12 t _).trans
    ((congrArg (fun r : Fin 65536 => (ix2 r (i 1) : S65536x128.Idx)) e).trans (pair i))⟩⟩
theorem cover_13 (i : S65536x128.Idx) : ∃ t : Fin grid0.N, (cfg0.win 13).flush t = true ∧ i ∈ ((cfg0.win 13).blk t).view.set := by
  obtain ⟨t, a, e⟩ := row_of (i 0)
  exact ⟨t, flush_13 t, Finset.mem_map.mpr ⟨ix2 a (i 1), Finset.mem_univ _, (place_13 t _).trans
    ((congrArg (fun r : Fin 65536 => (ix2 r (i 1) : S65536x128.Idx)) e).trans (pair i))⟩⟩
theorem cover_14 (i : S32x4x2048x64.Idx) : ∃ t : Fin grid0.N, (cfg0.win 14).flush t = true ∧ i ∈ ((cfg0.win 14).blk t).view.set := by
  obtain ⟨t, a, e, e'⟩ := place_of (i 0) (i 2)
  exact ⟨t, flush_14 t, Finset.mem_map.mpr ⟨ix4 0 (i 1) a (i 3), Finset.mem_univ _, (place_14 t _).trans
    ((congrArg₂ (fun (s : Fin 32) (p : Fin 2048) => (ix4 s (i 1) p (i 3) : S32x4x2048x64.Idx)) e e').trans (four i))⟩⟩
theorem cover_15 (i : S32x4x2048x64.Idx) : ∃ t : Fin grid0.N, (cfg0.win 15).flush t = true ∧ i ∈ ((cfg0.win 15).blk t).view.set := by
  obtain ⟨t, a, e, e'⟩ := place_of (i 0) (i 2)
  exact ⟨t, flush_15 t, Finset.mem_map.mpr ⟨ix4 0 (i 1) a (i 3), Finset.mem_univ _, (place_15 t _).trans
    ((congrArg₂ (fun (s : Fin 32) (p : Fin 2048) => (ix4 s (i 1) p (i 3) : S32x4x2048x64.Idx)) e e').trans (four i))⟩⟩
theorem cover_16 (i : S32x4x2048x64.Idx) : ∃ t : Fin grid0.N, (cfg0.win 16).flush t = true ∧ i ∈ ((cfg0.win 16).blk t).view.set := by
  obtain ⟨t, a, e, e'⟩ := place_of (i 0) (i 2)
  exact ⟨t, flush_16 t, Finset.mem_map.mpr ⟨ix4 0 (i 1) a (i 3), Finset.mem_univ _, (place_16 t _).trans
    ((congrArg₂ (fun (s : Fin 32) (p : Fin 2048) => (ix4 s (i 1) p (i 3) : S32x4x2048x64.Idx)) e e').trans (four i))⟩⟩
theorem cover_17 (i : S32x4x2048x64.Idx) : ∃ t : Fin grid0.N, (cfg0.win 17).flush t = true ∧ i ∈ ((cfg0.win 17).blk t).view.set := by
  obtain ⟨t, a, e, e'⟩ := place_of (i 0) (i 2)
  exact ⟨t, flush_17 t, Finset.mem_map.mpr ⟨ix4 0 (i 1) a (i 3), Finset.mem_univ _, (place_17 t _).trans
    ((congrArg₂ (fun (s : Fin 32) (p : Fin 2048) => (ix4 s (i 1) p (i 3) : S32x4x2048x64.Idx)) e e').trans (four i))⟩⟩

/-- The result arrays' final contents. -/
theorem final_8 (c : Dev nD) : (dats m 0 c).arrAt 8 cfg0.N = result_8 m c :=
  (dats m 0 c).arrAt_eq_of_emb 8 (result_8 m c)
    (fun t _ (y : S512x1024.Idx) => (congrFun (Cert.AttendIdeal.Value.flushed8 m c t) y).trans
      ((store_8 m c t y).trans (congrArg (result_8 m c) (place_8 t y).symm)))
    cover_8
theorem final_9 (c : Dev nD) : (dats m 0 c).arrAt 9 cfg0.N = result_9 m c :=
  (dats m 0 c).arrAt_eq_of_emb 9 (result_9 m c)
    (fun t _ (y : S512x128.Idx) => (congrFun (Cert.AttendIdeal.Value.flushed9 m c t) y).trans
      ((store_9 m c t y).trans (congrArg (result_9 m c) (place_9 t y).symm)))
    cover_9
theorem final_10 (c : Dev nD) : (dats m 0 c).arrAt 10 cfg0.N = result_10 m c :=
  (dats m 0 c).arrAt_eq_of_emb 10 (result_10 m c)
    (fun t _ (y : S512x128.Idx) => (congrFun (Cert.AttendIdeal.Value.flushed10 m c t) y).trans
      ((store_10 m c t y).trans (congrArg (result_10 m c) (place_10 t y).symm)))
    cover_10
theorem final_11 (c : Dev nD) : (dats m 0 c).arrAt 11 cfg0.N = result_11 m c :=
  (dats m 0 c).arrAt_eq_of_emb 11 (result_11 m c)
    (fun t _ (y : S512x128.Idx) => (congrFun (Cert.AttendIdeal.Value.flushed11 m c t) y).trans
      ((store_11 m c t y).trans (congrArg (result_11 m c) (place_11 t y).symm)))
    cover_11
theorem final_12 (c : Dev nD) : (dats m 0 c).arrAt 12 cfg0.N = result_12 m c :=
  (dats m 0 c).arrAt_eq_of_emb 12 (result_12 m c)
    (fun t _ (y : S512x128.Idx) => (congrFun (Cert.AttendIdeal.Value.flushed12 m c t) y).trans
      ((store_12 m c t y).trans (congrArg (result_12 m c) (place_12 t y).symm)))
    cover_12
theorem final_13 (c : Dev nD) : (dats m 0 c).arrAt 13 cfg0.N = result_13 m c :=
  (dats m 0 c).arrAt_eq_of_emb 13 (result_13 m c)
    (fun t _ (y : S512x128.Idx) => (congrFun (Cert.AttendIdeal.Value.flushed13 m c t) y).trans
      ((store_13 m c t y).trans (congrArg (result_13 m c) (place_13 t y).symm)))
    cover_13
theorem final_14 (c : Dev nD) : (dats m 0 c).arrAt 14 cfg0.N = result_14 m c :=
  (dats m 0 c).arrAt_eq_of_emb 14 (result_14 m c)
    (fun t _ (y : S1x4x512x64.Idx) => (congrFun (Cert.AttendIdeal.Value.flushed14 m c t) y).trans
      ((store_14 m c t y).trans (congrArg (result_14 m c) (place_14 t y).symm)))
    cover_14
theorem final_15 (c : Dev nD) : (dats m 0 c).arrAt 15 cfg0.N = result_15 m c :=
  (dats m 0 c).arrAt_eq_of_emb 15 (result_15 m c)
    (fun t _ (y : S1x4x512x64.Idx) => (congrFun (Cert.AttendIdeal.Value.flushed15 m c t) y).trans
      ((store_15 m c t y).trans (congrArg (result_15 m c) (place_15 t y).symm)))
    cover_15
theorem final_16 (c : Dev nD) : (dats m 0 c).arrAt 16 cfg0.N = result_16 m c :=
  (dats m 0 c).arrAt_eq_of_emb 16 (result_16 m c)
    (fun t _ (y : S1x4x512x64.Idx) => (congrFun (Cert.AttendIdeal.Value.flushed16 m c t) y).trans
      ((store_16 m c t y).trans (congrArg (result_16 m c) (place_16 t y).symm)))
    cover_16
theorem final_17 (c : Dev nD) : (dats m 0 c).arrAt 17 cfg0.N = result_17 m c :=
  (dats m 0 c).arrAt_eq_of_emb 17 (result_17 m c)
    (fun t _ (y : S1x4x512x64.Idx) => (congrFun (Cert.AttendIdeal.Value.flushed17 m c t) y).trans
      ((store_17 m c t y).trans (congrArg (result_17 m c) (place_17 t y).symm)))
    cover_17

/-- The run: the ten result arrays, and the five arguments unchanged. -/
theorem run : θ_run (defs (F := Ideal)) (onTc (τ := τ) (main (F := Ideal))) ⟨m, fun _ => 0, ρ⟩ fun r => ∀ c : Dev nD,
      r.2.mem ((c : Thread nD τ).loc main_v41_0) = result_8 m c
      ∧ r.2.mem ((c : Thread nD τ).loc main_v41_1) = result_9 m c
      ∧ r.2.mem ((c : Thread nD τ).loc main_v41_2) = result_10 m c
      ∧ r.2.mem ((c : Thread nD τ).loc main_v41_3) = result_11 m c
      ∧ r.2.mem ((c : Thread nD τ).loc main_v41_4) = result_12 m c
      ∧ r.2.mem ((c : Thread nD τ).loc main_v41_5) = result_13 m c
      ∧ r.2.mem ((c : Thread nD τ).loc main_v41_6) = result_14 m c
      ∧ r.2.mem ((c : Thread nD τ).loc main_v41_7) = result_15 m c
      ∧ r.2.mem ((c : Thread nD τ).loc main_v41_8) = result_16 m c
      ∧ r.2.mem ((c : Thread nD τ).loc main_v41_9) = result_17 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono (fun r h c => ⟨((h c).1).trans (final_8 m c),
      ((h c).2.1).trans (final_9 m c),
      ((h c).2.2.1).trans (final_10 m c),
      ((h c).2.2.2.1).trans (final_11 m c),
      ((h c).2.2.2.2.1).trans (final_12 m c),
      ((h c).2.2.2.2.2.1).trans (final_13 m c),
      ((h c).2.2.2.2.2.2.1).trans (final_14 m c),
      ((h c).2.2.2.2.2.2.2.1).trans (final_15 m c),
      ((h c).2.2.2.2.2.2.2.2.1).trans (final_16 m c),
      ((h c).2.2.2.2.2.2.2.2.2.1).trans (final_17 m c),
      (h c).2.2.2.2.2.2.2.2.2.2⟩)
    (Cert.AttendIdeal.Value.run_blocks m ρ)

end Cert.Attention

end
-- ==== Proof.AttendRef.lean ====
/- The attention projection's reference over the extended reals, element by element: its ten results are the call's. -/
module

public import proofs.«01_k».proof.Proof.AttendResults
public import proofs.«01_k».proof.Proof.Gen.AttendReferenceIdeal.Run
public import Idealize.ShloMosaic.Lib.Pointwise

@[expose] public section

set_option maxRecDepth 16384

noncomputable section

namespace Cert.Attention.Ref

open Idealize.ShloMosaic Idealize.SL.Sem
open Cert.AttendReferenceIdeal Cert.AttendReferenceIdeal.Gen
open Cert.Projection (against unitAt logistic)

/-- The normalised rows times a gain. -/
def rows (X : FVec Ideal S65536x1024 .f32) (g : FVec Ideal S1024 .f32) : FVec Ideal S65536x1024 .f32 :=
  mulf (mulf X (broadcastInDim S65536x1024 ![0, 1] bcast_S65536x1_S65536x1024_0_1
      (Host.rsqrt (addf (Host.divf (broadcastInDim S65536x1 ![0] bcast_S65536_S65536x1_0
          (Host.reduceAdd (mulf X X) (constant S_ .f32 0x00000000#32) reducesTo_S65536x1024_S65536_d1 h_S_))
          (broadcastInDim S65536x1 ![] bcast_S_S65536x1 (constant S_ .f32 0x44800000#32)))
        (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The rows against the query weights, and against the key and value weights. -/
def projQ (X : FVec Ideal S65536x1024 .f32) (g : FVec Ideal S1024 .f32) (W : FVec Ideal S1024x1072 .f32) : FVec Ideal S65536x1072 .f32 :=
  Host.dotGeneral dot_S65536x1024_S1024x1072_S65536x1072_1_0_0_1_n_n none (rows X g) W
def projKV (X : FVec Ideal S65536x1024 .f32) (g : FVec Ideal S1024 .f32) (W : FVec Ideal S1024x1536 .f32) : FVec Ideal S65536x1536 .f32 :=
  Host.dotGeneral dot_S65536x1024_S1024x1536_S65536x1536_1_0_0_1_n_n none (rows X g) W

theorem projQ_apply (X : FVec Ideal S65536x1024 .f32) (g : FVec Ideal S1024 .f32) (W : FVec Ideal S1024x1072 .f32) (r : Fin 65536) (b : Fin 1072) :
    projQ X g W (ix2 r b) = rowAt X g W r b.val := by
  unfold rowAt
  rw [col_of W b.val b.isLt]
  pointwise [projQ, rows, against, unitAt]
theorem projKV_apply (X : FVec Ideal S65536x1024 .f32) (g : FVec Ideal S1024 .f32) (W : FVec Ideal S1024x1536 .f32) (r : Fin 65536) (b : Fin 1536) :
    projKV X g W (ix2 r b) = rowAt X g W r b.val := by
  unfold rowAt
  rw [col_of W b.val b.isLt]
  pointwise [projKV, rows, against, unitAt]

/-- The angles, their cosines and sines. -/
def angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (mulf (Host.negf (sitofp .f32 (iotaInDim S8 32 0))) (broadcastInDim S8 ![] bcast_S_S8 (constant S_ .f32 0x3E000000#32))))))
def cosines : FVec Ideal S2048x8 .f32 := Host.cos angles
def sines : FVec Ideal S2048x8 .f32 := Host.sin angles
theorem cosines_at (p : Fin 2048) (e : Fin 8) : (cosines (ix2 p e) : EReal) = cosAt p e := rfl
theorem sines_at (p : Fin 2048) (e : Fin 8) : (sines (ix2 p e) : EReal) = sinAt p e := rfl

/-- The rotation of 4 heads. -/
def turn4 (Z : FVec Ideal S32x2048x4x64 .f32) (C S : FVec Ideal S2048x8 .f32) : FVec Ideal S32x2048x4x64 .f32 :=
  concatenate S32x2048x4x64 3
    [⟨S32x2048x4x8, subf (mulf (extractStridedSlice S32x2048x4x8 ![0, 0, 0, 0] Z slices_S32x2048x4x64_S32x2048x4x8_0_0_0_0)
        (broadcastInDim S32x2048x4x8 ![0, 1, 2, 3] bcast_S1x2048x1x8_S32x2048x4x8_0_1_2_3 (broadcastInDim S1x2048x1x8 ![1, 3] bcast_S2048x8_S1x2048x1x8_1_3 C)))
      (mulf (extractStridedSlice S32x2048x4x8 ![0, 0, 0, 8] Z slices_S32x2048x4x64_S32x2048x4x8_0_0_0_8)
        (broadcastInDim S32x2048x4x8 ![0, 1, 2, 3] bcast_S1x2048x1x8_S32x2048x4x8_0_1_2_3 (broadcastInDim S1x2048x1x8 ![1, 3] bcast_S2048x8_S1x2048x1x8_1_3 S)))⟩,
     ⟨S32x2048x4x8, addf (mulf (extractStridedSlice S32x2048x4x8 ![0, 0, 0, 8] Z slices_S32x2048x4x64_S32x2048x4x8_0_0_0_8)
        (broadcastInDim S32x2048x4x8 ![0, 1, 2, 3] bcast_S1x2048x1x8_S32x2048x4x8_0_1_2_3 (broadcastInDim S1x2048x1x8 ![1, 3] bcast_S2048x8_S1x2048x1x8_1_3 C)))
      (mulf (extractStridedSlice S32x2048x4x8 ![0, 0, 0, 0] Z slices_S32x2048x4x64_S32x2048x4x8_0_0_0_0)
        (broadcastInDim S32x2048x4x8 ![0, 1, 2, 3] bcast_S1x2048x1x8_S32x2048x4x8_0_1_2_3 (broadcastInDim S1x2048x1x8 ![1, 3] bcast_S2048x8_S1x2048x1x8_1_3 S)))⟩,
     ⟨S32x2048x4x48, extractStridedSlice S32x2048x4x48 ![0, 0, 0, 16] Z slices_S32x2048x4x64_S32x2048x4x48_0_0_0_16⟩]
    concatenates_S32x2048x4x8_S32x2048x4x8_S32x2048x4x48_S32x2048x4x64_d3

theorem turn4_apply (Z : FVec Ideal S32x2048x4x64 .f32) (C S : FVec Ideal S2048x8 .f32) (s : Fin 32) (p : Fin 2048) (j : Fin 4) (y : ℕ → EReal) (o : ℕ) (ho : o % 64 = 0)
    (hy : ∀ d : Fin 64, Z (ix4 s p j d) = y (o + d.val)) (d : Fin 64) :
    turn4 Z C S (ix4 s p j d) = rot y (fun e => C (ix2 p e)) (fun e => S (ix2 p e)) (o + d.val) := by
  have hd := d.isLt
  pointwise [turn4, rot]
  simp only [hy]
  by_cases h : d.val < 8
  · rw [dif_pos h, dif_pos (show (o + d.val) % 64 < 8 by omega)]
    have e : (⟨(o + d.val) % 64, by omega⟩ : Fin 8) = ⟨d.val, h⟩ := Fin.ext (by show (o + d.val) % 64 = d.val; omega)
    rw [e, show o + (8 + d.val) = o + d.val + 8 by omega]
  · rw [dif_neg h, dif_neg (show ¬ (o + d.val) % 64 < 8 by omega)]
    by_cases h' : d.val < 16
    · rw [dif_pos (show d.val - 8 < 8 by omega), dif_pos (show (o + d.val) % 64 < 16 by omega)]
      have e : (⟨(o + d.val) % 64 - 8, by omega⟩ : Fin 8) = ⟨d.val - 8, by omega⟩ := Fin.ext (by show (o + d.val) % 64 - 8 = d.val - 8; omega)
      rw [e, show o + (8 + (d.val - 8)) = o + d.val by omega, show o + (d.val - 8) = o + d.val - 8 by omega]
    · rw [dif_neg (show ¬ d.val - 8 < 8 by omega), dif_neg (show ¬ (o + d.val) % 64 < 16 by omega)]
      exact congrArg y (by omega)
/-- The rotation of 16 heads. -/
def turn16 (Z : FVec Ideal S32x2048x16x64 .f32) (C S : FVec Ideal S2048x8 .f32) : FVec Ideal S32x2048x16x64 .f32 :=
  concatenate S32x2048x16x64 3
    [⟨S32x2048x16x8, subf (mulf (extractStridedSlice S32x2048x16x8 ![0, 0, 0, 0] Z slices_S32x2048x16x64_S32x2048x16x8_0_0_0_0)
        (broadcastInDim S32x2048x16x8 ![0, 1, 2, 3] bcast_S1x2048x1x8_S32x2048x16x8_0_1_2_3 (broadcastInDim S1x2048x1x8 ![1, 3] bcast_S2048x8_S1x2048x1x8_1_3 C)))
      (mulf (extractStridedSlice S32x2048x16x8 ![0, 0, 0, 8] Z slices_S32x2048x16x64_S32x2048x16x8_0_0_0_8)
        (broadcastInDim S32x2048x16x8 ![0, 1, 2, 3] bcast_S1x2048x1x8_S32x2048x16x8_0_1_2_3 (broadcastInDim S1x2048x1x8 ![1, 3] bcast_S2048x8_S1x2048x1x8_1_3 S)))⟩,
     ⟨S32x2048x16x8, addf (mulf (extractStridedSlice S32x2048x16x8 ![0, 0, 0, 8] Z slices_S32x2048x16x64_S32x2048x16x8_0_0_0_8)
        (broadcastInDim S32x2048x16x8 ![0, 1, 2, 3] bcast_S1x2048x1x8_S32x2048x16x8_0_1_2_3 (broadcastInDim S1x2048x1x8 ![1, 3] bcast_S2048x8_S1x2048x1x8_1_3 C)))
      (mulf (extractStridedSlice S32x2048x16x8 ![0, 0, 0, 0] Z slices_S32x2048x16x64_S32x2048x16x8_0_0_0_0)
        (broadcastInDim S32x2048x16x8 ![0, 1, 2, 3] bcast_S1x2048x1x8_S32x2048x16x8_0_1_2_3 (broadcastInDim S1x2048x1x8 ![1, 3] bcast_S2048x8_S1x2048x1x8_1_3 S)))⟩,
     ⟨S32x2048x16x48, extractStridedSlice S32x2048x16x48 ![0, 0, 0, 16] Z slices_S32x2048x16x64_S32x2048x16x48_0_0_0_16⟩]
    concatenates_S32x2048x16x8_S32x2048x16x8_S32x2048x16x48_S32x2048x16x64_d3

theorem turn16_apply (Z : FVec Ideal S32x2048x16x64 .f32) (C S : FVec Ideal S2048x8 .f32) (s : Fin 32) (p : Fin 2048) (j : Fin 16) (y : ℕ → EReal) (o : ℕ) (ho : o % 64 = 0)
    (hy : ∀ d : Fin 64, Z (ix4 s p j d) = y (o + d.val)) (d : Fin 64) :
    turn16 Z C S (ix4 s p j d) = rot y (fun e => C (ix2 p e)) (fun e => S (ix2 p e)) (o + d.val) := by
  have hd := d.isLt
  pointwise [turn16, rot]
  simp only [hy]
  by_cases h : d.val < 8
  · rw [dif_pos h, dif_pos (show (o + d.val) % 64 < 8 by omega)]
    have e : (⟨(o + d.val) % 64, by omega⟩ : Fin 8) = ⟨d.val, h⟩ := Fin.ext (by show (o + d.val) % 64 = d.val; omega)
    rw [e, show o + (8 + d.val) = o + d.val + 8 by omega]
  · rw [dif_neg h, dif_neg (show ¬ (o + d.val) % 64 < 8 by omega)]
    by_cases h' : d.val < 16
    · rw [dif_pos (show d.val - 8 < 8 by omega), dif_pos (show (o + d.val) % 64 < 16 by omega)]
      have e : (⟨(o + d.val) % 64 - 8, by omega⟩ : Fin 8) = ⟨d.val - 8, by omega⟩ := Fin.ext (by show (o + d.val) % 64 - 8 = d.val - 8; omega)
      rw [e, show o + (8 + (d.val - 8)) = o + d.val by omega, show o + (d.val - 8) = o + d.val - 8 by omega]
    · rw [dif_neg (show ¬ d.val - 8 < 8 by omega), dif_neg (show ¬ (o + d.val) % 64 < 16 by omega)]
      exact congrArg y (by omega)
/-- The results that are cut from the projections. -/
def gatesOf (P : FVec Ideal S65536x1072 .f32) : FVec Ideal S65536x128 .f32 :=
  Host.divf (broadcastInDim S65536x128 ![] bcast_S_S65536x128 (constant S_ .f32 0x3F800000#32))
    (addf (broadcastInDim S65536x128 ![] bcast_S_S65536x128 (constant S_ .f32 0x3F800000#32))
      (Host.exp (Host.negf (pad S65536x128 ![0, 0] ![0, 80] ![0, 0] (extractStridedSlice S65536x48 ![0, 1024] P slices_S65536x1072_S65536x48_0_1024)
        (sitofp .f32 (constantI S_ 32 0#32)) pads_S65536x48_S65536x128_000_0800 h_S_))))
def firstTwo (P : FVec Ideal S65536x1536 .f32) : FVec Ideal S65536x512 .f32 :=
  shapeCast S65536x512 (extractStridedSlice S32x2048x2x4x64 ![0, 0, 0, 0, 0] (shapeCast S32x2048x6x4x64 P shapeCasts_S65536x1536_S32x2048x6x4x64)
    slices_S32x2048x6x4x64_S32x2048x2x4x64_0_0_0_0_0) shapeCasts_S32x2048x2x4x64_S65536x512
def plain0 (P : FVec Ideal S65536x1536 .f32) : FVec Ideal S65536x128 .f32 := extractStridedSlice S65536x128 ![0, 0] (firstTwo P) slices_S65536x512_S65536x128_0_0
def plain128 (P : FVec Ideal S65536x1536 .f32) : FVec Ideal S65536x128 .f32 := extractStridedSlice S65536x128 ![0, 128] (firstTwo P) slices_S65536x512_S65536x128_0_128
def plain256 (P : FVec Ideal S65536x1536 .f32) : FVec Ideal S65536x128 .f32 := extractStridedSlice S65536x128 ![0, 256] (firstTwo P) slices_S65536x512_S65536x128_0_256
def plain384 (P : FVec Ideal S65536x1536 .f32) : FVec Ideal S65536x128 .f32 := extractStridedSlice S65536x128 ![0, 384] (firstTwo P) slices_S65536x512_S65536x128_0_384
def part2 (P : FVec Ideal S65536x1536 .f32) : FVec Ideal S32x2048x4x64 .f32 :=
  shapeCast S32x2048x4x64 (extractStridedSlice S32x2048x1x4x64 ![0, 0, 2, 0, 0] (shapeCast S32x2048x6x4x64 P shapeCasts_S65536x1536_S32x2048x6x4x64)
    slices_S32x2048x6x4x64_S32x2048x1x4x64_0_0_2_0_0) shapeCasts_S32x2048x1x4x64_S32x2048x4x64
def part3 (P : FVec Ideal S65536x1536 .f32) : FVec Ideal S32x2048x4x64 .f32 :=
  shapeCast S32x2048x4x64 (extractStridedSlice S32x2048x1x4x64 ![0, 0, 3, 0, 0] (shapeCast S32x2048x6x4x64 P shapeCasts_S65536x1536_S32x2048x6x4x64)
    slices_S32x2048x6x4x64_S32x2048x1x4x64_0_0_3_0_0) shapeCasts_S32x2048x1x4x64_S32x2048x4x64
def part4 (P : FVec Ideal S65536x1536 .f32) : FVec Ideal S32x2048x4x64 .f32 :=
  shapeCast S32x2048x4x64 (extractStridedSlice S32x2048x1x4x64 ![0, 0, 4, 0, 0] (shapeCast S32x2048x6x4x64 P shapeCasts_S65536x1536_S32x2048x6x4x64)
    slices_S32x2048x6x4x64_S32x2048x1x4x64_0_0_4_0_0) shapeCasts_S32x2048x1x4x64_S32x2048x4x64
def part5 (P : FVec Ideal S65536x1536 .f32) : FVec Ideal S32x2048x4x64 .f32 :=
  shapeCast S32x2048x4x64 (extractStridedSlice S32x2048x1x4x64 ![0, 0, 5, 0, 0] (shapeCast S32x2048x6x4x64 P shapeCasts_S65536x1536_S32x2048x6x4x64)
    slices_S32x2048x6x4x64_S32x2048x1x4x64_0_0_5_0_0) shapeCasts_S32x2048x1x4x64_S32x2048x4x64
def byHead (Z : FVec Ideal S32x2048x4x64 .f32) : FVec Ideal S32x4x2048x64 .bf16 :=
  truncf .bf16 (transpose S32x4x2048x64 [0, 2, 1, 3] Z transposes_S32x2048x4x64_S32x4x2048x64_0_2_1_3) bitsLt_bf16_f32
def headsOf (P : FVec Ideal S65536x1072 .f32) : FVec Ideal S32x2048x16x64 .f32 :=
  shapeCast S32x2048x16x64 (extractStridedSlice S65536x1024 ![0, 0] P slices_S65536x1072_S65536x1024_0_0) shapeCasts_S65536x1024_S32x2048x16x64
def eighth (Z : FVec Ideal S32x2048x16x64 .f32) : FVec Ideal S65536x1024 .bf16 :=
  truncf .bf16 (mulf (shapeCast S65536x1024 Z shapeCasts_S32x2048x16x64_S65536x1024) (broadcastInDim S65536x1024 ![] bcast_S_S65536x1024 (constant S_ .f32 0x3E000000#32))) bitsLt_bf16_f32

theorem gatesOf_apply (P : FVec Ideal S65536x1072 .f32) (r : Fin 65536) (b : Fin 128) :
    gatesOf P (ix2 r b) = logistic (if h : b.val < 48 then P (ix2 r ⟨1024 + b.val, by omega⟩) else 0) := by
  have z : (FloatOps.sitofp (F := Ideal) FTy.f32 (0#32) : EReal) = 0 := by
    show (((((0#32 : BitVec 32).toInt : ℤ) : ℝ)) : EReal) = 0
    simp
  pointwise [gatesOf]
  rw [z]
  rfl
theorem firstTwo_apply (P : FVec Ideal S65536x1536 .f32) (r : Fin 65536) (b : Fin 512) : firstTwo P (ix2 r b) = P (ix2 r ⟨b.val, by omega⟩) := by
  pointwise [firstTwo]
  exact congrArg (fun i => P (ix2 r i)) (Fin.ext (by show b.val / 256 * 256 + b.val / 64 % 4 * 64 + b.val % 64 = b.val; omega))
theorem plain0_apply (P : FVec Ideal S65536x1536 .f32) (r : Fin 65536) (b : Fin 128) : plain0 P (ix2 r b) = P (ix2 r ⟨0 + b.val, by omega⟩) := by
  refine Eq.trans ?_ (firstTwo_apply P r ⟨0 + b.val, by omega⟩)
  pointwise [plain0]
theorem plain128_apply (P : FVec Ideal S65536x1536 .f32) (r : Fin 65536) (b : Fin 128) : plain128 P (ix2 r b) = P (ix2 r ⟨128 + b.val, by omega⟩) := by
  refine Eq.trans ?_ (firstTwo_apply P r ⟨128 + b.val, by omega⟩)
  pointwise [plain128]
theorem plain256_apply (P : FVec Ideal S65536x1536 .f32) (r : Fin 65536) (b : Fin 128) : plain256 P (ix2 r b) = P (ix2 r ⟨256 + b.val, by omega⟩) := by
  refine Eq.trans ?_ (firstTwo_apply P r ⟨256 + b.val, by omega⟩)
  pointwise [plain256]
theorem plain384_apply (P : FVec Ideal S65536x1536 .f32) (r : Fin 65536) (b : Fin 128) : plain384 P (ix2 r b) = P (ix2 r ⟨384 + b.val, by omega⟩) := by
  refine Eq.trans ?_ (firstTwo_apply P r ⟨384 + b.val, by omega⟩)
  pointwise [plain384]
theorem part2_apply (P : FVec Ideal S65536x1536 .f32) (s : Fin 32) (p : Fin 2048) (j : Fin 4) (d : Fin 64) :
    part2 P (ix4 s p j d) = P (ix2 (tokenAt s p) ⟨512 + (j.val * 64 + d.val), by omega⟩) := by
  pointwise [part2]
  exact congrArg₂ (fun a b => P (ix2 a b)) (Fin.ext (by show s.val * 2048 + p.val = 2048 * s.val + p.val; omega))
    (Fin.ext (by show 512 + j.val * 64 + d.val = 512 + (j.val * 64 + d.val); omega))
theorem part3_apply (P : FVec Ideal S65536x1536 .f32) (s : Fin 32) (p : Fin 2048) (j : Fin 4) (d : Fin 64) :
    part3 P (ix4 s p j d) = P (ix2 (tokenAt s p) ⟨768 + (j.val * 64 + d.val), by omega⟩) := by
  pointwise [part3]
  exact congrArg₂ (fun a b => P (ix2 a b)) (Fin.ext (by show s.val * 2048 + p.val = 2048 * s.val + p.val; omega))
    (Fin.ext (by show 768 + j.val * 64 + d.val = 768 + (j.val * 64 + d.val); omega))
theorem part4_apply (P : FVec Ideal S65536x1536 .f32) (s : Fin 32) (p : Fin 2048) (j : Fin 4) (d : Fin 64) :
    part4 P (ix4 s p j d) = P (ix2 (tokenAt s p) ⟨1024 + (j.val * 64 + d.val), by omega⟩) := by
  pointwise [part4]
  exact congrArg₂ (fun a b => P (ix2 a b)) (Fin.ext (by show s.val * 2048 + p.val = 2048 * s.val + p.val; omega))
    (Fin.ext (by show 1024 + j.val * 64 + d.val = 1024 + (j.val * 64 + d.val); omega))
theorem part5_apply (P : FVec Ideal S65536x1536 .f32) (s : Fin 32) (p : Fin 2048) (j : Fin 4) (d : Fin 64) :
    part5 P (ix4 s p j d) = P (ix2 (tokenAt s p) ⟨1280 + (j.val * 64 + d.val), by omega⟩) := by
  pointwise [part5]
  exact congrArg₂ (fun a b => P (ix2 a b)) (Fin.ext (by show s.val * 2048 + p.val = 2048 * s.val + p.val; omega))
    (Fin.ext (by show 1280 + j.val * 64 + d.val = 1280 + (j.val * 64 + d.val); omega))
theorem byHead_apply (Z : FVec Ideal S32x2048x4x64 .f32) (s : Fin 32) (j : Fin 4) (p : Fin 2048) (d : Fin 64) :
    (byHead Z (ix4 s j p d) : EReal) = Z (ix4 s p j d) := by
  pointwise [byHead]
theorem headsOf_apply (P : FVec Ideal S65536x1072 .f32) (s : Fin 32) (p : Fin 2048) (j : Fin 16) (d : Fin 64) :
    headsOf P (ix4 s p j d) = P (ix2 (tokenAt s p) ⟨j.val * 64 + d.val, by omega⟩) := by
  pointwise [headsOf]
  exact congrArg (fun a => P (ix2 a _)) (Fin.ext (by show s.val * 2048 + p.val = 2048 * s.val + p.val; omega))
theorem eighth_apply (Z : FVec Ideal S32x2048x16x64 .f32) (r : Fin 65536) (b : Fin 1024) :
    (eighth Z (ix2 r b) : EReal) = Z (ix4 ⟨r.val / 2048, by omega⟩ (position r) ⟨b.val / 64, by omega⟩ ⟨b.val % 64, by omega⟩) * Scalar.ofBits (F := Ideal) .f32 0x3E000000#32 := by
  pointwise [eighth]
  rfl

/-- The ten results of the reference are the call's: the queries, -/
theorem queries_eq (X : FVec Ideal S65536x1024 .f32) (g : FVec Ideal S1024 .f32) (W : FVec Ideal S1024x1072 .f32) :
    eighth (turn16 (headsOf (projQ X g W)) cosines sines) = queries X g W := by
  funext j
  refine (congrArg (eighth _) (pair j).symm).trans ((eighth_apply _ (j 0) (j 1)).trans (congrArg (· * _) ?_))
  have hj : (j 1).val < 1024 := (j 1).isLt
  refine (turn16_apply _ cosines sines _ (position (j 0)) ⟨(j 1).val / 64, by omega⟩ (rowAt X g W (j 0)) ((j 1).val / 64 * 64) (by omega) (fun d => ?_) _).trans ?_
  · refine (headsOf_apply _ _ _ _ d).trans ((projQ_apply X g W _ _).trans ?_)
    exact congrArg (fun r => rowAt X g W r ((j 1).val / 64 * 64 + d.val)) (Fin.ext (Nat.div_add_mod (j 0).val 2048))
  · show rot _ _ _ ((j 1).val / 64 * 64 + (j 1).val % 64) = _
    rw [show (j 1).val / 64 * 64 + (j 1).val % 64 = (j 1).val by omega]
    rfl
/-- the gates, zero being what a column past the forty-eighth gives, -/
theorem gates_eq (X : FVec Ideal S65536x1024 .f32) (g : FVec Ideal S1024 .f32) (W : FVec Ideal S1024x1072 .f32) : gatesOf (projQ X g W) = gates X g W := by
  funext j
  refine (congrArg (gatesOf _) (pair j).symm).trans ((gatesOf_apply _ (j 0) (j 1)).trans (congrArg logistic ?_))
  by_cases h : (j 1).val < 48
  · rw [dif_pos h]
    exact projQ_apply X g W (j 0) _
  · rw [dif_neg h]
    have e : col W (1024 + (j 1).val) = fun _ => 0 := by
      funext k
      exact dif_neg (by omega)
    show (0 : EReal) = rowAt X g W (j 0) (1024 + (j 1).val)
    unfold rowAt
    rw [e]
    exact (against_zero _ _).symm
theorem plain0_eq (X : FVec Ideal S65536x1024 .f32) (g : FVec Ideal S1024 .f32) (W : FVec Ideal S1024x1536 .f32) : plain0 (projKV X g W) = plain 0 X g W := by
  funext j
  exact (congrArg (plain0 _) (pair j).symm).trans ((plain0_apply _ (j 0) (j 1)).trans (projKV_apply X g W (j 0) _))
theorem plain128_eq (X : FVec Ideal S65536x1024 .f32) (g : FVec Ideal S1024 .f32) (W : FVec Ideal S1024x1536 .f32) : plain128 (projKV X g W) = plain 128 X g W := by
  funext j
  exact (congrArg (plain128 _) (pair j).symm).trans ((plain128_apply _ (j 0) (j 1)).trans (projKV_apply X g W (j 0) _))
theorem plain256_eq (X : FVec Ideal S65536x1024 .f32) (g : FVec Ideal S1024 .f32) (W : FVec Ideal S1024x1536 .f32) : plain256 (projKV X g W) = plain 256 X g W := by
  funext j
  exact (congrArg (plain256 _) (pair j).symm).trans ((plain256_apply _ (j 0) (j 1)).trans (projKV_apply X g W (j 0) _))
theorem plain384_eq (X : FVec Ideal S65536x1024 .f32) (g : FVec Ideal S1024 .f32) (W : FVec Ideal S1024x1536 .f32) : plain384 (projKV X g W) = plain 384 X g W := by
  funext j
  exact (congrArg (plain384 _) (pair j).symm).trans ((plain384_apply _ (j 0) (j 1)).trans (projKV_apply X g W (j 0) _))
theorem keys2_eq (X : FVec Ideal S65536x1024 .f32) (g : FVec Ideal S1024 .f32) (W : FVec Ideal S1024x1536 .f32) :
    byHead (turn4 (part2 (projKV X g W)) cosines sines) = headKeys 512 X g W := by
  funext j
  refine (congrArg (byHead _) (four j).symm).trans ((byHead_apply _ (j 0) (j 1) (j 2) (j 3)).trans ?_)
  have hj : (j 1).val < 4 := (j 1).isLt
  refine (turn4_apply _ cosines sines (j 0) (j 2) (j 1) (rowAt X g W (tokenAt (j 0) (j 2))) (512 + (j 1).val * 64) (by omega) (fun d => ?_) (j 3)).trans ?_
  · refine (part2_apply _ (j 0) (j 2) (j 1) d).trans ((projKV_apply X g W _ _).trans ?_)
    show rowAt X g W _ (512 + ((j 1).val * 64 + d.val)) = _
    rw [Nat.add_assoc]
  · rw [Nat.add_assoc]
    rfl
theorem keys4_eq (X : FVec Ideal S65536x1024 .f32) (g : FVec Ideal S1024 .f32) (W : FVec Ideal S1024x1536 .f32) :
    byHead (turn4 (part4 (projKV X g W)) cosines sines) = headKeys 1024 X g W := by
  funext j
  refine (congrArg (byHead _) (four j).symm).trans ((byHead_apply _ (j 0) (j 1) (j 2) (j 3)).trans ?_)
  have hj : (j 1).val < 4 := (j 1).isLt
  refine (turn4_apply _ cosines sines (j 0) (j 2) (j 1) (rowAt X g W (tokenAt (j 0) (j 2))) (1024 + (j 1).val * 64) (by omega) (fun d => ?_) (j 3)).trans ?_
  · refine (part4_apply _ (j 0) (j 2) (j 1) d).trans ((projKV_apply X g W _ _).trans ?_)
    show rowAt X g W _ (1024 + ((j 1).val * 64 + d.val)) = _
    rw [Nat.add_assoc]
  · rw [Nat.add_assoc]
    rfl
theorem values3_eq (X : FVec Ideal S65536x1024 .f32) (g : FVec Ideal S1024 .f32) (W : FVec Ideal S1024x1536 .f32) :
    byHead (part3 (projKV X g W)) = headValues 768 X g W := by
  funext j
  exact (congrArg (byHead _) (four j).symm).trans ((byHead_apply _ (j 0) (j 1) (j 2) (j 3)).trans
    ((part3_apply _ (j 0) (j 2) (j 1) (j 3)).trans (projKV_apply X g W _ _)))
theorem values5_eq (X : FVec Ideal S65536x1024 .f32) (g : FVec Ideal S1024 .f32) (W : FVec Ideal S1024x1536 .f32) :
    byHead (part5 (projKV X g W)) = headValues 1280 X g W := by
  funext j
  exact (congrArg (byHead _) (four j).symm).trans ((byHead_apply _ (j 0) (j 1) (j 2) (j 3)).trans
    ((part5_apply _ (j 0) (j 2) (j 1) (j 3)).trans (projKV_apply X g W _ _)))

variable (m : (ℓ : Loc nD τ sig) → Buf (Elt Ideal) ℓ) (ρ : Dev nD → PrngReg)

abbrev rX (c : Dev nD) : FVec Ideal S65536x1024 .f32 := m ((c.tc : Thread nD τ).loc main_arg0)
abbrev rG (c : Dev nD) : FVec Ideal S1024 .f32 := shapeCast S1024 (m ((c.tc : Thread nD τ).loc main_arg1)) shapeCasts_S1x1024_S1024
abbrev rK (c : Dev nD) : FVec Ideal S1024 .f32 := m ((c.tc : Thread nD τ).loc main_arg2)
abbrev rW (c : Dev nD) : FVec Ideal S1024x1072 .f32 := shapeCast S1024x1072 (m ((c.tc : Thread nD τ).loc main_arg3)) shapeCasts_S1x1024x1072_S1024x1072
abbrev rU (c : Dev nD) : FVec Ideal S1024x1536 .f32 := m ((c.tc : Thread nD τ).loc main_arg4)

theorem queries_def (c : Dev nD) : Cert.AttendReferenceIdeal.Value.res_main_v67 m c = eighth (turn16 (headsOf (projQ (rX m c) (rG m c) (rW m c))) cosines sines) := by
  rfl
theorem keys2_def (c : Dev nD) : Cert.AttendReferenceIdeal.Value.res_main_v89 m c = byHead (turn4 (part2 (projKV (rX m c) (rK m c) (rU m c))) cosines sines) := by
  rfl
theorem keys4_def (c : Dev nD) : Cert.AttendReferenceIdeal.Value.res_main_v111 m c = byHead (turn4 (part4 (projKV (rX m c) (rK m c) (rU m c))) cosines sines) := by
  rfl

/-- The reference's run: its ten results are those functions of its arguments, which end unchanged. -/
theorem run : θ_run (Cert.AttendReferenceIdeal.defs (F := Ideal)) (onTc (τ := τ) (main (F := Ideal))) ⟨m, fun _ => 0, ρ⟩ fun r => ∀ c : Dev nD,
      r.2.mem ((c.tc : Thread nD τ).loc main_v67) = queries (rX m c) (rG m c) (rW m c)
      ∧ r.2.mem ((c.tc : Thread nD τ).loc main_v64) = gates (rX m c) (rG m c) (rW m c)
      ∧ r.2.mem ((c.tc : Thread nD τ).loc main_v68) = plain 0 (rX m c) (rK m c) (rU m c)
      ∧ r.2.mem ((c.tc : Thread nD τ).loc main_v69) = plain 128 (rX m c) (rK m c) (rU m c)
      ∧ r.2.mem ((c.tc : Thread nD τ).loc main_v70) = plain 256 (rX m c) (rK m c) (rU m c)
      ∧ r.2.mem ((c.tc : Thread nD τ).loc main_v71) = plain 384 (rX m c) (rK m c) (rU m c)
      ∧ r.2.mem ((c.tc : Thread nD τ).loc main_v89) = headKeys 512 (rX m c) (rK m c) (rU m c)
      ∧ r.2.mem ((c.tc : Thread nD τ).loc main_v93) = headValues 768 (rX m c) (rK m c) (rU m c)
      ∧ r.2.mem ((c.tc : Thread nD τ).loc main_v111) = headKeys 1024 (rX m c) (rK m c) (rU m c)
      ∧ r.2.mem ((c.tc : Thread nD τ).loc main_v115) = headValues 1280 (rX m c) (rK m c) (rU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (Cert.AttendReferenceIdeal.defs (F := Ideal)) _ _).mono (fun r h c => ⟨(((h c).1).trans (queries_def m c)).trans (queries_eq (rX m c) (rG m c) (rW m c)),
      ((h c).2.1).trans (gates_eq (rX m c) (rG m c) (rW m c)),
      ((h c).2.2.1).trans (plain0_eq (rX m c) (rK m c) (rU m c)),
      ((h c).2.2.2.1).trans (plain128_eq (rX m c) (rK m c) (rU m c)),
      ((h c).2.2.2.2.1).trans (plain256_eq (rX m c) (rK m c) (rU m c)),
      ((h c).2.2.2.2.2.1).trans (plain384_eq (rX m c) (rK m c) (rU m c)),
      (((h c).2.2.2.2.2.2.1).trans (keys2_def m c)).trans (keys2_eq (rX m c) (rK m c) (rU m c)),
      ((h c).2.2.2.2.2.2.2.1).trans (values3_eq (rX m c) (rK m c) (rU m c)),
      (((h c).2.2.2.2.2.2.2.2.1).trans (keys4_def m c)).trans (keys4_eq (rX m c) (rK m c) (rU m c)),
      ((h c).2.2.2.2.2.2.2.2.2.1).trans (values5_eq (rX m c) (rK m c) (rU m c)),
      (h c).2.2.2.2.2.2.2.2.2.2⟩)
    (Cert.AttendReferenceIdeal.Value.run m ρ)

end Cert.Attention.Ref

end
-- ==== Proof.lean ====
/- The claims, assembled. The dispatch: the kernel's run (Proof/Run.lean) and the reference's (Proof/HostRun.lean) end with the same
   destination, because the precondition (Proof/Positions.lean) sends the tokens to different rows (Proof/Scatter.lean).
   The experts: the kernel's run (Proof/ExpertRun.lean, Proof/ExpertValue.lean) leaves the mixture of the arguments, and
   over the extended reals the reference's run (Proof/ExpertRef.lean) leaves the same.
   The combine: the kernel's run (Proof/CombineRun.lean, Proof/CombineValue.lean) leaves the gathered rows added to the
   residual stream and normalised, and the reference's run (Proof/CombineRef.lean) leaves the same.
   The projection: the kernel's run (Proof/ProjectHost.lean, Proof/ProjectTile.lean, Proof/ProjectValue.lean) leaves the five
   arrays of the projected, normalised tokens, and the reference's run (Proof/ProjectRef.lean) leaves the same.
   The attention's projection: the kernel's run (Proof/AttendRows.lean, Proof/AttendTile.lean, Proof/AttendHost.lean,
   Proof/AttendResults.lean, Proof/AttendValue.lean) leaves the rotated queries, the gates and the keys and values, and the
   reference's run (Proof/AttendRef.lean) leaves the same. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Positions
public import proofs.«01_k».proof.Proof.HostRun
public import proofs.«01_k».proof.Proof.Gen.Experts
public import proofs.«01_k».proof.Proof.ExpertSame
public import proofs.«01_k».proof.Proof.ExpertPre
public import proofs.«01_k».proof.Proof.ExpertRef
public import proofs.«01_k».proof.Proof.Gen.Combine
public import proofs.«01_k».proof.Proof.Gen.Project
public import proofs.«01_k».proof.Proof.Gen.ProjectIdeal
public import proofs.«01_k».proof.Proof.Gen.ProjectIdeal.Frame
public import proofs.«01_k».proof.Proof.Gen.Project.Frame
public import proofs.«01_k».proof.Proof.Gen.ProjectReferenceIdeal
public import proofs.«01_k».proof.Proof.CombineSame
public import proofs.«01_k».proof.Proof.CombinePre
public import proofs.«01_k».proof.Proof.CombineRef
public import proofs.«01_k».proof.Proof.ProjectRef
public import proofs.«01_k».proof.Proof.Gen.Attend
public import proofs.«01_k».proof.Proof.Gen.AttendIdeal
public import proofs.«01_k».proof.Proof.Gen.AttendIdeal.Frame
public import proofs.«01_k».proof.Proof.Gen.Attend.Frame
public import proofs.«01_k».proof.Proof.Gen.AttendReferenceIdeal
public import proofs.«01_k».proof.Proof.AttendValue
public import proofs.«01_k».proof.Proof.AttendRef

@[expose] public section

set_option maxRecDepth 16384

noncomputable section

namespace Cert.Proof

open Idealize.ShloMosaic Idealize.SL.Sem Cert.Dispatch

/-- The shape facts of the reference read at its own floats. -/
instance referenceFacts₀ : Cert.Reference.Facts₀ where
  bcast_S_S79872x1152 := by decide
  bcast_S_S65536 := by decide
  bcast_S65536_S65536x1_0 := by decide
  scatter_S79872x1152_S65536x1_S65536x1152_1_0_0_1_wf := by decide
instance referenceFacts : Cert.Reference.Facts where

/-- The precondition on a memory makes every core's table one of distinct rows. -/
theorem placed_on {F : FTy → Type} [FloatOps F]
    (m : (ℓ : Loc Cert.KernelIdeal.nD Cert.KernelIdeal.τ Cert.KernelIdeal.sig) → Buf (Elt F) ℓ)
    (h : ∀ c : Dev Cert.KernelIdeal.nD, Cert.Pre_placed.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) (c : Dev Cert.KernelIdeal.nD) :
    Placed (tab m c) := placed_of (F := F) _ _ (h c)

theorem frame_kernel : Cert.quiescent_Kernel := fun m ρ h =>
  (θ_run (Cert.KernelIdeal.defs (F := Bits)) _ _).mono (fun _ hr => ⟨fun c => (hr.1 c).2, hr.2⟩) (run (F := Bits) m (placed_on m h) ρ)

theorem frame_kernelIdeal : Cert.quiescent_KernelIdeal := fun m ρ h =>
  (θ_run (Cert.KernelIdeal.defs (F := Ideal)) _ _).mono (fun _ hr => ⟨fun c => (hr.1 c).2, hr.2⟩) (run (F := Ideal) m (placed_on m h) ρ)

theorem frame_referenceIdeal : Cert.quiescent_ReferenceIdeal := fun m ρ _ =>
  (θ_run (Cert.ReferenceIdeal.defs (F := Ideal)) _ _).mono (fun _ hr => ⟨fun c => (hr.1 c).2, hr.2⟩) (Ref.run (F := Ideal) m ρ)

theorem frame_referenceIdeal_placed : Cert.quiescent_ReferenceIdeal_pre_placed := fun m ρ _ =>
  (θ_run (Cert.ReferenceIdeal.defs (F := Ideal)) _ _).mono (fun _ hr => ⟨fun c => (hr.1 c).2, hr.2⟩) (Ref.run (F := Ideal) m ρ)

theorem frame_reference : Cert.quiescent_Reference := fun m ρ _ =>
  (θ_run (Cert.ReferenceIdeal.defs (F := Bits)) _ _).mono (fun _ hr => ⟨fun c => (hr.1 c).2, hr.2⟩) (Ref.run (F := Bits) m ρ)

/-- The reference's array, from the kernel's arguments. -/
theorem same_array {F : FTy → Type} [FloatOps F] {T T' : Dispatch.Table} {X X' : Tokens F} (hT : Placed T) (e0 : T' = T) (e1 : X' = X) :
    scattered T' X' Ref.refZeros = scat T X zeros 65536 := by
  subst e0 e1
  exact scattered_eq hT X' zeros

theorem algebraic : Cert.algebraic_KernelIdeal_ReferenceIdeal := by
  intro m g m' g' h hag
  refine ⟨fun c => scat (tab m c) (xs m c) zeros 65536, ?_, ?_⟩
  · exact (θ_run (Cert.KernelIdeal.defs (F := Ideal)) _ _).mono (fun _ hr => hr.1) (run (F := Ideal) m (placed_on m h) g)
  · exact (θ_run (Cert.ReferenceIdeal.defs (F := Ideal)) _ _).mono
      (fun _ hr c => ⟨(hr.1 c).1.trans (same_array (placed_on m h c) (hag c).1 (hag c).2), (hr.1 c).2⟩) (Ref.run (F := Ideal) m' g')

theorem bitexact : Cert.bitexact_Kernel_Reference := by
  intro m g m' g' h hag
  refine ⟨fun c => scat (tab m c) (xs m c) (zeros (F := Bits)) 65536, ?_, ?_⟩
  · exact (θ_run (Cert.KernelIdeal.defs (F := Bits)) _ _).mono (fun _ hr => hr.1) (run (F := Bits) m (placed_on m h) g)
  · exact (θ_run (Cert.ReferenceIdeal.defs (F := Bits)) _ _).mono
      (fun _ hr c => ⟨(hr.1 c).1.trans (same_array (placed_on m h c) (hag c).1 (hag c).2), (hr.1 c).2⟩) (Ref.run (F := Bits) m' g')

/-- The precondition on a memory, in plain words, on every core. -/
theorem tiled_on {F : FTy → Type} [FloatOps F]
    (m : (ℓ : Loc Cert.ExpertsIdeal.nD Cert.ExpertsIdeal.τ Cert.ExpertsIdeal.sig) → Buf (Elt F) ℓ)
    (h : ∀ c : Dev Cert.ExpertsIdeal.nD, Cert.Pre_tiled.fn (F := F) (m ((c.tc : Thread Cert.ExpertsIdeal.nD Cert.ExpertsIdeal.τ).loc Cert.ExpertsIdeal.main_arg0))
      (m ((c.tc : Thread Cert.ExpertsIdeal.nD Cert.ExpertsIdeal.τ).loc Cert.ExpertsIdeal.main_arg1))
      (m ((c.tc : Thread Cert.ExpertsIdeal.nD Cert.ExpertsIdeal.τ).loc Cert.ExpertsIdeal.main_arg2))
      (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4))
      (m ((c.tc : Thread Cert.ExpertsIdeal.nD Cert.ExpertsIdeal.τ).loc Cert.ExpertsIdeal.main_arg5))
      (m ((c.tc : Thread Cert.ExpertsIdeal.nD Cert.ExpertsIdeal.τ).loc Cert.ExpertsIdeal.main_arg6)) = fun _ => 1#1) :
    Mixture.AllTiled m := fun c => Mixture.tiled_of (F := F) _ _ _ _ _ _ _ (h c)

theorem frame_experts : Cert.quiescent_Experts := fun m ρ h =>
  Mixture.Same.carry m ρ (Cert.Experts.defs (F := Bits)) (Cert.Experts.main (F := Bits)) Mixture.Same.defs_same Mixture.Same.main_same _
    ((θ_run (Cert.ExpertsIdeal.defs (F := Bits)) _ _).mono (fun _ hr => ⟨fun c => (hr.1 c).2, hr.2⟩) (Mixture.run (F := Bits) m ρ (tiled_on m h)))

theorem frame_expertsIdeal : Cert.quiescent_ExpertsIdeal := fun m ρ h =>
  (θ_run (Cert.ExpertsIdeal.defs (F := Ideal)) _ _).mono (fun _ hr => ⟨fun c => (hr.1 c).2, hr.2⟩) (Mixture.run (F := Ideal) m ρ (tiled_on m h))

theorem frame_expertsReferenceIdeal : Cert.quiescent_ExpertsReferenceIdeal := fun m ρ _ =>
  (θ_run (Cert.ExpertsReferenceIdeal.defs (F := Ideal)) _ _).mono (fun r hr => ⟨fun c => (hr c).2, sem_eq_zero_of_no_sems (by decide) r.2⟩)
    (Mixture.Ref.run m ρ)

theorem frame_expertsReferenceIdeal_tiled : Cert.quiescent_ExpertsReferenceIdeal_pre_tiled := fun m ρ _ =>
  (θ_run (Cert.ExpertsReferenceIdeal.defs (F := Ideal)) _ _).mono (fun r hr => ⟨fun c => (hr c).2, sem_eq_zero_of_no_sems (by decide) r.2⟩)
    (Mixture.Ref.run m ρ)

/-- The expert reference's array, from the kernel's arguments. -/
theorem same_mixture {lo hi lo' hi' : Mixture.Tiles} {n n' : Cert.ExpertsIdeal.S1.Idx → BitVec 32} {X X' : Vec Ideal Cert.ExpertsIdeal.S79872x1152 .f32}
    {G U G' U' : Vec Ideal Cert.ExpertsIdeal.S32x1024x256 .f32} {D D' : Vec Ideal Cert.ExpertsIdeal.S32x256x1024 .f32} (hT : Mixture.Tiled lo hi n)
    (e0 : lo' = lo) (e1 : hi' = hi) (e2 : n' = n) (e3 : X' = X) (e4 : G' = G) (e5 : U' = U) (e6 : D' = D) :
    Mixture.Ref.outcome lo' hi' n' X' G' U' D' = Mixture.mixture (F := Ideal) lo hi n X G U D := by
  subst e0 e1 e2 e3 e4 e5 e6
  exact Mixture.Ref.outcome_eq hT X' G' U' D'

theorem algebraic_experts : Cert.algebraic_ExpertsIdeal_ExpertsReferenceIdeal := by
  intro m g m' g' h hag
  refine ⟨fun c => Mixture.result m c, ?_, ?_⟩
  · exact (θ_run (Cert.ExpertsIdeal.defs (F := Ideal)) _ _).mono (fun _ hr => hr.1) (Mixture.run (F := Ideal) m g (tiled_on m h))
  · exact (θ_run (Cert.ExpertsReferenceIdeal.defs (F := Ideal)) _ _).mono
      (fun _ hr c => ⟨(hr c).1.trans (same_mixture (tiled_on m h c) (hag c).1 (hag c).2.1 (hag c).2.2.1 (hag c).2.2.2.1 (hag c).2.2.2.2.1
        (hag c).2.2.2.2.2.1 (hag c).2.2.2.2.2.2), (hr c).2⟩) (Mixture.Ref.run m' g')

/-- The precondition on a memory makes every core's table one that names rows of the outputs. -/
theorem in_range_on {F : FTy → Type} [FloatOps F]
    (m : (ℓ : Loc Cert.CombineIdeal.nD Cert.CombineIdeal.τ Cert.CombineIdeal.sig) → Buf (Elt F) ℓ)
    (h : ∀ c : Dev Cert.CombineIdeal.nD, Cert.Pre_in_range.fn (F := F) (m ((c.tc : Thread Cert.CombineIdeal.nD Cert.CombineIdeal.τ).loc Cert.CombineIdeal.main_arg0))
      (m ((c.tc : Thread Cert.CombineIdeal.nD Cert.CombineIdeal.τ).loc Cert.CombineIdeal.main_arg1))
      (m ((c.tc : Thread Cert.CombineIdeal.nD Cert.CombineIdeal.τ).loc Cert.CombineIdeal.main_arg2))
      (m ((c.tc : Thread Cert.CombineIdeal.nD Cert.CombineIdeal.τ).loc Cert.CombineIdeal.main_arg3)) = fun _ => 1#1) :
    Merge.AllInRange m := fun c => Merge.range_of (F := F) _ _ _ _ (h c)

theorem frame_combine : Cert.quiescent_Combine := fun m ρ h =>
  Merge.Same.carry m ρ (Cert.Combine.defs (F := Bits)) (Cert.Combine.main (F := Bits)) Merge.Same.defs_same Merge.Same.main_same _
    ((θ_run (Cert.CombineIdeal.defs (F := Bits)) _ _).mono (fun _ hr => ⟨fun c => (hr.1 c).2, hr.2⟩) (Merge.run (F := Bits) m ρ (in_range_on m h)))

theorem frame_combineIdeal : Cert.quiescent_CombineIdeal := fun m ρ h =>
  (θ_run (Cert.CombineIdeal.defs (F := Ideal)) _ _).mono (fun _ hr => ⟨fun c => (hr.1 c).2, hr.2⟩) (Merge.run (F := Ideal) m ρ (in_range_on m h))

theorem frame_combineReferenceIdeal : Cert.quiescent_CombineReferenceIdeal := fun m ρ _ =>
  (θ_run (Cert.CombineReferenceIdeal.defs (F := Ideal)) _ _).mono (fun r hr => ⟨fun c => (hr c).2, sem_eq_zero_of_no_sems (by decide) r.2⟩)
    (Merge.Ref.run m ρ)

theorem frame_combineReferenceIdeal_in_range : Cert.quiescent_CombineReferenceIdeal_pre_in_range := fun m ρ _ =>
  (θ_run (Cert.CombineReferenceIdeal.defs (F := Ideal)) _ _).mono (fun r hr => ⟨fun c => (hr c).2, sem_eq_zero_of_no_sems (by decide) r.2⟩)
    (Merge.Ref.run m ρ)

/-- The combine reference's array, from the kernel's arguments. -/
theorem same_merged {T T' : Merge.Table} {X X' : Vec Ideal Cert.CombineIdeal.S65536x1024 .f32} {Y Y' : Merge.Outputs Ideal}
    {g g' : Vec Ideal Cert.CombineIdeal.S1024 .f32} (hT : Merge.InRange T) (e0 : T' = T) (e1 : X' = X) (e2 : Y' = Y) (e3 : g' = g) :
    Merge.Ref.outcome T' X' Y' g' = Merge.merged (F := Ideal) hT X Y g := by
  subst e0 e1 e2 e3
  exact (Merge.Ref.outcome_eq T' hT X' Y' g').symm

theorem algebraic_combine : Cert.algebraic_CombineIdeal_CombineReferenceIdeal := by
  intro m g m' g' h hag
  refine ⟨fun c => Merge.result m (in_range_on m h) c, ?_, ?_⟩
  · exact (θ_run (Cert.CombineIdeal.defs (F := Ideal)) _ _).mono (fun _ hr => hr.1) (Merge.run (F := Ideal) m g (in_range_on m h))
  · exact (θ_run (Cert.CombineReferenceIdeal.defs (F := Ideal)) _ _).mono
      (fun _ hr c => ⟨(hr c).1.trans (same_merged (in_range_on m h c) (hag c).1 (hag c).2.1 (hag c).2.2.1 (hag c).2.2.2), (hr c).2⟩) (Merge.Ref.run m' g')

theorem frame_project : Cert.quiescent_Project := fun m ρ _ => Cert.Project.Gen.frame (F := Bits) m ρ

theorem frame_projectIdeal : Cert.quiescent_ProjectIdeal := fun m ρ _ => Cert.ProjectIdeal.Gen.frame (F := Ideal) m ρ

theorem frame_projectReferenceIdeal : Cert.quiescent_ProjectReferenceIdeal := fun m ρ _ =>
  (θ_run (Cert.ProjectReferenceIdeal.defs (F := Ideal)) _ _).mono (fun r hr => ⟨fun c => (hr c).2.2.2.2.2, sem_eq_zero_of_no_sems (by decide) r.2⟩)
    (Projection.Ref.run m ρ)

theorem algebraic_project : Cert.algebraic_ProjectIdeal_ProjectReferenceIdeal := by
  intro m g m' g' _ hag
  refine ⟨fun c => Projection.result_5 m c, fun c => Projection.result_6 m c, fun c => Projection.result_7 m c, fun c => Projection.result_8 m c,
    fun c => Projection.result_9 m c, ?_, ?_⟩
  · exact Projection.run m g
  · refine (θ_run (Cert.ProjectReferenceIdeal.defs (F := Ideal)) _ _).mono (fun _ hr c => ?_) (Projection.Ref.run m' g')
    have e0 : Projection.Ref.rX m' c = Projection.X m c := congrArg (Projection.tokens (F := Ideal)) (hag c).1
    have e1 : Projection.Ref.rG m' c = Projection.G m c := congrArg (Projection.gains (F := Ideal)) (hag c).2.1
    have e2 : Projection.Ref.rW m' c = Projection.W m c := congrArg (Projection.weights (F := Ideal)) (hag c).2.2.1
    have e3 : Projection.Ref.rB m' c = Projection.B m c := congrArg (Projection.biases (F := Ideal)) (hag c).2.2.2
    have h := hr c
    rw [e0, e1, e2, e3] at h
    exact h

theorem frame_attend : Cert.quiescent_Attend := fun m ρ _ => Cert.Attend.Gen.frame (F := Bits) m ρ

theorem frame_attendIdeal : Cert.quiescent_AttendIdeal := fun m ρ _ => Cert.AttendIdeal.Gen.frame (F := Ideal) m ρ

theorem frame_attendReferenceIdeal : Cert.quiescent_AttendReferenceIdeal := fun m ρ _ =>
  (θ_run (Cert.AttendReferenceIdeal.defs (F := Ideal)) _ _).mono
    (fun r hr => ⟨fun c => (hr c).2.2.2.2.2.2.2.2.2.2, sem_eq_zero_of_no_sems (by decide) r.2⟩) (Attention.Ref.run m ρ)

theorem algebraic_attend : Cert.algebraic_AttendIdeal_AttendReferenceIdeal := by
  intro m g m' g' _ hag
  refine ⟨fun c => Attention.result_8 m c, fun c => Attention.result_9 m c, fun c => Attention.result_10 m c,
    fun c => Attention.result_11 m c, fun c => Attention.result_12 m c, fun c => Attention.result_13 m c,
    fun c => Attention.result_14 m c, fun c => Attention.result_15 m c, fun c => Attention.result_16 m c, fun c => Attention.result_17 m c, ?_, ?_⟩
  · exact Attention.run m g
  · refine (θ_run (Cert.AttendReferenceIdeal.defs (F := Ideal)) _ _).mono (fun _ hr c => ?_) (Attention.Ref.run m' g')
    have e0 : Attention.Ref.rX m' c = Attention.X m c := (hag c).1
    have e1 : Attention.Ref.rG m' c = Attention.G m c := congrArg (Attention.gains (F := Ideal)) (hag c).2.1
    have e2 : Attention.Ref.rK m' c = Attention.K m c := (hag c).2.2.1
    have e3 : Attention.Ref.rW m' c = Attention.W m c := congrArg (Attention.weights (F := Ideal)) (hag c).2.2.2.1
    have e4 : Attention.Ref.rU m' c = Attention.U m c := (hag c).2.2.2.2
    have h := hr c
    rw [e0, e1, e2, e3, e4] at h
    exact h

theorem claim : Cert.Claim :=
  ⟨Cert.Kernel.Gen.facts, Cert.KernelIdeal.Gen.facts, Cert.ReferenceIdeal.Gen.facts, referenceFacts, Cert.Experts.Gen.facts,
    Cert.ExpertsIdeal.Gen.facts, Cert.ExpertsReferenceIdeal.Gen.facts, Cert.Combine.Gen.facts, Cert.CombineIdeal.Gen.facts,
    Cert.CombineReferenceIdeal.Gen.facts, Cert.Project.Gen.facts, Cert.ProjectIdeal.Gen.facts, Cert.ProjectReferenceIdeal.Gen.facts,
    Cert.Attend.Gen.facts, Cert.AttendIdeal.Gen.facts, Cert.AttendReferenceIdeal.Gen.facts, placedFacts, Cert.Pre_tiled.Gen.facts, Cert.Pre_in_range.Gen.facts,
    frame_kernel, frame_kernelIdeal, frame_referenceIdeal, frame_referenceIdeal_placed, frame_reference,
    frame_experts, frame_expertsIdeal, frame_expertsReferenceIdeal, frame_expertsReferenceIdeal_tiled,
    frame_combine, frame_combineIdeal, frame_combineReferenceIdeal, frame_combineReferenceIdeal_in_range,
    frame_project, frame_projectIdeal, frame_projectReferenceIdeal, frame_attend, frame_attendIdeal, frame_attendReferenceIdeal,
    trivial, algebraic, bitexact, trivial, algebraic_experts, trivial, algebraic_combine, trivial, algebraic_project,
    trivial, algebraic_attend⟩

end Cert.Proof

end
